-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "scale" .f32 0x3DA1E89B#32 (((Real.sqrt 160)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![2048, 128]⟩ ⟨2, ![2048, 512]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![128, 2048]⟩ ⟨2, ![512, 2048]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![128, 2048]⟩ ⟨2, ![512, 2048]⟩ 0 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)
      ∧ m ((c.tc : Thread Cert.KernelIdeal.nD Cert.KernelIdeal.τ).loc Cert.KernelIdeal.main_arg5) = m' (((0 : Dev Cert.ReferenceIdeal.nD).tc : Thread Cert.ReferenceIdeal.nD Cert.ReferenceIdeal.τ).loc Cert.ReferenceIdeal.main_arg5)
      ∧ m ((c.tc : Thread Cert.KernelIdeal.nD Cert.KernelIdeal.τ).loc Cert.KernelIdeal.main_arg6) = m' (((0 : Dev Cert.ReferenceIdeal.nD).tc : Thread Cert.ReferenceIdeal.nD Cert.ReferenceIdeal.τ).loc Cert.ReferenceIdeal.main_arg6)
      ∧ m ((c.tc : Thread Cert.KernelIdeal.nD Cert.KernelIdeal.τ).loc Cert.KernelIdeal.main_arg7) = m' (((0 : Dev Cert.ReferenceIdeal.nD).tc : Thread Cert.ReferenceIdeal.nD Cert.ReferenceIdeal.τ).loc Cert.ReferenceIdeal.main_arg7)) →
    ∃ (v0 : Buf (Elt Ideal) (((0 : Dev Cert.ReferenceIdeal.nD).tc : Thread Cert.ReferenceIdeal.nD Cert.ReferenceIdeal.τ).loc Cert.ReferenceIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v30) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6)
          ∧ r.2.mem (((0 : Dev Cert.ReferenceIdeal.nD).tc : Thread Cert.ReferenceIdeal.nD Cert.ReferenceIdeal.τ).loc Cert.ReferenceIdeal.main_arg7) = m' (((0 : Dev Cert.ReferenceIdeal.nD).tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x1024x2048 : Shape := ⟨3, ![1, 1024, 2048]⟩
abbrev S2048x128 : Shape := ⟨2, ![2048, 128]⟩
abbrev S128x2048 : Shape := ⟨2, ![128, 2048]⟩
abbrev S2048x2048 : Shape := ⟨2, ![2048, 2048]⟩
abbrev S2048x512 : Shape := ⟨2, ![2048, 512]⟩
abbrev S2048x32 : Shape := ⟨2, ![2048, 32]⟩
abbrev S1024x2048 : Shape := ⟨2, ![1024, 2048]⟩
abbrev S1024x32 : Shape := ⟨2, ![1024, 32]⟩
abbrev S256x2048 : Shape := ⟨2, ![256, 2048]⟩
abbrev S256x512 : Shape := ⟨2, ![256, 512]⟩
abbrev S1024x512 : Shape := ⟨2, ![1024, 512]⟩
abbrev S512x2048 : Shape := ⟨2, ![512, 2048]⟩
abbrev S3x3 : Shape := ⟨2, ![3, 3]⟩
abbrev S_ : Shape := ⟨0, ![]⟩
abbrev S1x1 : Shape := ⟨2, ![1, 1]⟩
abbrev S1x256x2048 : Shape := ⟨3, ![1, 256, 2048]⟩
abbrev S256x128 : Shape := ⟨2, ![256, 128]⟩
abbrev S256x32 : Shape := ⟨2, ![256, 32]⟩
abbrev S1024x128 : Shape := ⟨2, ![1024, 128]⟩
abbrev S3x2 : Shape := ⟨2, ![3, 2]⟩
abbrev S128x128 : Shape := ⟨2, ![128, 128]⟩
abbrev S128x32 : Shape := ⟨2, ![128, 32]⟩
abbrev S128x1024 : Shape := ⟨2, ![128, 1024]⟩
abbrev S128 : Shape := ⟨1, ![128]⟩
abbrev S128x1 : Shape := ⟨2, ![128, 1]⟩
abbrev S1x128x2048 : Shape := ⟨3, ![1, 128, 2048]⟩

abbrev nBuf : Space → Nat
  | .hbm => 14
  | .vmem => 23
  | .smem => 0
  | _ => 0

abbrev bufTy : (tb : Table) → Fin (tcTables nBuf tb) → BufTy
  | .hbm, ⟨0, _⟩ => ⟨S1x1024x2048, .f32⟩
  | .hbm, ⟨1, _⟩ => ⟨S2048x128, .f32⟩
  | .hbm, ⟨2, _⟩ => ⟨S128x2048, .f32⟩
  | .hbm, ⟨3, _⟩ => ⟨S128x2048, .f32⟩
  | .hbm, ⟨4, _⟩ => ⟨S2048x2048, .f32⟩
  | .hbm, ⟨5, _⟩ => ⟨S2048x512, .f32⟩
  | .hbm, ⟨6, _⟩ => ⟨S2048x32, .f32⟩
  | .hbm, ⟨7, _⟩ => ⟨S2048x2048, .f32⟩
  | .hbm, ⟨8, _⟩ => ⟨S1024x2048, .bf16⟩
  | .hbm, ⟨9, _⟩ => ⟨S1024x2048, .bf16⟩
  | .hbm, ⟨10, _⟩ => ⟨S1024x32, .bf16⟩
  | .hbm, ⟨11, _⟩ => ⟨S256x2048, .bf16⟩
  | .hbm, ⟨12, _⟩ => ⟨S256x512, .bf16⟩
  | .hbm, ⟨13, _⟩ => ⟨S1x1024x2048, .f32⟩
  | .local _ .vmem, ⟨0, _⟩ => ⟨S1x1024x2048, .f32⟩
  | .local _ .vmem, ⟨1, _⟩ => ⟨S2048x128, .f32⟩
  | .local _ .vmem, ⟨2, _⟩ => ⟨S128x2048, .f32⟩
  | .local _ .vmem, ⟨3, _⟩ => ⟨S128x2048, .f32⟩
  | .local _ .vmem, ⟨4, _⟩ => ⟨S2048x32, .f32⟩
  | .local _ .vmem, ⟨5, _⟩ => ⟨S2048x2048, .f32⟩
  | .local _ .vmem, ⟨6, _⟩ => ⟨S2048x512, .f32⟩
  | .local _ .vmem, ⟨7, _⟩ => ⟨S1024x2048, .bf16⟩
  | .local _ .vmem, ⟨8, _⟩ => ⟨S1024x2048, .bf16⟩
  | .local _ .vmem, ⟨9, _⟩ => ⟨S1024x32, .bf16⟩
  | .local _ .vmem, ⟨10, _⟩ => ⟨S256x2048, .bf16⟩
  | .local _ .vmem, ⟨11, _⟩ => ⟨S256x512, .bf16⟩
  | .local _ .vmem, ⟨12, _⟩ => ⟨S1024x512, .bf16⟩
  | .local _ .vmem, ⟨13, _⟩ => ⟨S512x2048, .bf16⟩
  | .local _ .vmem, ⟨14, _⟩ => ⟨S512x2048, .bf16⟩
  | .local _ .vmem, ⟨15, _⟩ => ⟨S256x2048, .bf16⟩
  | .local _ .vmem, ⟨16, _⟩ => ⟨S256x512, .bf16⟩
  | .local _ .vmem, ⟨17, _⟩ => ⟨S1024x32, .bf16⟩
  | .local _ .vmem, ⟨18, _⟩ => ⟨S1024x2048, .bf16⟩
  | .local _ .vmem, ⟨19, _⟩ => ⟨S1024x2048, .bf16⟩
  | .local _ .vmem, ⟨20, _⟩ => ⟨S2048x2048, .f32⟩
  | .local _ .vmem, ⟨21, _⟩ => ⟨S1x1024x2048, .f32⟩
  | .local _ .vmem, ⟨22, _⟩ => ⟨S1024x2048, .bf16⟩
  | _, _ => ⟨S1x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 2 → Bool
  | ⟨0, _⟩ => false
  | ⟨1, _⟩ => false
  | _ => false

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  (ofTc nBuf bufTy 2 49 bufScoped semScoped dmaSemScoped tileCredit tileCredit_eq_zero tileCredit_pos).withBarriers [(0, 0), (1, 1)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v1_4 : Ref sig .tc := ⟨.hbm, 12, rfl⟩
abbrev main_v2 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc1_stg0_0 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_scratch0 : Ref sig .tc := ⟨.vmem, 22, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc1_sem0_0 : DmaSem sig := 30
abbrev cc1_sem1_0 : DmaSem sig := 31
abbrev cc1_sem2_0 : DmaSem sig := 32
abbrev cc1_sem3_0 : DmaSem sig := 33
abbrev cc1_sem4_0 : DmaSem sig := 34
abbrev cc1_sem5_0 : DmaSem sig := 35
abbrev cc1_sem6_0 : DmaSem sig := 36
abbrev barrier0 : Sem sig := 0
abbrev barrier1 : Sem sig := 1

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32 : BitVec 32 := 128#32
  let v46 : BitVec 32 := Scalar.muli v2 c128_i32
  let v47 : Index := Scalar.indexCast v46
  let c0_28 : Index := 0#32
  ![v47.toNat, 0]
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_41 : BitVec 32 := 128#32
  let v70 : BitVec 32 := Scalar.muli v2 c128_i32_41
  let c0_i32_49 : BitVec 32 := 0#32
  ![v70.toNat, 0]
def k0_dev4 (d0 : Dev nD) : Nat :=
  let c0_i32_48 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_34 : BitVec 32 := 1#32
  let v59 : BitVec 32 := Scalar.addi v2 c1_i32_34
  let c4_i32_35 : BitVec 32 := 4#32
  let c0_i32_36 : BitVec 32 := 0#32
  let v60 : BitVec 1 := Scalar.cmpi .eq c4_i32_35 c0_i32_36
  let c1_i32_37 : BitVec 32 := 1#32
  let v61 : BitVec 32 := Scalar.select v60 c1_i32_37 c4_i32_35
  let v62 : BitVec 32 := Scalar.remsi v59 v61
  let c0_i32_39 : BitVec 32 := 0#32
  let v64 : BitVec 1 := Scalar.cmpi .slt v62 c0_i32_39
  let c0_i32_40 : BitVec 32 := 0#32
  let v65 : BitVec 1 := Scalar.cmpi .slt v61 c0_i32_40
  let v66 : BitVec 1 := Scalar.xori v64 v65
  let c0_i32_38 : BitVec 32 := 0#32
  let v63 : BitVec 1 := Scalar.cmpi .ne v62 c0_i32_38
  let v67 : BitVec 1 := Scalar.andi v66 v63
  let v68 : BitVec 32 := Scalar.addi v62 v61
  let v69 : BitVec 32 := Scalar.select v67 v68 v62
  let c1_i32_47 : BitVec 32 := 1#32
  let v72 : BitVec 32 := Scalar.muli v69 c1_i32_47
  let v73 : BitVec 32 := Scalar.addi c0_i32_48 v72
  v73.toNat
def k0_dev5 (d0 : Dev nD) : Nat :=
  let c0_i32_56 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_34 : BitVec 32 := 1#32
  let v59 : BitVec 32 := Scalar.addi v2 c1_i32_34
  let c4_i32_35 : BitVec 32 := 4#32
  let c0_i32_36 : BitVec 32 := 0#32
  let v60 : BitVec 1 := Scalar.cmpi .eq c4_i32_35 c0_i32_36
  let c1_i32_37 : BitVec 32 := 1#32
  let v61 : BitVec 32 := Scalar.select v60 c1_i32_37 c4_i32_35
  let v62 : BitVec 32 := Scalar.remsi v59 v61
  let c0_i32_39 : BitVec 32 := 0#32
  let v64 : BitVec 1 := Scalar.cmpi .slt v62 c0_i32_39
  let c0_i32_40 : BitVec 32 := 0#32
  let v65 : BitVec 1 := Scalar.cmpi .slt v61 c0_i32_40
  let v66 : BitVec 1 := Scalar.xori v64 v65
  let c0_i32_38 : BitVec 32 := 0#32
  let v63 : BitVec 1 := Scalar.cmpi .ne v62 c0_i32_38
  let v67 : BitVec 1 := Scalar.andi v66 v63
  let v68 : BitVec 32 := Scalar.addi v62 v61
  let v69 : BitVec 32 := Scalar.select v67 v68 v62
  let c1_i32_55 : BitVec 32 := 1#32
  let v80 : BitVec 32 := Scalar.muli v69 c1_i32_55
  let v81 : BitVec 32 := Scalar.addi c0_i32_56 v80
  v81.toNat
def k0_dev6 (d0 : Dev nD) : Nat :=
  let c0_i32_73 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_59 : BitVec 32 := 2#32
  let v88 : BitVec 32 := Scalar.addi v2 c2_i32_59
  let c4_i32_60 : BitVec 32 := 4#32
  let c0_i32_61 : BitVec 32 := 0#32
  let v89 : BitVec 1 := Scalar.cmpi .eq c4_i32_60 c0_i32_61
  let c1_i32_62 : BitVec 32 := 1#32
  let v90 : BitVec 32 := Scalar.select v89 c1_i32_62 c4_i32_60
  let v91 : BitVec 32 := Scalar.remsi v88 v90
  let c0_i32_64 : BitVec 32 := 0#32
  let v93 : BitVec 1 := Scalar.cmpi .slt v91 c0_i32_64
  let c0_i32_65 : BitVec 32 := 0#32
  let v94 : BitVec 1 := Scalar.cmpi .slt v90 c0_i32_65
  let v95 : BitVec 1 := Scalar.xori v93 v94
  let c0_i32_63 : BitVec 32 := 0#32
  let v92 : BitVec 1 := Scalar.cmpi .ne v91 c0_i32_63
  let v96 : BitVec 1 := Scalar.andi v95 v92
  let v97 : BitVec 32 := Scalar.addi v91 v90
  let v98 : BitVec 32 := Scalar.select v96 v97 v91
  let c1_i32_72 : BitVec 32 := 1#32
  let v101 : BitVec 32 := Scalar.muli v98 c1_i32_72
  let v102 : BitVec 32 := Scalar.addi c0_i32_73 v101
  v102.toNat
def k0_dev7 (d0 : Dev nD) : Nat :=
  let c0_i32_81 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_59 : BitVec 32 := 2#32
  let v88 : BitVec 32 := Scalar.addi v2 c2_i32_59
  let c4_i32_60 : BitVec 32 := 4#32
  let c0_i32_61 : BitVec 32 := 0#32
  let v89 : BitVec 1 := Scalar.cmpi .eq c4_i32_60 c0_i32_61
  let c1_i32_62 : BitVec 32 := 1#32
  let v90 : BitVec 32 := Scalar.select v89 c1_i32_62 c4_i32_60
  let v91 : BitVec 32 := Scalar.remsi v88 v90
  let c0_i32_64 : BitVec 32 := 0#32
  let v93 : BitVec 1 := Scalar.cmpi .slt v91 c0_i32_64
  let c0_i32_65 : BitVec 32 := 0#32
  let v94 : BitVec 1 := Scalar.cmpi .slt v90 c0_i32_65
  let v95 : BitVec 1 := Scalar.xori v93 v94
  let c0_i32_63 : BitVec 32 := 0#32
  let v92 : BitVec 1 := Scalar.cmpi .ne v91 c0_i32_63
  let v96 : BitVec 1 := Scalar.andi v95 v92
  let v97 : BitVec 32 := Scalar.addi v91 v90
  let v98 : BitVec 32 := Scalar.select v96 v97 v91
  let c1_i32_80 : BitVec 32 := 1#32
  let v109 : BitVec 32 := Scalar.muli v98 c1_i32_80
  let v110 : BitVec 32 := Scalar.addi c0_i32_81 v109
  v110.toNat
def k0_dev8 (d0 : Dev nD) : Nat :=
  let c0_i32_98 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_84 : BitVec 32 := 3#32
  let v117 : BitVec 32 := Scalar.addi v2 c3_i32_84
  let c4_i32_85 : BitVec 32 := 4#32
  let c0_i32_86 : BitVec 32 := 0#32
  let v118 : BitVec 1 := Scalar.cmpi .eq c4_i32_85 c0_i32_86
  let c1_i32_87 : BitVec 32 := 1#32
  let v119 : BitVec 32 := Scalar.select v118 c1_i32_87 c4_i32_85
  let v120 : BitVec 32 := Scalar.remsi v117 v119
  let c0_i32_89 : BitVec 32 := 0#32
  let v122 : BitVec 1 := Scalar.cmpi .slt v120 c0_i32_89
  let c0_i32_90 : BitVec 32 := 0#32
  let v123 : BitVec 1 := Scalar.cmpi .slt v119 c0_i32_90
  let v124 : BitVec 1 := Scalar.xori v122 v123
  let c0_i32_88 : BitVec 32 := 0#32
  let v121 : BitVec 1 := Scalar.cmpi .ne v120 c0_i32_88
  let v125 : BitVec 1 := Scalar.andi v124 v121
  let v126 : BitVec 32 := Scalar.addi v120 v119
  let v127 : BitVec 32 := Scalar.select v125 v126 v120
  let c1_i32_97 : BitVec 32 := 1#32
  let v130 : BitVec 32 := Scalar.muli v127 c1_i32_97
  let v131 : BitVec 32 := Scalar.addi c0_i32_98 v130
  v131.toNat
def k0_dev9 (d0 : Dev nD) : Nat :=
  let c0_i32_106 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_84 : BitVec 32 := 3#32
  let v117 : BitVec 32 := Scalar.addi v2 c3_i32_84
  let c4_i32_85 : BitVec 32 := 4#32
  let c0_i32_86 : BitVec 32 := 0#32
  let v118 : BitVec 1 := Scalar.cmpi .eq c4_i32_85 c0_i32_86
  let c1_i32_87 : BitVec 32 := 1#32
  let v119 : BitVec 32 := Scalar.select v118 c1_i32_87 c4_i32_85
  let v120 : BitVec 32 := Scalar.remsi v117 v119
  let c0_i32_89 : BitVec 32 := 0#32
  let v122 : BitVec 1 := Scalar.cmpi .slt v120 c0_i32_89
  let c0_i32_90 : BitVec 32 := 0#32
  let v123 : BitVec 1 := Scalar.cmpi .slt v119 c0_i32_90
  let v124 : BitVec 1 := Scalar.xori v122 v123
  let c0_i32_88 : BitVec 32 := 0#32
  let v121 : BitVec 1 := Scalar.cmpi .ne v120 c0_i32_88
  let v125 : BitVec 1 := Scalar.andi v124 v121
  let v126 : BitVec 32 := Scalar.addi v120 v119
  let v127 : BitVec 32 := Scalar.select v125 v126 v120
  let c1_i32_105 : BitVec 32 := 1#32
  let v138 : BitVec 32 := Scalar.muli v127 c1_i32_105
  let v139 : BitVec 32 := Scalar.addi c0_i32_106 v138
  v139.toNat
def k0_off3 (d0 : Dev nD) : Fin 2 → Nat :=
  let c0_117 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_116 : BitVec 32 := 128#32
  let v157 : BitVec 32 := Scalar.muli v2 c128_i32_116
  let v158 : Index := Scalar.indexCast v157
  ![0, v158.toNat]
def k0_off4 (d0 : Dev nD) : Fin 2 → Nat :=
  let c256_125 : Index := 256#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_124 : BitVec 32 := 128#32
  let v170 : BitVec 32 := Scalar.muli v2 c128_i32_124
  let v171 : Index := Scalar.indexCast v170
  ![256, v171.toNat]
def k0_off5 (d0 : Dev nD) : Fin 2 → Nat :=
  let c512_133 : Index := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_132 : BitVec 32 := 128#32
  let v183 : BitVec 32 := Scalar.muli v2 c128_i32_132
  let v184 : Index := Scalar.indexCast v183
  ![512, v184.toNat]
def k0_off6 (d0 : Dev nD) : Fin 2 → Nat :=
  let c768_141 : Index := 768#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_140 : BitVec 32 := 128#32
  let v196 : BitVec 32 := Scalar.muli v2 c128_i32_140
  let v197 : Index := Scalar.indexCast v196
  ![768, v197.toNat]
def k0_off7 (d0 : Dev nD) : Fin 2 → Nat :=
  let c0_i32_159 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_152 : BitVec 32 := 128#32
  let v215 : BitVec 32 := Scalar.muli v2 c128_i32_152
  ![0, v215.toNat]
def k0_dev10 (d0 : Dev nD) : Nat :=
  let c0_i32_158 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_145 : BitVec 32 := 1#32
  let v204 : BitVec 32 := Scalar.addi v2 c1_i32_145
  let c4_i32_146 : BitVec 32 := 4#32
  let c0_i32_147 : BitVec 32 := 0#32
  let v205 : BitVec 1 := Scalar.cmpi .eq c4_i32_146 c0_i32_147
  let c1_i32_148 : BitVec 32 := 1#32
  let v206 : BitVec 32 := Scalar.select v205 c1_i32_148 c4_i32_146
  let v207 : BitVec 32 := Scalar.remsi v204 v206
  let c0_i32_150 : BitVec 32 := 0#32
  let v209 : BitVec 1 := Scalar.cmpi .slt v207 c0_i32_150
  let c0_i32_151 : BitVec 32 := 0#32
  let v210 : BitVec 1 := Scalar.cmpi .slt v206 c0_i32_151
  let v211 : BitVec 1 := Scalar.xori v209 v210
  let c0_i32_149 : BitVec 32 := 0#32
  let v208 : BitVec 1 := Scalar.cmpi .ne v207 c0_i32_149
  let v212 : BitVec 1 := Scalar.andi v211 v208
  let v213 : BitVec 32 := Scalar.addi v207 v206
  let v214 : BitVec 32 := Scalar.select v212 v213 v207
  let c1_i32_157 : BitVec 32 := 1#32
  let v216 : BitVec 32 := Scalar.muli v214 c1_i32_157
  let v217 : BitVec 32 := Scalar.addi c0_i32_158 v216
  v217.toNat
def k0_dev11 (d0 : Dev nD) : Nat :=
  let c0_i32_174 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_161 : BitVec 32 := 2#32
  let v224 : BitVec 32 := Scalar.addi v2 c2_i32_161
  let c4_i32_162 : BitVec 32 := 4#32
  let c0_i32_163 : BitVec 32 := 0#32
  let v225 : BitVec 1 := Scalar.cmpi .eq c4_i32_162 c0_i32_163
  let c1_i32_164 : BitVec 32 := 1#32
  let v226 : BitVec 32 := Scalar.select v225 c1_i32_164 c4_i32_162
  let v227 : BitVec 32 := Scalar.remsi v224 v226
  let c0_i32_166 : BitVec 32 := 0#32
  let v229 : BitVec 1 := Scalar.cmpi .slt v227 c0_i32_166
  let c0_i32_167 : BitVec 32 := 0#32
  let v230 : BitVec 1 := Scalar.cmpi .slt v226 c0_i32_167
  let v231 : BitVec 1 := Scalar.xori v229 v230
  let c0_i32_165 : BitVec 32 := 0#32
  let v228 : BitVec 1 := Scalar.cmpi .ne v227 c0_i32_165
  let v232 : BitVec 1 := Scalar.andi v231 v228
  let v233 : BitVec 32 := Scalar.addi v227 v226
  let v234 : BitVec 32 := Scalar.select v232 v233 v227
  let c1_i32_173 : BitVec 32 := 1#32
  let v236 : BitVec 32 := Scalar.muli v234 c1_i32_173
  let v237 : BitVec 32 := Scalar.addi c0_i32_174 v236
  v237.toNat
def k0_dev12 (d0 : Dev nD) : Nat :=
  let c0_i32_190 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_177 : BitVec 32 := 3#32
  let v244 : BitVec 32 := Scalar.addi v2 c3_i32_177
  let c4_i32_178 : BitVec 32 := 4#32
  let c0_i32_179 : BitVec 32 := 0#32
  let v245 : BitVec 1 := Scalar.cmpi .eq c4_i32_178 c0_i32_179
  let c1_i32_180 : BitVec 32 := 1#32
  let v246 : BitVec 32 := Scalar.select v245 c1_i32_180 c4_i32_178
  let v247 : BitVec 32 := Scalar.remsi v244 v246
  let c0_i32_182 : BitVec 32 := 0#32
  let v249 : BitVec 1 := Scalar.cmpi .slt v247 c0_i32_182
  let c0_i32_183 : BitVec 32 := 0#32
  let v250 : BitVec 1 := Scalar.cmpi .slt v246 c0_i32_183
  let v251 : BitVec 1 := Scalar.xori v249 v250
  let c0_i32_181 : BitVec 32 := 0#32
  let v248 : BitVec 1 := Scalar.cmpi .ne v247 c0_i32_181
  let v252 : BitVec 1 := Scalar.andi v251 v248
  let v253 : BitVec 32 := Scalar.addi v247 v246
  let v254 : BitVec 32 := Scalar.select v252 v253 v247
  let c1_i32_189 : BitVec 32 := 1#32
  let v256 : BitVec 32 := Scalar.muli v254 c1_i32_189
  let v257 : BitVec 32 := Scalar.addi c0_i32_190 v256
  v257.toNat
def k0_off8 (d0 : Dev nD) : Fin 3 → Nat :=
  let c0_193 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32 : BitVec 32 := 256#32
  let v264 : BitVec 32 := Scalar.muli v2 c256_i32
  let v265 : Index := Scalar.indexCast v264
  let c0_194 : Index := 0#32
  ![0, v265.toNat, 0]
def k0_off9 (d0 : Dev nD) : Fin 2 → Nat :=
  let c0_206 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_205 : BitVec 32 := 128#32
  let v278 : BitVec 32 := Scalar.muli v2 c128_i32_205
  let v279 : Index := Scalar.indexCast v278
  ![0, v279.toNat]
def k0_off10 (d0 : Dev nD) (c1_i32_242 : BitVec 32) : Fin 2 → Nat :=
  let c0_250 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_241 : BitVec 32 := 4#32
  let v311 : BitVec 32 := Scalar.addi v2 c4_i32_241
  let v312 : BitVec 32 := Scalar.subi v311 c1_i32_242
  let c4_i32_243 : BitVec 32 := 4#32
  let c0_i32_244 : BitVec 32 := 0#32
  let v313 : BitVec 1 := Scalar.cmpi .eq c4_i32_243 c0_i32_244
  let c1_i32_245 : BitVec 32 := 1#32
  let v314 : BitVec 32 := Scalar.select v313 c1_i32_245 c4_i32_243
  let v315 : BitVec 32 := Scalar.remsi v312 v314
  let c0_i32_247 : BitVec 32 := 0#32
  let v317 : BitVec 1 := Scalar.cmpi .slt v315 c0_i32_247
  let c0_i32_248 : BitVec 32 := 0#32
  let v318 : BitVec 1 := Scalar.cmpi .slt v314 c0_i32_248
  let v319 : BitVec 1 := Scalar.xori v317 v318
  let c0_i32_246 : BitVec 32 := 0#32
  let v316 : BitVec 1 := Scalar.cmpi .ne v315 c0_i32_246
  let v320 : BitVec 1 := Scalar.andi v319 v316
  let v321 : BitVec 32 := Scalar.addi v315 v314
  let v322 : BitVec 32 := Scalar.select v320 v321 v315
  let c128_i32_249 : BitVec 32 := 128#32
  let v323 : BitVec 32 := Scalar.muli v322 c128_i32_249
  let v324 : Index := Scalar.indexCast v323
  ![0, v324.toNat]
def k0_off11 (d0 : Dev nD) (c1_i32_242 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_241 : BitVec 32 := 4#32
  let v311 : BitVec 32 := Scalar.addi v2 c4_i32_241
  let v312 : BitVec 32 := Scalar.subi v311 c1_i32_242
  let c4_i32_243 : BitVec 32 := 4#32
  let c0_i32_244 : BitVec 32 := 0#32
  let v313 : BitVec 1 := Scalar.cmpi .eq c4_i32_243 c0_i32_244
  let c1_i32_245 : BitVec 32 := 1#32
  let v314 : BitVec 32 := Scalar.select v313 c1_i32_245 c4_i32_243
  let v315 : BitVec 32 := Scalar.remsi v312 v314
  let c0_i32_247 : BitVec 32 := 0#32
  let v317 : BitVec 1 := Scalar.cmpi .slt v315 c0_i32_247
  let c0_i32_248 : BitVec 32 := 0#32
  let v318 : BitVec 1 := Scalar.cmpi .slt v314 c0_i32_248
  let v319 : BitVec 1 := Scalar.xori v317 v318
  let c0_i32_246 : BitVec 32 := 0#32
  let v316 : BitVec 1 := Scalar.cmpi .ne v315 c0_i32_246
  let v320 : BitVec 1 := Scalar.andi v319 v316
  let v321 : BitVec 32 := Scalar.addi v315 v314
  let v322 : BitVec 32 := Scalar.select v320 v321 v315
  let c128_i32_251 : BitVec 32 := 128#32
  let v326 : BitVec 32 := Scalar.muli v322 c128_i32_251
  let v327 : Index := Scalar.indexCast v326
  let c0_252 : Index := 0#32
  ![v327.toNat, 0]
abbrev stage0_0 : Fin 1 → Memref sig .tc .vmem S1x1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1024x32 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S256x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S256x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev grid1 : Pipeline.Grid := .none

def k1_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v5 : BitVec 32 := Scalar.addi v2 c1_i32_0
  let c4_i32_1 : BitVec 32 := 4#32
  let c0_i32 : BitVec 32 := 0#32
  let v6 : BitVec 1 := Scalar.cmpi .eq c4_i32_1 c0_i32
  let c1_i32_2 : BitVec 32 := 1#32
  let v7 : BitVec 32 := Scalar.select v6 c1_i32_2 c4_i32_1
  let v8 : BitVec 32 := Scalar.remsi v5 v7
  let c0_i32_4 : BitVec 32 := 0#32
  let v10 : BitVec 1 := Scalar.cmpi .slt v8 c0_i32_4
  let c0_i32_5 : BitVec 32 := 0#32
  let v11 : BitVec 1 := Scalar.cmpi .slt v7 c0_i32_5
  let v12 : BitVec 1 := Scalar.xori v10 v11
  let c0_i32_3 : BitVec 32 := 0#32
  let v9 : BitVec 1 := Scalar.cmpi .ne v8 c0_i32_3
  let v13 : BitVec 1 := Scalar.andi v12 v9
  let v14 : BitVec 32 := Scalar.addi v8 v7
  let v15 : BitVec 32 := Scalar.select v13 v14 v8
  let c1_i32_7 : BitVec 32 := 1#32
  let v16 : BitVec 32 := Scalar.muli v15 c1_i32_7
  let v17 : BitVec 32 := Scalar.addi c0_i32_8 v16
  v17.toNat
def k1_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v18 : BitVec 32 := Scalar.addi v2 c2_i32
  let c4_i32_9 : BitVec 32 := 4#32
  let c0_i32_10 : BitVec 32 := 0#32
  let v19 : BitVec 1 := Scalar.cmpi .eq c4_i32_9 c0_i32_10
  let c1_i32_11 : BitVec 32 := 1#32
  let v20 : BitVec 32 := Scalar.select v19 c1_i32_11 c4_i32_9
  let v21 : BitVec 32 := Scalar.remsi v18 v20
  let c0_i32_13 : BitVec 32 := 0#32
  let v23 : BitVec 1 := Scalar.cmpi .slt v21 c0_i32_13
  let c0_i32_14 : BitVec 32 := 0#32
  let v24 : BitVec 1 := Scalar.cmpi .slt v20 c0_i32_14
  let v25 : BitVec 1 := Scalar.xori v23 v24
  let c0_i32_12 : BitVec 32 := 0#32
  let v22 : BitVec 1 := Scalar.cmpi .ne v21 c0_i32_12
  let v26 : BitVec 1 := Scalar.andi v25 v22
  let v27 : BitVec 32 := Scalar.addi v21 v20
  let v28 : BitVec 32 := Scalar.select v26 v27 v21
  let c1_i32_16 : BitVec 32 := 1#32
  let v29 : BitVec 32 := Scalar.muli v28 c1_i32_16
  let v30 : BitVec 32 := Scalar.addi c0_i32_17 v29
  v30.toNat
def k1_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v31 : BitVec 32 := Scalar.addi v2 c3_i32
  let c4_i32_18 : BitVec 32 := 4#32
  let c0_i32_19 : BitVec 32 := 0#32
  let v32 : BitVec 1 := Scalar.cmpi .eq c4_i32_18 c0_i32_19
  let c1_i32_20 : BitVec 32 := 1#32
  let v33 : BitVec 32 := Scalar.select v32 c1_i32_20 c4_i32_18
  let v34 : BitVec 32 := Scalar.remsi v31 v33
  let c0_i32_22 : BitVec 32 := 0#32
  let v36 : BitVec 1 := Scalar.cmpi .slt v34 c0_i32_22
  let c0_i32_23 : BitVec 32 := 0#32
  let v37 : BitVec 1 := Scalar.cmpi .slt v33 c0_i32_23
  let v38 : BitVec 1 := Scalar.xori v36 v37
  let c0_i32_21 : BitVec 32 := 0#32
  let v35 : BitVec 1 := Scalar.cmpi .ne v34 c0_i32_21
  let v39 : BitVec 1 := Scalar.andi v38 v35
  let v40 : BitVec 32 := Scalar.addi v34 v33
  let v41 : BitVec 32 := Scalar.select v39 v40 v34
  let c1_i32_25 : BitVec 32 := 1#32
  let v42 : BitVec 32 := Scalar.muli v41 c1_i32_25
  let v43 : BitVec 32 := Scalar.addi c0_i32_26 v42
  v43.toNat
def k1_off1 (d0 : Dev nD) (c0_i32_227 : BitVec 32) : Fin 3 → Nat :=
  let c0_228 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32 : BitVec 32 := 256#32
  let v3 : BitVec 32 := Scalar.muli v2 c256_i32
  let v451 : BitVec 32 := Scalar.addi v3 c0_i32_227
  let v452 : Index := Scalar.indexCast v451
  let c0_229 : Index := 0#32
  ![0, v452.toNat, 0]
def k1_off2 (d0 : Dev nD) (c0_i32_230 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32 : BitVec 32 := 256#32
  let v3 : BitVec 32 := Scalar.muli v2 c256_i32
  let v457 : BitVec 32 := Scalar.addi v3 c0_i32_230
  let v458 : Index := Scalar.indexCast v457
  let c0_231 : Index := 0#32
  ![v458.toNat, 0]
def k1_off3 (d0 : Dev nD) (c0_i32_240 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32 : BitVec 32 := 256#32
  let v3 : BitVec 32 := Scalar.muli v2 c256_i32
  let v473 : BitVec 32 := Scalar.addi v3 c0_i32_240
  let c0_i32_247 : BitVec 32 := 0#32
  ![v473.toNat, 0]
def k1_dev4 (d0 : Dev nD) : Nat :=
  let c0_i32_246 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_233 : BitVec 32 := 1#32
  let v462 : BitVec 32 := Scalar.addi v2 c1_i32_233
  let c4_i32_234 : BitVec 32 := 4#32
  let c0_i32_235 : BitVec 32 := 0#32
  let v463 : BitVec 1 := Scalar.cmpi .eq c4_i32_234 c0_i32_235
  let c1_i32_236 : BitVec 32 := 1#32
  let v464 : BitVec 32 := Scalar.select v463 c1_i32_236 c4_i32_234
  let v465 : BitVec 32 := Scalar.remsi v462 v464
  let c0_i32_238 : BitVec 32 := 0#32
  let v467 : BitVec 1 := Scalar.cmpi .slt v465 c0_i32_238
  let c0_i32_239 : BitVec 32 := 0#32
  let v468 : BitVec 1 := Scalar.cmpi .slt v464 c0_i32_239
  let v469 : BitVec 1 := Scalar.xori v467 v468
  let c0_i32_237 : BitVec 32 := 0#32
  let v466 : BitVec 1 := Scalar.cmpi .ne v465 c0_i32_237
  let v470 : BitVec 1 := Scalar.andi v469 v466
  let v471 : BitVec 32 := Scalar.addi v465 v464
  let v472 : BitVec 32 := Scalar.select v470 v471 v465
  let c1_i32_245 : BitVec 32 := 1#32
  let v474 : BitVec 32 := Scalar.muli v472 c1_i32_245
  let v475 : BitVec 32 := Scalar.addi c0_i32_246 v474
  v475.toNat
def k1_dev5 (d0 : Dev nD) : Nat :=
  let c0_i32_262 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_249 : BitVec 32 := 2#32
  let v482 : BitVec 32 := Scalar.addi v2 c2_i32_249
  let c4_i32_250 : BitVec 32 := 4#32
  let c0_i32_251 : BitVec 32 := 0#32
  let v483 : BitVec 1 := Scalar.cmpi .eq c4_i32_250 c0_i32_251
  let c1_i32_252 : BitVec 32 := 1#32
  let v484 : BitVec 32 := Scalar.select v483 c1_i32_252 c4_i32_250
  let v485 : BitVec 32 := Scalar.remsi v482 v484
  let c0_i32_254 : BitVec 32 := 0#32
  let v487 : BitVec 1 := Scalar.cmpi .slt v485 c0_i32_254
  let c0_i32_255 : BitVec 32 := 0#32
  let v488 : BitVec 1 := Scalar.cmpi .slt v484 c0_i32_255
  let v489 : BitVec 1 := Scalar.xori v487 v488
  let c0_i32_253 : BitVec 32 := 0#32
  let v486 : BitVec 1 := Scalar.cmpi .ne v485 c0_i32_253
  let v490 : BitVec 1 := Scalar.andi v489 v486
  let v491 : BitVec 32 := Scalar.addi v485 v484
  let v492 : BitVec 32 := Scalar.select v490 v491 v485
  let c1_i32_261 : BitVec 32 := 1#32
  let v494 : BitVec 32 := Scalar.muli v492 c1_i32_261
  let v495 : BitVec 32 := Scalar.addi c0_i32_262 v494
  v495.toNat
def k1_dev6 (d0 : Dev nD) : Nat :=
  let c0_i32_278 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_265 : BitVec 32 := 3#32
  let v502 : BitVec 32 := Scalar.addi v2 c3_i32_265
  let c4_i32_266 : BitVec 32 := 4#32
  let c0_i32_267 : BitVec 32 := 0#32
  let v503 : BitVec 1 := Scalar.cmpi .eq c4_i32_266 c0_i32_267
  let c1_i32_268 : BitVec 32 := 1#32
  let v504 : BitVec 32 := Scalar.select v503 c1_i32_268 c4_i32_266
  let v505 : BitVec 32 := Scalar.remsi v502 v504
  let c0_i32_270 : BitVec 32 := 0#32
  let v507 : BitVec 1 := Scalar.cmpi .slt v505 c0_i32_270
  let c0_i32_271 : BitVec 32 := 0#32
  let v508 : BitVec 1 := Scalar.cmpi .slt v504 c0_i32_271
  let v509 : BitVec 1 := Scalar.xori v507 v508
  let c0_i32_269 : BitVec 32 := 0#32
  let v506 : BitVec 1 := Scalar.cmpi .ne v505 c0_i32_269
  let v510 : BitVec 1 := Scalar.andi v509 v506
  let v511 : BitVec 32 := Scalar.addi v505 v504
  let v512 : BitVec 32 := Scalar.select v510 v511 v505
  let c1_i32_277 : BitVec 32 := 1#32
  let v514 : BitVec 32 := Scalar.muli v512 c1_i32_277
  let v515 : BitVec 32 := Scalar.addi c0_i32_278 v514
  v515.toNat
def k1_dev7 (d0 : Dev nD) : Nat :=
  let c0_i32_525 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_512 : BitVec 32 := 1#32
  let v938 : BitVec 32 := Scalar.addi v2 c1_i32_512
  let c4_i32_513 : BitVec 32 := 4#32
  let c0_i32_514 : BitVec 32 := 0#32
  let v939 : BitVec 1 := Scalar.cmpi .eq c4_i32_513 c0_i32_514
  let c1_i32_515 : BitVec 32 := 1#32
  let v940 : BitVec 32 := Scalar.select v939 c1_i32_515 c4_i32_513
  let v941 : BitVec 32 := Scalar.remsi v938 v940
  let c0_i32_517 : BitVec 32 := 0#32
  let v943 : BitVec 1 := Scalar.cmpi .slt v941 c0_i32_517
  let c0_i32_518 : BitVec 32 := 0#32
  let v944 : BitVec 1 := Scalar.cmpi .slt v940 c0_i32_518
  let v945 : BitVec 1 := Scalar.xori v943 v944
  let c0_i32_516 : BitVec 32 := 0#32
  let v942 : BitVec 1 := Scalar.cmpi .ne v941 c0_i32_516
  let v946 : BitVec 1 := Scalar.andi v945 v942
  let v947 : BitVec 32 := Scalar.addi v941 v940
  let v948 : BitVec 32 := Scalar.select v946 v947 v941
  let c1_i32_524 : BitVec 32 := 1#32
  let v950 : BitVec 32 := Scalar.muli v948 c1_i32_524
  let v951 : BitVec 32 := Scalar.addi c0_i32_525 v950
  v951.toNat
def k1_dev8 (d0 : Dev nD) : Nat :=
  let c0_i32_541 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_528 : BitVec 32 := 2#32
  let v958 : BitVec 32 := Scalar.addi v2 c2_i32_528
  let c4_i32_529 : BitVec 32 := 4#32
  let c0_i32_530 : BitVec 32 := 0#32
  let v959 : BitVec 1 := Scalar.cmpi .eq c4_i32_529 c0_i32_530
  let c1_i32_531 : BitVec 32 := 1#32
  let v960 : BitVec 32 := Scalar.select v959 c1_i32_531 c4_i32_529
  let v961 : BitVec 32 := Scalar.remsi v958 v960
  let c0_i32_533 : BitVec 32 := 0#32
  let v963 : BitVec 1 := Scalar.cmpi .slt v961 c0_i32_533
  let c0_i32_534 : BitVec 32 := 0#32
  let v964 : BitVec 1 := Scalar.cmpi .slt v960 c0_i32_534
  let v965 : BitVec 1 := Scalar.xori v963 v964
  let c0_i32_532 : BitVec 32 := 0#32
  let v962 : BitVec 1 := Scalar.cmpi .ne v961 c0_i32_532
  let v966 : BitVec 1 := Scalar.andi v965 v962
  let v967 : BitVec 32 := Scalar.addi v961 v960
  let v968 : BitVec 32 := Scalar.select v966 v967 v961
  let c1_i32_540 : BitVec 32 := 1#32
  let v970 : BitVec 32 := Scalar.muli v968 c1_i32_540
  let v971 : BitVec 32 := Scalar.addi c0_i32_541 v970
  v971.toNat
def k1_dev9 (d0 : Dev nD) : Nat :=
  let c0_i32_557 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_544 : BitVec 32 := 3#32
  let v978 : BitVec 32 := Scalar.addi v2 c3_i32_544
  let c4_i32_545 : BitVec 32 := 4#32
  let c0_i32_546 : BitVec 32 := 0#32
  let v979 : BitVec 1 := Scalar.cmpi .eq c4_i32_545 c0_i32_546
  let c1_i32_547 : BitVec 32 := 1#32
  let v980 : BitVec 32 := Scalar.select v979 c1_i32_547 c4_i32_545
  let v981 : BitVec 32 := Scalar.remsi v978 v980
  let c0_i32_549 : BitVec 32 := 0#32
  let v983 : BitVec 1 := Scalar.cmpi .slt v981 c0_i32_549
  let c0_i32_550 : BitVec 32 := 0#32
  let v984 : BitVec 1 := Scalar.cmpi .slt v980 c0_i32_550
  let v985 : BitVec 1 := Scalar.xori v983 v984
  let c0_i32_548 : BitVec 32 := 0#32
  let v982 : BitVec 1 := Scalar.cmpi .ne v981 c0_i32_548
  let v986 : BitVec 1 := Scalar.andi v985 v982
  let v987 : BitVec 32 := Scalar.addi v981 v980
  let v988 : BitVec 32 := Scalar.select v986 v987 v981
  let c1_i32_556 : BitVec 32 := 1#32
  let v990 : BitVec 32 := Scalar.muli v988 c1_i32_556
  let v991 : BitVec 32 := Scalar.addi c0_i32_557 v990
  v991.toNat
def k1_off4 (d0 : Dev nD) (c1_i32_609 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_608 : BitVec 32 := 4#32
  let v1034 : BitVec 32 := Scalar.addi v2 c4_i32_608
  let v1035 : BitVec 32 := Scalar.subi v1034 c1_i32_609
  let c4_i32_610 : BitVec 32 := 4#32
  let c0_i32_611 : BitVec 32 := 0#32
  let v1036 : BitVec 1 := Scalar.cmpi .eq c4_i32_610 c0_i32_611
  let c1_i32_612 : BitVec 32 := 1#32
  let v1037 : BitVec 32 := Scalar.select v1036 c1_i32_612 c4_i32_610
  let v1038 : BitVec 32 := Scalar.remsi v1035 v1037
  let c0_i32_614 : BitVec 32 := 0#32
  let v1040 : BitVec 1 := Scalar.cmpi .slt v1038 c0_i32_614
  let c0_i32_615 : BitVec 32 := 0#32
  let v1041 : BitVec 1 := Scalar.cmpi .slt v1037 c0_i32_615
  let v1042 : BitVec 1 := Scalar.xori v1040 v1041
  let c0_i32_613 : BitVec 32 := 0#32
  let v1039 : BitVec 1 := Scalar.cmpi .ne v1038 c0_i32_613
  let v1043 : BitVec 1 := Scalar.andi v1042 v1039
  let v1044 : BitVec 32 := Scalar.addi v1038 v1037
  let v1045 : BitVec 32 := Scalar.select v1043 v1044 v1038
  let c256_i32_616 : BitVec 32 := 256#32
  let v1046 : BitVec 32 := Scalar.muli v1045 c256_i32_616
  let v1047 : Index := Scalar.indexCast v1046
  let c0_617 : Index := 0#32
  ![v1047.toNat, 0]
def k1_off5 (d0 : Dev nD) (c1_i32_609 : BitVec 32) : Fin 3 → Nat :=
  let c0_618 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_608 : BitVec 32 := 4#32
  let v1034 : BitVec 32 := Scalar.addi v2 c4_i32_608
  let v1035 : BitVec 32 := Scalar.subi v1034 c1_i32_609
  let c4_i32_610 : BitVec 32 := 4#32
  let c0_i32_611 : BitVec 32 := 0#32
  let v1036 : BitVec 1 := Scalar.cmpi .eq c4_i32_610 c0_i32_611
  let c1_i32_612 : BitVec 32 := 1#32
  let v1037 : BitVec 32 := Scalar.select v1036 c1_i32_612 c4_i32_610
  let v1038 : BitVec 32 := Scalar.remsi v1035 v1037
  let c0_i32_614 : BitVec 32 := 0#32
  let v1040 : BitVec 1 := Scalar.cmpi .slt v1038 c0_i32_614
  let c0_i32_615 : BitVec 32 := 0#32
  let v1041 : BitVec 1 := Scalar.cmpi .slt v1037 c0_i32_615
  let v1042 : BitVec 1 := Scalar.xori v1040 v1041
  let c0_i32_613 : BitVec 32 := 0#32
  let v1039 : BitVec 1 := Scalar.cmpi .ne v1038 c0_i32_613
  let v1043 : BitVec 1 := Scalar.andi v1042 v1039
  let v1044 : BitVec 32 := Scalar.addi v1038 v1037
  let v1045 : BitVec 32 := Scalar.select v1043 v1044 v1038
  let c256_i32_616 : BitVec 32 := 256#32
  let v1046 : BitVec 32 := Scalar.muli v1045 c256_i32_616
  let v1050 : Index := Scalar.indexCast v1046
  let c0_619 : Index := 0#32
  ![0, v1050.toNat, 0]
abbrev stage1_0 : Fin 1 → Memref sig .tc .vmem S256x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S256x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1024x32 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1024x2048 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1024x2048 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S2048x2048 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S1x1024x2048 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
-- ==== KernelIdeal.lean ====
variable {F : FTy → Type} [FloatOps F] [Named F]
def κ : String → Option EReal := fun
  | "scale" => some (((Real.sqrt 160)⁻¹ : ℝ) : EReal)
  | _ => none
-- ==== ReferenceIdeal.lean ====
abbrev S1x1024x2048 : Shape := ⟨3, ![1, 1024, 2048]⟩
abbrev S2048x512 : Shape := ⟨2, ![2048, 512]⟩
abbrev S512x2048 : Shape := ⟨2, ![512, 2048]⟩
abbrev S2048x2048 : Shape := ⟨2, ![2048, 2048]⟩
abbrev S2048x32 : Shape := ⟨2, ![2048, 32]⟩
abbrev S1x1024x512 : Shape := ⟨3, ![1, 1024, 512]⟩
abbrev S1x1024x16x128 : Shape := ⟨4, ![1, 1024, 16, 128]⟩
abbrev S1x1024x16x32 : Shape := ⟨4, ![1, 1024, 16, 32]⟩
abbrev S1x1024x32 : Shape := ⟨3, ![1, 1024, 32]⟩
abbrev S1x1024x1x32 : Shape := ⟨4, ![1, 1024, 1, 32]⟩
abbrev S_ : Shape := ⟨0, ![]⟩
abbrev S1x16x1024x1024 : Shape := ⟨4, ![1, 16, 1024, 1024]⟩
abbrev S1x16x1024 : Shape := ⟨3, ![1, 16, 1024]⟩
abbrev S1x16x1024x1 : Shape := ⟨4, ![1, 16, 1024, 1]⟩
abbrev S1x16x128x1024 : Shape := ⟨4, ![1, 16, 128, 1024]⟩

abbrev nBuf : Space → Nat
  | .hbm => 42
  | .vmem => 0
  | .smem => 0
  | _ => 0

abbrev bufTy : (tb : Table) → Fin (tcTables nBuf tb) → BufTy
  | .hbm, ⟨0, _⟩ => ⟨S1x1024x2048, .f32⟩
  | .hbm, ⟨1, _⟩ => ⟨S2048x512, .f32⟩
  | .hbm, ⟨2, _⟩ => ⟨S512x2048, .f32⟩
  | .hbm, ⟨3, _⟩ => ⟨S512x2048, .f32⟩
  | .hbm, ⟨4, _⟩ => ⟨S2048x2048, .f32⟩
  | .hbm, ⟨5, _⟩ => ⟨S2048x512, .f32⟩
  | .hbm, ⟨6, _⟩ => ⟨S2048x32, .f32⟩
  | .hbm, ⟨7, _⟩ => ⟨S2048x2048, .f32⟩
  | .hbm, ⟨8, _⟩ => ⟨S1x1024x512, .f32⟩
  | .hbm, ⟨9, _⟩ => ⟨S1x1024x2048, .f32⟩
  | .hbm, ⟨10, _⟩ => ⟨S1x1024x16x128, .f32⟩
  | .hbm, ⟨11, _⟩ => ⟨S1x1024x2048, .f32⟩
  | .hbm, ⟨12, _⟩ => ⟨S1x1024x16x128, .f32⟩
  | .hbm, ⟨13, _⟩ => ⟨S1x1024x2048, .f32⟩
  | .hbm, ⟨14, _⟩ => ⟨S1x1024x16x128, .f32⟩
  | .hbm, ⟨15, _⟩ => ⟨S1x1024x512, .f32⟩
  | .hbm, ⟨16, _⟩ => ⟨S1x1024x16x32, .f32⟩
  | .hbm, ⟨17, _⟩ => ⟨S1x1024x32, .f32⟩
  | .hbm, ⟨18, _⟩ => ⟨S1x1024x1x32, .f32⟩
  | .hbm, ⟨19, _⟩ => ⟨S_, .f32⟩
  | .hbm, ⟨20, _⟩ => ⟨S_, .f32⟩
  | .hbm, ⟨21, _⟩ => ⟨S1x16x1024x1024, .f32⟩
  | .hbm, ⟨22, _⟩ => ⟨S1x1024x16x32, .f32⟩
  | .hbm, ⟨23, _⟩ => ⟨S1x16x1024x1024, .f32⟩
  | .hbm, ⟨24, _⟩ => ⟨S1x16x1024x1024, .f32⟩
  | .hbm, ⟨25, _⟩ => ⟨S1x16x1024x1024, .f32⟩
  | .hbm, ⟨26, _⟩ => ⟨S1x16x1024x1024, .f32⟩
  | .hbm, ⟨27, _⟩ => ⟨S_, .f32⟩
  | .hbm, ⟨28, _⟩ => ⟨S1x16x1024, .f32⟩
  | .hbm, ⟨29, _⟩ => ⟨S1x16x1024x1, .f32⟩
  | .hbm, ⟨30, _⟩ => ⟨S1x16x1024x1024, .f32⟩
  | .hbm, ⟨31, _⟩ => ⟨S1x16x1024x1024, .f32⟩
  | .hbm, ⟨32, _⟩ => ⟨S1x16x1024x1024, .f32⟩
  | .hbm, ⟨33, _⟩ => ⟨S_, .f32⟩
  | .hbm, ⟨34, _⟩ => ⟨S1x16x1024, .f32⟩
  | .hbm, ⟨35, _⟩ => ⟨S1x16x1024x1, .f32⟩
  | .hbm, ⟨36, _⟩ => ⟨S1x16x1024x1024, .f32⟩
  | .hbm, ⟨37, _⟩ => ⟨S1x16x1024x1024, .f32⟩
  | .hbm, ⟨38, _⟩ => ⟨S1x16x128x1024, .f32⟩
  | .hbm, ⟨39, _⟩ => ⟨S1x1024x16x128, .f32⟩
  | .hbm, ⟨40, _⟩ => ⟨S1x1024x2048, .f32⟩
  | .hbm, ⟨41, _⟩ => ⟨S1x1024x2048, .f32⟩
  | _, _ => ⟨S1x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_1 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Proof.Chan.lean ====
/-
  The exchange: which device sends what to whom, on which semaphores, and what each semaphore's duties carry.

  Two kernels run one after the other on four devices. In each, every device first tells the three others that it has
  arrived (one unit on the kernel's barrier semaphore) and waits for their three units; then it sends its own slab of each
  shared scratch buffer to the three others, each copy on a send and a receive semaphore of its own. There are five
  CHANNELS: the column blocks of the latent (0), the row blocks of the two up-projections (1, 2), and the two halves of the
  attention rows (3, 4).
-/
module

public import proofs.«01_k».proof.Proof.Gen.KernelIdeal.Regions
public import proofs.«01_k».proof.Proof.Gen.KernelIdeal.Skeleton
public import proofs.«01_k».proof.Proof.Gen.KernelIdeal.Points
public import proofs.«01_k».proof.Proof.Gen.KernelIdeal.Launch
public import Idealize.ShloMosaic.Lib.Pipeline.Regions
public import Idealize.ShloMosaic.Lib.Pipeline.Kit
public import Idealize.ShloMosaic.Lib.Rounds
public import Idealize.ShloMosaic.Lib.StableHlo
public import Idealize.ShloMosaic.Lib.Tactic
public import Idealize.ShloMosaic.PureOps
public import Idealize.ShloMosaic.Lib.Pipeline.RegionTalk
public import Idealize.ShloMosaic.Lib.Pipeline.Value

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- Two copies of the rounds algebra: the pipeline's own and the exchange's. -/
abbrev UU : Type := UR sig nD τ × URounds (GSem nD τ sig) (Fin 3)

local notation "𝕄" => MT nD τ sig Unit (Elt F) ℕ UU ℕ

/-- The pipeline's copy, -/
abbrev EP : Emb (UR sig nD τ) (MT nD τ sig Unit (Elt F) ℕ UU ℕ) := embL
/-- and the exchange's. -/
abbrev ER : Emb (URounds (GSem nD τ sig) (Fin 3)) (MT nD τ sig Unit (Elt F) ℕ UU ℕ) := embR

/-! ## Who talks to whom -/

/-- The device `i + 1` steps ahead on the ring of four: where the copy of index `i` goes. -/
def nx (i : Fin 3) (c : Dev nD) : Dev nD := ⟨(c.val + i.val + 1) % 4, Nat.mod_lt _ (by decide)⟩
/-- The device `i + 1` steps behind: where the copy of index `i` comes from. -/
def pv (i : Fin 3) (c : Dev nD) : Dev nD := ⟨(c.val + 3 - i.val) % 4, Nat.mod_lt _ (by decide)⟩

theorem nx_pv (i : Fin 3) (c : Dev nD) : nx i (pv i c) = c := by revert i c; decide
theorem pv_nx (i : Fin 3) (c : Dev nD) : pv i (nx i c) = c := by revert i c; decide
theorem nx_rev (i : Fin 3) (c : Dev nD) : nx (Fin.rev i) (nx i c) = c := by revert i c; decide
theorem pv_eq (i : Fin 3) (c : Dev nD) : pv i c = nx (Fin.rev i) c := by revert i c; decide

/-! ## The printed device numbers and offsets -/

theorem dev0_1 (c : Dev nD) : (⟨k0_dev1 c, k0_dev1_lt c⟩ : Dev nD) = nx 0 c := by revert c; decide
theorem dev0_2 (c : Dev nD) : (⟨k0_dev2 c, k0_dev2_lt c⟩ : Dev nD) = nx 1 c := by revert c; decide
theorem dev0_3 (c : Dev nD) : (⟨k0_dev3 c, k0_dev3_lt c⟩ : Dev nD) = nx 2 c := by revert c; decide
theorem dev0_4 (c : Dev nD) : (⟨k0_dev4 c, k0_dev4_lt c⟩ : Dev nD) = nx 0 c := by revert c; decide
theorem dev0_5 (c : Dev nD) : (⟨k0_dev5 c, k0_dev5_lt c⟩ : Dev nD) = nx 0 c := by revert c; decide
theorem dev0_6 (c : Dev nD) : (⟨k0_dev6 c, k0_dev6_lt c⟩ : Dev nD) = nx 1 c := by revert c; decide
theorem dev0_7 (c : Dev nD) : (⟨k0_dev7 c, k0_dev7_lt c⟩ : Dev nD) = nx 1 c := by revert c; decide
theorem dev0_8 (c : Dev nD) : (⟨k0_dev8 c, k0_dev8_lt c⟩ : Dev nD) = nx 2 c := by revert c; decide
theorem dev0_9 (c : Dev nD) : (⟨k0_dev9 c, k0_dev9_lt c⟩ : Dev nD) = nx 2 c := by revert c; decide
theorem dev0_10 (c : Dev nD) : (⟨k0_dev10 c, k0_dev10_lt c⟩ : Dev nD) = nx 0 c := by revert c; decide
theorem dev0_11 (c : Dev nD) : (⟨k0_dev11 c, k0_dev11_lt c⟩ : Dev nD) = nx 1 c := by revert c; decide
theorem dev0_12 (c : Dev nD) : (⟨k0_dev12 c, k0_dev12_lt c⟩ : Dev nD) = nx 2 c := by revert c; decide
theorem dev1_1 (c : Dev nD) : (⟨k1_dev1 c, k1_dev1_lt c⟩ : Dev nD) = nx 0 c := by revert c; decide
theorem dev1_2 (c : Dev nD) : (⟨k1_dev2 c, k1_dev2_lt c⟩ : Dev nD) = nx 1 c := by revert c; decide
theorem dev1_3 (c : Dev nD) : (⟨k1_dev3 c, k1_dev3_lt c⟩ : Dev nD) = nx 2 c := by revert c; decide
theorem dev1_4 (c : Dev nD) : (⟨k1_dev4 c, k1_dev4_lt c⟩ : Dev nD) = nx 0 c := by revert c; decide
theorem dev1_5 (c : Dev nD) : (⟨k1_dev5 c, k1_dev5_lt c⟩ : Dev nD) = nx 1 c := by revert c; decide
theorem dev1_6 (c : Dev nD) : (⟨k1_dev6 c, k1_dev6_lt c⟩ : Dev nD) = nx 2 c := by revert c; decide
theorem dev1_7 (c : Dev nD) : (⟨k1_dev7 c, k1_dev7_lt c⟩ : Dev nD) = nx 0 c := by revert c; decide
theorem dev1_8 (c : Dev nD) : (⟨k1_dev8 c, k1_dev8_lt c⟩ : Dev nD) = nx 1 c := by revert c; decide
theorem dev1_9 (c : Dev nD) : (⟨k1_dev9 c, k1_dev9_lt c⟩ : Dev nD) = nx 2 c := by revert c; decide

theorem o0_1 (c : Dev nD) : k0_off1 c = ![128 * c.val, 0] := by revert c; decide
theorem o0_2 (c : Dev nD) : k0_off2 c = ![128 * c.val, 0] := by revert c; decide
theorem o0_3 (c : Dev nD) : k0_off3 c = ![0, 128 * c.val] := by revert c; decide
theorem o0_4 (c : Dev nD) : k0_off4 c = ![256, 128 * c.val] := by revert c; decide
theorem o0_5 (c : Dev nD) : k0_off5 c = ![512, 128 * c.val] := by revert c; decide
theorem o0_6 (c : Dev nD) : k0_off6 c = ![768, 128 * c.val] := by revert c; decide
theorem o0_7 (c : Dev nD) : k0_off7 c = ![0, 128 * c.val] := by revert c; decide
theorem o0_8 (c : Dev nD) : k0_off8 c = ![0, 256 * c.val, 0] := by revert c; decide
theorem o0_9 (c : Dev nD) : k0_off9 c = ![0, 128 * c.val] := by revert c; decide
theorem o0_10 (c : Dev nD) (i : Fin 3) : k0_off10 c (BitVec.ofNat 32 (1 + i.val)) = ![0, 128 * (pv i c).val] := by
  revert c i; decide
theorem o0_11 (c : Dev nD) (i : Fin 3) : k0_off11 c (BitVec.ofNat 32 (1 + i.val)) = ![128 * (pv i c).val, 0] := by
  revert c i; decide
theorem o1_1 (c : Dev nD) (h : Fin 2) : k1_off1 c (BitVec.ofNat 32 (128 * h.val)) = ![0, 256 * c.val + 128 * h.val, 0] := by
  revert c h; decide
theorem o1_2 (c : Dev nD) (h : Fin 2) : k1_off2 c (BitVec.ofNat 32 (128 * h.val)) = ![256 * c.val + 128 * h.val, 0] := by
  revert c h; decide
theorem o1_3 (c : Dev nD) (h : Fin 2) : k1_off3 c (BitVec.ofNat 32 (128 * h.val)) = ![256 * c.val + 128 * h.val, 0] := by
  revert c h; decide
theorem o1_4 (c : Dev nD) (i : Fin 3) : k1_off4 c (BitVec.ofNat 32 (1 + i.val)) = ![256 * (pv i c).val, 0] := by
  revert c i; decide
theorem o1_5 (c : Dev nD) (i : Fin 3) : k1_off5 c (BitVec.ofNat 32 (1 + i.val)) = ![0, 256 * (pv i c).val, 0] := by
  revert c i; decide

/-! ## The slabs -/

/-- Device `s`'s columns of the gathered latent. -/
abbrev slabA (s : Dev nD) : Memref sig .tc .vmem S1024x128 .bf16 :=
  (Memref.whole cc0_scratch0).slice (Rect.unit (s := S1024x512) (k0_off7 s) S1024x128.size (k0_off7_inb s)) (fun _ => rfl)
/-- Device `s`'s rows of the gathered key up-projection; -/
abbrev slabU (s : Dev nD) : Memref sig .tc .vmem S128x2048 .bf16 :=
  (Memref.whole cc0_scratch1).slice (Rect.unit (s := S512x2048) (k0_off2 s) S128x2048.size (k0_off2_inb s)) (fun _ => rfl)
/-- of the gathered value up-projection. -/
abbrev slabV (s : Dev nD) : Memref sig .tc .vmem S128x2048 .bf16 :=
  (Memref.whole cc0_scratch2).slice (Rect.unit (s := S512x2048) (k0_off2 s) S128x2048.size (k0_off2_inb s)) (fun _ => rfl)
/-- Device `s`'s rows of the gathered output, half `h`. -/
abbrev slabO (h : Fin 2) (s : Dev nD) : Memref sig .tc .vmem S128x2048 .bf16 :=
  (Memref.whole cc1_scratch0).slice (Rect.unit (s := S1024x2048) (k1_off3 s (BitVec.ofNat 32 (128 * h.val))) S128x2048.size (k1_off3_inb s h)) (fun _ => rfl)

/-- A channel's scratch buffer. -/
abbrev chRef : Fin 5 → Ref sig .tc
  | 0 => cc0_scratch0 | 1 => cc0_scratch1 | 2 => cc0_scratch2 | 3 => cc1_scratch0 | 4 => cc1_scratch0

/-- The elements of channel `a`'s slab of device `s`. -/
abbrev slabSet : (a : Fin 5) → Dev nD → Finset ((chRef a).ty.shape.Idx)
  | 0, s => (slabA s).view.set
  | 1, s => (slabU s).view.set
  | 2, s => (slabV s).view.set
  | 3, s => (slabO 0 s).view.set
  | 4, s => (slabO 1 s).view.set

/-- What one copy of channel `a` credits its semaphores with. -/
abbrev chN : Fin 5 → ℕ
  | 0 => (slabA 0).view.dmaCredit
  | 1 => (slabU 0).view.dmaCredit
  | 2 => (slabV 0).view.dmaCredit
  | 3 => (slabO 0 0).view.dmaCredit
  | 4 => (slabO 1 0).view.dmaCredit

theorem chN_pos (a : Fin 5) : 0 < chN a := by
  fin_cases a <;> exact View.dmaCredit_pos _ (by decide)

/-- The shared scratch buffers' contents once everything has been gathered. -/
abbrev Gath (F : FTy → Type) : Type := (a : Fin 5) → (chRef a).ty.Contents (Elt F)

/-- Device `p` holding the slab of device `s` in its copy of channel `a`'s buffer, at `f`. -/
abbrev pts (a : Fin 5) (s p : Dev nD) (q : PosShare TreeShare) (f : (chRef a).ty.Contents (Elt F)) : sProp 𝕄 :=
  ((p : Thread nD τ).loc (chRef a)) ↦[slabSet a s]{q} f

/-- The share of its own slab that the copy of index `i` reads from. -/
abbrev sh : Fin 3 → PosShare TreeShare
  | 0 => fullShare.left.left | 1 => fullShare.left.right | 2 => fullShare.right.left

/-- The share kept for reading the own slab while it is being sent. -/
abbrev shK : PosShare TreeShare := fullShare.right.right

omit [FloatOps F] [Named F] in
/-- A slab in four shares. -/
theorem pts_shares (a : Fin 5) (s p : Dev nD) (f : (chRef a).ty.Contents (Elt F)) :
    (pts a s p fullShare f : sProp 𝕄)
      ⊣⊢ iprop((pts a s p (sh 0) f ∗ pts a s p (sh 1) f) ∗ (pts a s p (sh 2) f ∗ pts a s p shK f)) := by
  refine (pointsTo_share (PosShare.mem_left_op_right fullShare)).trans ?_
  exact sep_congr (pointsTo_share (PosShare.mem_left_op_right _)) (pointsTo_share (PosShare.mem_left_op_right _))

/-! ## The semaphores -/

/-- The send semaphore of channel `a`, copy index `i`; -/
def sendSem : Fin 5 → Fin 3 → DmaSem sig
  | 0, i => ⟨12 + 3 * i.val, by have := i.isLt; show _ < 49; omega⟩
  | 1, i => ⟨13 + 3 * i.val, by have := i.isLt; show _ < 49; omega⟩
  | 2, i => ⟨14 + 3 * i.val, by have := i.isLt; show _ < 49; omega⟩
  | 3, i => ⟨37 + 2 * i.val, by have := i.isLt; show _ < 49; omega⟩
  | 4, i => ⟨38 + 2 * i.val, by have := i.isLt; show _ < 49; omega⟩
/-- the receive semaphore. -/
def recvSem : Fin 5 → Fin 3 → DmaSem sig
  | 0, i => ⟨21 + 3 * i.val, by have := i.isLt; show _ < 49; omega⟩
  | 1, i => ⟨22 + 3 * i.val, by have := i.isLt; show _ < 49; omega⟩
  | 2, i => ⟨23 + 3 * i.val, by have := i.isLt; show _ < 49; omega⟩
  | 3, i => ⟨43 + 2 * i.val, by have := i.isLt; show _ < 49; omega⟩
  | 4, i => ⟨44 + 2 * i.val, by have := i.isLt; show _ < 49; omega⟩
/-- The barrier semaphore of kernel `b`. -/
def barSem : Fin 2 → Sem sig
  | 0 => barrier0 | 1 => barrier1

/-- The part a semaphore plays in the exchange. -/
inductive Part where
  | bar (b : Fin 2)
  | send (a : Fin 5) (i : Fin 3)
  | recv (a : Fin 5) (i : Fin 3)
  deriving DecidableEq

/-- The part of a DMA semaphore, read off its number. -/
def dmaPart (n : ℕ) : Option Part :=
  if n < 12 then none
  else if n < 21 then some (.send ⟨(n - 12) % 3, by omega⟩ ⟨(n - 12) / 3 % 3, by omega⟩)
  else if n < 30 then some (.recv ⟨(n - 21) % 3, by omega⟩ ⟨(n - 21) / 3 % 3, by omega⟩)
  else if n < 37 then none
  else if n < 43 then some (.send ⟨3 + (n - 37) % 2, by omega⟩ ⟨(n - 37) / 2 % 3, by omega⟩)
  else some (.recv ⟨3 + (n - 43) % 2, by omega⟩ ⟨(n - 43) / 2 % 3, by omega⟩)

/-- The part of a semaphore. -/
def semPart : SemLoc sig → Option Part
  | .reg s => if s.val = 0 then some (.bar 0) else some (.bar 1)
  | .dma s => dmaPart s.val

/-- The part of a cell: semaphores of the vector processors play none. -/
def part (g : GSem nD τ sig) : Option Part := if g.1.2 = .tc then semPart g.2 else none

/-- Device `c`'s barrier cell of kernel `b`; -/
abbrev barCell (b : Fin 2) (c : Dev nD) : GSem nD τ sig := ((c : Thread nD τ), .reg (barSem b))
/-- its send cell of channel `a`, copy index `i`; -/
abbrev sendCell (a : Fin 5) (i : Fin 3) (c : Dev nD) : GSem nD τ sig := ((c : Thread nD τ), .dma (sendSem a i))
/-- its receive cell. -/
abbrev recvCell (a : Fin 5) (i : Fin 3) (c : Dev nD) : GSem nD τ sig := ((c : Thread nD τ), .dma (recvSem a i))

theorem part_bar (b : Fin 2) (c : Dev nD) : part (barCell b c) = some (.bar b) := by
  unfold part; rw [if_pos rfl]; show semPart (.reg (barSem b)) = _; revert b; decide
theorem part_send (a : Fin 5) (i : Fin 3) (c : Dev nD) : part (sendCell a i c) = some (.send a i) := by
  unfold part; rw [if_pos rfl]; show semPart (.dma (sendSem a i)) = _; revert a i; decide
theorem part_recv (a : Fin 5) (i : Fin 3) (c : Dev nD) : part (recvCell a i c) = some (.recv a i) := by
  unfold part; rw [if_pos rfl]; show semPart (.dma (recvSem a i)) = _; revert a i; decide

/-! ## The schedule -/

section Sched

variable (G : Gath F)

/-- What a device hands to the peer that will send to it, for one channel: its own buffer's elements the copy will fill,
    at whatever they hold, and that its receive cell is open. -/
def room (a : Fin 5) (j : Fin 3) (c : Dev nD) : sProp 𝕄 :=
  iprop((∃ f, pts a c (nx j c) fullShare f) ∗ reached ER (recvCell a j (nx j c)) 0)

/-- Paid to device `c`'s barrier cell by the device `nx j c`: its buffers' elements that `c`'s copies to it will fill. -/
def barPay (b : Fin 2) (j : Fin 3) (c : Dev nD) : sProp 𝕄 :=
  match b with
  | 0 => iprop(room 0 j c ∗ room 1 j c ∗ room 2 j c)
  | 1 => iprop(room 3 j c ∗ room 4 j c)

/-- One round on every cell: three duties on a barrier cell, one on a send or a receive cell. A receive cell's carries the
    sender's slab, landed; a send cell's the share of the own slab that the copy read. -/
def talkRd : Rounds.Schedule (GSem nD τ sig) (Fin 3) 𝕄 where
  duties g r := if r = 0 then (match part g with | some (.bar _) => Finset.univ | some _ => {0} | none => ∅) else ∅
  unitless _ := False
  amount g _ _ := match part g with | some (.send a _) => chN a | some (.recv a _) => chN a | _ => 1
  payload g _ j := match part g with
    | some (.bar b) => barPay b j g.1.1
    | some (.send a i) => pts a g.1.1 g.1.1 (sh i) (G a)
    | some (.recv a i) => pts a (pv i g.1.1) g.1.1 fullShare (G a)
    | none => iprop(emp)
  amount_pos g _ _ _ := by
    rcases part g with _ | (_ | ⟨a, i⟩ | ⟨a, i⟩)
    · exact Nat.one_pos
    · exact Nat.one_pos
    · exact chN_pos a
    · exact chN_pos a

instance barPay_storable (b : Fin 2) (j : Fin 3) (c : Dev nD) : BI.Storable (upEmb : UEmb _ 𝕄) (barPay (F := F) b j c) := by
  fin_cases b <;> (dsimp only [barPay]; unfold room; infer_instance)

instance talkRd_payload_storable (g : GSem nD τ sig) (r : ℕ) (d : Fin 3) :
    BI.Storable (upEmb : UEmb _ 𝕄) ((talkRd (F := F) G).payload g r d) := by
  dsimp only [talkRd]
  rcases part g with _ | (b | ⟨a, i⟩ | ⟨a, i⟩) <;> dsimp only <;> infer_instance

variable (a : Fin 5) (b : Fin 2) (i : Fin 3) (c : Dev nD)

theorem duties_bar : (talkRd G).duties (barCell b c) 0 = Finset.univ := by
  dsimp only [talkRd]; rw [if_pos rfl, part_bar]
theorem duties_send : (talkRd G).duties (sendCell a i c) 0 = {0} := by
  dsimp only [talkRd]; rw [if_pos rfl, part_send]
theorem duties_recv : (talkRd G).duties (recvCell a i c) 0 = {0} := by
  dsimp only [talkRd]; rw [if_pos rfl, part_recv]
theorem duties_later (g : GSem nD τ sig) : ∀ r, 1 ≤ r → (talkRd G).duties g r = ∅ :=
  fun r hr => by dsimp only [talkRd]; rw [if_neg (by omega)]

theorem amount_bar (j : Fin 3) : (talkRd G).amount (barCell b c) 0 j = 1 := by dsimp only [talkRd]; rw [part_bar]
theorem amount_send (j : Fin 3) : (talkRd G).amount (sendCell a i c) 0 j = chN a := by dsimp only [talkRd]; rw [part_send]
theorem amount_recv (j : Fin 3) : (talkRd G).amount (recvCell a i c) 0 j = chN a := by dsimp only [talkRd]; rw [part_recv]

theorem payload_bar (j : Fin 3) : (talkRd G).payload (barCell b c) 0 j = barPay b j c := by dsimp only [talkRd]; rw [part_bar]
theorem payload_send (j : Fin 3) : (talkRd G).payload (sendCell a i c) 0 j = pts a c c (sh i) (G a) := by
  dsimp only [talkRd]; rw [part_send]
theorem payload_recv (j : Fin 3) : (talkRd G).payload (recvCell a i c) 0 j = pts a (pv i c) c fullShare (G a) := by
  dsimp only [talkRd]; rw [part_recv]

theorem expect_bar : (talkRd G).expect (barCell b c) 0 = 3 := by
  unfold Schedule.expect Schedule.amountOf
  rw [duties_bar, Finset.sum_congr rfl fun j _ => amount_bar G b c j]; rfl
theorem expect_send : (talkRd G).expect (sendCell a i c) 0 = chN a := by
  unfold Schedule.expect Schedule.amountOf; rw [duties_send, Finset.sum_singleton, amount_send]
theorem expect_recv : (talkRd G).expect (recvCell a i c) 0 = chN a := by
  unfold Schedule.expect Schedule.amountOf; rw [duties_recv, Finset.sum_singleton, amount_recv]

/-- All three barrier payloads at once. -/
theorem rest_bar : bigSep ((talkRd G).duties (barCell b c) 0 \ ∅) (fun j => (talkRd G).payload (barCell b c) 0 j)
    = iprop(barPay b 0 c ∗ barPay b 1 c ∗ barPay b 2 c) := by
  rw [Finset.sdiff_empty, duties_bar, BI.bigSep_congr fun j _ => payload_bar G b c j]
  exact bigSep_eq_bigSepL_of_eq [0, 1, 2] (by decide) (by decide) _
theorem rest_send : bigSep ((talkRd G).duties (sendCell a i c) 0 \ ∅) (fun j => (talkRd G).payload (sendCell a i c) 0 j)
    = pts a c c (sh i) (G a) := by
  rw [Finset.sdiff_empty, duties_send, bigSep_singleton, payload_send]
theorem rest_recv : bigSep ((talkRd G).duties (recvCell a i c) 0 \ ∅) (fun j => (talkRd G).payload (recvCell a i c) 0 j)
    = pts a (pv i c) c fullShare (G a) := by
  rw [Finset.sdiff_empty, duties_recv, bigSep_singleton, payload_recv]

end Sched

/-! ## What each device owes; the levels -/

/-- A list of dues, the first to be paid first. -/
def owe : List (GSem nD τ sig × ℕ) → CellTallies nD τ sig Unit
  | [] => 0
  | x :: l => owe l + tallyAt x.1 () x.2

/-- What device `c` pays the others in the second kernel, in order; -/
def dues1 (c : Dev nD) : List (GSem nD τ sig × ℕ) :=
  [(barCell 1 (nx 0 c), 1), (barCell 1 (nx 1 c), 1), (barCell 1 (nx 2 c), 1),
   (recvCell 3 0 (nx 0 c), chN 3), (recvCell 3 1 (nx 1 c), chN 3), (recvCell 3 2 (nx 2 c), chN 3),
   (recvCell 4 0 (nx 0 c), chN 4), (recvCell 4 1 (nx 1 c), chN 4), (recvCell 4 2 (nx 2 c), chN 4)]
/-- in both. -/
def dues0 (c : Dev nD) : List (GSem nD τ sig × ℕ) :=
  (barCell 0 (nx 0 c), 1) :: (barCell 0 (nx 1 c), 1) :: (barCell 0 (nx 2 c), 1) ::
  (recvCell 1 0 (nx 0 c), chN 1) :: (recvCell 2 0 (nx 0 c), chN 2) ::
  (recvCell 1 1 (nx 1 c), chN 1) :: (recvCell 2 1 (nx 1 c), chN 2) ::
  (recvCell 1 2 (nx 2 c), chN 1) :: (recvCell 2 2 (nx 2 c), chN 2) ::
  (recvCell 0 0 (nx 0 c), chN 0) :: (recvCell 0 1 (nx 1 c), chN 0) :: (recvCell 0 2 (nx 2 c), chN 0) :: dues1 c

/-- Every semaphore of a tensor core has the one index. -/
def L (g : GSem nD τ sig) : Finset Unit := if g.1.2 = .tc then {()} else ∅

/-- The levels: the staging semaphores lowest, then the first kernel's barrier, its copies, the second's barrier, its copies. -/
def lvP : Option Part → ℕ
  | none => 0
  | some (.bar b) => 1 + 2 * b.val
  | some (.send a _) => if a.val < 3 then 2 else 4
  | some (.recv a _) => if a.val < 3 then 2 else 4
/-- A cell's level. -/
def lv (g : GSem nD τ sig) (_ : Unit) : ℕ := lvP (part g)

theorem L_of_ne (g : GSem nD τ sig) (h : g.1.2 ≠ .tc) : L g = ∅ := if_neg h
theorem L_tc (c : Dev nD) (sm : SemLoc sig) : L ((c : Thread nD τ), sm) = {()} := if_pos rfl

/-- A cell with something due in a list is on the list. -/
theorem mem_of_owe {l : List (GSem nD τ sig × ℕ)} {g : GSem nD τ sig} {u : Unit} (h : 0 < owe l g u) : ∃ x ∈ l, x.1 = g := by
  induction l with
  | nil => exact absurd h (Nat.lt_irrefl 0)
  | cons x l ih =>
    by_cases hx : x.1 = g
    · exact ⟨x, List.mem_cons_self, hx⟩
    · have : owe (x :: l) g u = owe l g u := by
        show owe l g u + tallyAt x.1 () x.2 g u = _
        rw [tallyAt_apply, if_neg fun h => hx h.1.symm, Nat.add_zero]
      rw [this] at h
      obtain ⟨y, hy, e⟩ := ih h
      exact ⟨y, List.mem_cons_of_mem _ hy, e⟩

/-- All dues of a list lie on tensor cores' cells of level above `n`. -/
def Above (n : ℕ) (l : List (GSem nD τ sig × ℕ)) : Prop := ∀ x ∈ l, x.1.1.2 = .tc ∧ n < lvP (part x.1)

theorem Above.nil (n : ℕ) : Above n [] := fun _ h => absurd h List.not_mem_nil
theorem Above.cons {n : ℕ} {x : GSem nD τ sig × ℕ} {l : List (GSem nD τ sig × ℕ)} (hx : x.1.1.2 = .tc ∧ n < lvP (part x.1))
    (hl : Above n l) : Above n (x :: l) := fun y hy => by
  rcases List.mem_cons.mp hy with rfl | h
  · exact hx
  · exact hl y h
theorem Above.tail {n : ℕ} {x : GSem nD τ sig × ℕ} {l : List (GSem nD τ sig × ℕ)} (h : Above n (x :: l)) : Above n l :=
  fun y hy => h y (List.mem_cons_of_mem _ hy)
theorem Above.mono {n k : ℕ} {l : List (GSem nD τ sig × ℕ)} (h : Above n l) (hk : k ≤ n) : Above k l :=
  fun y hy => ⟨(h y hy).1, Nat.lt_of_le_of_lt hk (h y hy).2⟩

theorem above_bar (n : ℕ) (b : Fin 2) (c : Dev nD) (k : ℕ) (h : n < 1 + 2 * b.val) : ((barCell b c, k) : GSem nD τ sig × ℕ).1.1.2 = .tc ∧
    n < lvP (part (barCell b c)) := ⟨rfl, by rw [part_bar]; exact h⟩
theorem above_recv (n : ℕ) (a : Fin 5) (i : Fin 3) (c : Dev nD) (k : ℕ) (h : n < if a.val < 3 then 2 else 4) :
    ((recvCell a i c, k) : GSem nD τ sig × ℕ).1.1.2 = .tc ∧ n < lvP (part (recvCell a i c)) := ⟨rfl, by rw [part_recv]; exact h⟩

/-- The second kernel's copies lie above its barrier, -/
theorem above_copies1 (c : Dev nD) : Above 3 ((dues1 c).drop 3) := by
  show Above 3 [_, _, _, _, _, _]
  exact .cons (above_recv 3 3 _ _ _ (by decide)) (.cons (above_recv 3 3 _ _ _ (by decide)) (.cons (above_recv 3 3 _ _ _ (by decide))
    (.cons (above_recv 3 4 _ _ _ (by decide)) (.cons (above_recv 3 4 _ _ _ (by decide)) (.cons (above_recv 3 4 _ _ _ (by decide)) (.nil _))))))
/-- all its dues above the first kernel's cells, -/
theorem above_dues1 (c : Dev nD) : Above 2 (dues1 c) :=
  .cons (above_bar 2 1 _ _ (by decide)) (.cons (above_bar 2 1 _ _ (by decide)) (.cons (above_bar 2 1 _ _ (by decide))
    ((above_copies1 c).mono (by decide))))
/-- all of the first kernel's copies above its barrier, -/
theorem above_copies0 (c : Dev nD) : Above 1 ((dues0 c).drop 3) := by
  show Above 1 (_ :: _ :: _ :: _ :: _ :: _ :: _ :: _ :: _ :: dues1 c)
  exact .cons (above_recv 1 1 _ _ _ (by decide)) (.cons (above_recv 1 2 _ _ _ (by decide)) (.cons (above_recv 1 1 _ _ _ (by decide))
    (.cons (above_recv 1 2 _ _ _ (by decide)) (.cons (above_recv 1 1 _ _ _ (by decide)) (.cons (above_recv 1 2 _ _ _ (by decide))
    (.cons (above_recv 1 0 _ _ _ (by decide)) (.cons (above_recv 1 0 _ _ _ (by decide)) (.cons (above_recv 1 0 _ _ _ (by decide))
    ((above_dues1 c).mono (by decide))))))))))
/-- and everything above the staging semaphores. -/
theorem above_dues0 (c : Dev nD) : Above 0 (dues0 c) :=
  .cons (above_bar 0 0 _ _ (by decide)) (.cons (above_bar 0 0 _ _ (by decide)) (.cons (above_bar 0 0 _ _ (by decide))
    ((above_copies0 c).mono (by decide))))

omit [FloatOps F] [Named F] in
/-- A device may wait on a cell while it owes only what lies above it. -/
theorem mayWait {n : ℕ} {l : List (GSem nD τ sig × ℕ)} (hl : Above n l) (c : Dev nD) (sm : SemLoc sig)
    (hn : lvP (part ((c : Thread nD τ), sm)) ≤ n) :
    (levAts L lv : sProp 𝕄) ⊢ MayWait (c : Thread nD τ) sm () (owe l) :=
  MayOwe.of_cut (L := L) (lev := lv) n (fun p hp => by rw [Finset.mem_singleton.mp hp, L_tc]; exact Finset.mem_singleton_self _)
    (fun g u hg => by
      obtain ⟨x, hx, rfl⟩ := mem_of_owe hg
      unfold L; rw [if_pos (hl x hx).1]; exact Finset.mem_singleton_self _)
    (fun p hp => by rw [Finset.mem_singleton.mp hp]; exact hn)
    (fun g u hg => by
      obtain ⟨x, hx, rfl⟩ := mem_of_owe hg
      exact (hl x hx).2)

end Cert.Proof

end
-- ==== Proof.Ops.lean ====
/-
  The exchange, one operation at a time: announcing, waiting for the announcements, sending a slab, waiting for a slab to
  have come or to have left. Each is the rounds library's rule at this program's cells, stated over bundles: what belongs to
  one copy (channel, index) moves from `pre` to `sent` to `rcvd` to `done`.
-/
module

public import proofs.«01_k».proof.Proof.Chan

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-- No kernel here has variants. -/
abbrev 𝒱₀ : Variants := Variants.none

/-- What device `c`'s TensorCore has to meet to run a program, outside any call. -/
abbrev Wp {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## All cells at once -/

/-- A barrier cell, by kernel and device. -/
def barEmb : Fin 2 × Dev nD ↪ GSem nD τ sig :=
  ⟨fun x => barCell x.1 x.2, fun x y h => by
    have h1 := (part_bar x.1 x.2).symm.trans ((congrArg part h).trans (part_bar y.1 y.2))
    have h2 : x.2 = y.2 := congrArg (fun g : GSem nD τ sig => g.1.1) h
    exact Prod.ext (by injection h1 with h1; injection h1) h2⟩

/-- A send (`false`) or receive (`true`) cell, by channel, index and device. -/
def dmaCell (x : Bool × Fin 5 × Fin 3 × Dev nD) : GSem nD τ sig :=
  if x.1 then recvCell x.2.1 x.2.2.1 x.2.2.2 else sendCell x.2.1 x.2.2.1 x.2.2.2
theorem dmaCell_part (x : Bool × Fin 5 × Fin 3 × Dev nD) :
    part (dmaCell x) = some (if x.1 then .recv x.2.1 x.2.2.1 else .send x.2.1 x.2.2.1) := by
  rcases x with ⟨_ | _, a, i, c⟩
  · exact part_send a i c
  · exact part_recv a i c
theorem dmaCell_dev (x : Bool × Fin 5 × Fin 3 × Dev nD) : (dmaCell x).1.1 = x.2.2.2 := by
  rcases x with ⟨_ | _, a, i, c⟩ <;> rfl

def dmaEmb : Bool × Fin 5 × Fin 3 × Dev nD ↪ GSem nD τ sig :=
  ⟨dmaCell, fun x y h => by
    have h1 := (dmaCell_part x).symm.trans ((congrArg part h).trans (dmaCell_part y))
    have h2 := (dmaCell_dev x).symm.trans ((congrArg (fun g : GSem nD τ sig => g.1.1) h).trans (dmaCell_dev y))
    rcases x with ⟨_ | _, a, i, c⟩ <;> rcases y with ⟨_ | _, a', i', c'⟩ <;> simp_all⟩

/-- The barrier cells, funded at launch; -/
abbrev barCells : Finset (GSem nD τ sig) := Finset.univ.map barEmb
/-- the kernels' own cells, dormant until their kernel runs. -/
abbrev dmaCells : Finset (GSem nD τ sig) := Finset.univ.map dmaEmb

theorem mem_bar (b : Fin 2) (c : Dev nD) : barCell b c ∈ barCells := Finset.mem_map.mpr ⟨(b, c), Finset.mem_univ _, rfl⟩
theorem mem_send (a : Fin 5) (i : Fin 3) (c : Dev nD) : sendCell a i c ∈ dmaCells :=
  Finset.mem_map.mpr ⟨(false, a, i, c), Finset.mem_univ _, rfl⟩
theorem mem_recv (a : Fin 5) (i : Fin 3) (c : Dev nD) : recvCell a i c ∈ dmaCells :=
  Finset.mem_map.mpr ⟨(true, a, i, c), Finset.mem_univ _, rfl⟩

section

variable (G : Gath F) (κ : GSem nD τ sig → ℕ)

/-- What everyone knows: every cell's invariant, that every barrier cell is open, the levels. -/
def recs : sProp 𝕄 :=
  iprop((bigSep (barCells ∪ dmaCells) fun g => cellInv ER (talkRd G) (κ g) g) ∗ (bigSep barCells fun g => reached ER g 0) ∗ levAts L lv)

instance recs_persistent : BI.Persistent (recs G κ) := by unfold recs; infer_instance

theorem recs_inv {g : GSem nD τ sig} (h : g ∈ barCells ∪ dmaCells) : recs G κ ⊢ cellInv ER (talkRd G) (κ g) g := by
  unfold recs
  iintro ⟨H, -⟩
  iapply (show (bigSep (barCells ∪ dmaCells) fun g => cellInv ER (talkRd G) (κ g) g) ⊢ cellInv ER (talkRd G) (κ g) g from bigSep_elim h) $$ H
theorem recs_bar (b : Fin 2) (c : Dev nD) : recs G κ ⊢ cellInv ER (talkRd G) (κ (barCell b c)) (barCell b c) :=
  recs_inv G κ (Finset.mem_union_left _ (mem_bar b c))
theorem recs_send (a : Fin 5) (i : Fin 3) (c : Dev nD) : recs G κ ⊢ cellInv ER (talkRd G) (κ (sendCell a i c)) (sendCell a i c) :=
  recs_inv G κ (Finset.mem_union_right _ (mem_send a i c))
theorem recs_recv (a : Fin 5) (i : Fin 3) (c : Dev nD) : recs G κ ⊢ cellInv ER (talkRd G) (κ (recvCell a i c)) (recvCell a i c) :=
  recs_inv G κ (Finset.mem_union_right _ (mem_recv a i c))
theorem recs_reached (b : Fin 2) (c : Dev nD) : recs G κ ⊢ reached ER (barCell b c) 0 := by
  unfold recs
  iintro ⟨-, H, -⟩
  iapply (show (bigSep barCells fun g => (reached ER g 0 : sProp 𝕄)) ⊢ reached ER (barCell b c) 0 from bigSep_elim (mem_bar b c)) $$ H
theorem recs_lev : recs G κ ⊢ (levAts L lv : sProp 𝕄) := by
  unfold recs
  iintro ⟨-, -, H⟩
  iexact H

end

/-! ## The bundles -/

/-- What device `c` owes, whatever it has waited on so far. -/
def ow (c : Dev nD) (l : List (GSem nD τ sig × ℕ)) : sProp 𝕄 := iprop(∃ W, owes (c : Thread nD τ) (owe l) W)

/-- One copy from launch: the rights to open its two cells, the tokens to pay the own send duty and the peer's receive duty,
    the right to wait for what comes in. -/
def asleep (a : Fin 5) (i : Fin 3) (c : Dev nD) : sProp 𝕄 :=
  iprop(openTok ER (sendCell a i c) ∗ openTok ER (recvCell a i c) ∗ dutyTok ER (sendCell a i c) 0 0
    ∗ dutyTok ER (recvCell a i (nx i c)) 0 0 ∗ cred (tallyAt (recvCell a i c) () (chN a)))
/-- Its cells open: before it is sent; -/
def pre (a : Fin 5) (i : Fin 3) (c : Dev nD) : sProp 𝕄 :=
  iprop(reached ER (sendCell a i c) 0 ∗ atPos ER (sendCell a i c) 0 ∅ 0 ∗ atPos ER (recvCell a i c) 0 ∅ 0 ∗ dutyTok ER (sendCell a i c) 0 0
    ∗ dutyTok ER (recvCell a i (nx i c)) 0 0 ∗ cred (tallyAt (recvCell a i c) () (chN a)))
/-- once sent; -/
def sent (a : Fin 5) (i : Fin 3) (c : Dev nD) : sProp 𝕄 :=
  iprop(cred (tallyAt (sendCell a i c) () (chN a)) ∗ atPos ER (sendCell a i c) 0 ∅ 0 ∗ atPos ER (recvCell a i c) 0 ∅ 0
    ∗ cred (tallyAt (recvCell a i c) () (chN a)))
/-- once the peer's has come; -/
def rcvd (a : Fin 5) (i : Fin 3) (c : Dev nD) : sProp 𝕄 :=
  iprop(cred (tallyAt (sendCell a i c) () (chN a)) ∗ atPos ER (sendCell a i c) 0 ∅ 0 ∗ atPos ER (recvCell a i c) (0 + 1) ∅ 0)
/-- once the own has left. -/
def done (a : Fin 5) (i : Fin 3) (c : Dev nD) : sProp 𝕄 :=
  iprop(atPos ER (sendCell a i c) (0 + 1) ∅ 0 ∗ atPos ER (recvCell a i c) (0 + 1) ∅ 0)
/-- A copy about to be sent: with the share it reads and the room it fills. -/
def ready (G : Gath F) (a : Fin 5) (i : Fin 3) (c : Dev nD) : sProp 𝕄 :=
  iprop(pre a i c ∗ pts a c c (sh i) (G a) ∗ room a i c)
/-- One announcement from launch: the token. -/
def call (b : Fin 2) (i : Fin 3) (c : Dev nD) : sProp 𝕄 := dutyTok ER (barCell b (nx i c)) 0 (Fin.rev i)

section Steps

variable (G : Gath F) (κ : GSem nD τ sig → ℕ)

/-- Opening one copy's cells. -/
theorem wake (a : Fin 5) (i : Fin 3) (c : Dev nD) :
    iprop(recs G κ ∗ asleep a i c ∗ semVal (sendCell a i c) 0 ∗ semVal (recvCell a i c) 0)
      ⊢ (|={Set.univ}=> (pre a i c ∗ reached ER (recvCell a i c) 0) : sProp 𝕄) := by
  unfold asleep pre
  iintro ⟨#Hr, ⟨HoS, HoR, HtS, HtR, Hc⟩, HvS, HvR⟩
  imod (Rounds.cell_open ER (talkRd G) (g := sendCell a i c) (Set.mem_univ (κ (sendCell a i c)))) $$ [HoS HvS] with ⟨HaS, #HrS⟩
  · isplitr; · iapply (recs_send G κ a i c) $$ Hr
    isplitl [HoS] <;> iassumption
  imod (Rounds.cell_open ER (talkRd G) (g := recvCell a i c) (Set.mem_univ (κ (recvCell a i c)))) $$ [HoR HvR] with ⟨HaR, #HrR⟩
  · isplitr; · iapply (recs_recv G κ a i c) $$ Hr
    isplitl [HoR] <;> iassumption
  imodintro
  isplitl
  · isplitr; · iexact HrS
    isplitl [HaS]; · iexact HaS
    isplitl [HaR]; · iexact HaR
    isplitl [HtS]; · iexact HtS
    isplitl [HtR]; · iexact HtR
    iexact Hc
  iexact HrR

/-- Closing them. -/
theorem shut (a : Fin 5) (i : Fin 3) (c : Dev nD) :
    iprop(recs G κ ∗ done a i c) ⊢ (|={Set.univ}=> (semVal (sendCell a i c) 0 ∗ semVal (recvCell a i c) 0) : sProp 𝕄) := by
  unfold done
  iintro ⟨#Hr, HaS, HaR⟩
  imod (Rounds.cell_close ER (talkRd G) (Set.mem_univ (κ (sendCell a i c))) (fun h => h) (R := 0 + 1) (duties_later G (sendCell a i c))) $$ [HaS] with HvS
  · isplitr; · iapply (recs_send G κ a i c) $$ Hr
    iexact HaS
  imod (Rounds.cell_close ER (talkRd G) (Set.mem_univ (κ (recvCell a i c))) (fun h => h) (R := 0 + 1) (duties_later G (recvCell a i c))) $$ [HaR] with HvR
  · isplitr; · iapply (recs_recv G κ a i c) $$ Hr
    iexact HaR
  imodintro
  isplitl [HvS] <;> iassumption

theorem shutBar (b : Fin 2) (c : Dev nD) :
    iprop(recs G κ ∗ atPos ER (barCell b c) (0 + 1) ∅ 0) ⊢ (|={Set.univ}=> semVal (barCell b c) 0 : sProp 𝕄) := by
  iintro ⟨#Hr, Ha⟩
  iapply (Rounds.cell_close ER (talkRd G) (Set.mem_univ (κ (barCell b c))) (fun h => h) (R := 0 + 1) (duties_later G (barCell b c)))
  isplitr; · iapply (recs_bar G κ b c) $$ Hr
  iexact Ha

/-- What device `c` hands the peer `nx i c`: its room for that peer's slab. -/
theorem room_mk (a : Fin 5) (i : Fin 3) (c : Dev nD) :
    iprop((∃ f, pts a (nx i c) c fullShare f) ∗ reached ER (recvCell a (Fin.rev i) c) 0) ⊢ (room a (Fin.rev i) (nx i c) : sProp 𝕄) := by
  unfold room; rw [nx_rev]

/-- ANNOUNCING to the peer `nx i c`: pays one duty of its barrier cell, handing over the room for its slabs. -/
theorem step_signal {α : Type} {Q : α → sProp 𝕄} {k : PUnit → Prog (TpuEff nD τ sig (Elt F) Λ₀ .tc) α}
    (b : Fin 2) (i : Fin 3) (c n : Dev nD) (hn : n = nx i c) (s : Sem sig) (hs : s = barSem b) (v : ℤ) (hv : v = ((1 : ℕ) : ℤ))
    (l : List (GSem nD τ sig × ℕ)) :
    iprop(recs G κ ∗ ow c ((barCell b (nx i c), 1) :: l) ∗ call b i c ∗ barPay b (Fin.rev i) (nx i c))
      ⊢ iprop((ow c l -∗ Wp c (k ⟨⟩) Q) -∗ Wp c (.op (.semSignal (n, .tc) s v) k) Q) := by
  subst hn hs hv
  unfold ow call
  iintro ⟨#Hr, ⟨%W, HO⟩, Ht, Hp⟩ Hk
  iapply (Rounds.wp_signal 𝒱₀ ER (talkRd G) (c : Thread nD τ) none (dst := (nx i c : Thread nD τ)) (sem := barSem b) (r := 0)
      (d := Fin.rev i) (κ := κ (barCell b (nx i c))) (by rw [duties_bar]; exact Finset.mem_univ _) (amount_bar G b (nx i c) _) () (owe l) rfl)
    $$ [HO Ht Hp]
  · isplitr; · iapply (recs_bar G κ b (nx i c)) $$ Hr
    isplitl [HO]; · iexact HO
    isplitl [Ht]; · iexact Ht
    isplitl [Hp]; · rw [payload_bar]; iexact Hp
    iapply (recs_reached G κ b (nx i c)) $$ Hr
  iintro HO
  iapply Hk
  iexists W; iexact HO

/-- WAITING for the three announcements: the peers' rooms come with them. -/
theorem step_waitBar {α : Type} {Q : α → sProp 𝕄} {k : PUnit → Prog (TpuEff nD τ sig (Elt F) Λ₀ .tc) α}
    (b : Fin 2) (c : Dev nD) (s : Sem sig) (hs : s = barSem b) (v : ℤ) (hv : v = ((3 : ℕ) : ℤ))
    (l : List (GSem nD τ sig × ℕ)) (n : ℕ) (hl : Above n l) (hb : 1 + 2 * b.val ≤ n) :
    iprop(recs G κ ∗ ow c l ∗ cred (tallyAt (barCell b c) () 3) ∗ atPos ER (barCell b c) 0 ∅ 0)
      ⊢ iprop(((ow c l ∗ atPos ER (barCell b c) (0 + 1) ∅ 0 ∗ barPay b 0 c ∗ barPay b 1 c ∗ barPay b 2 c) -∗ Wp c (k ⟨⟩) Q)
          -∗ Wp c (.op (.semWait s v) k) Q) := by
  subst hs hv
  unfold ow
  iintro ⟨#Hr, ⟨%W, HO⟩, Hc, Ha⟩ Hk
  iapply (Rounds.wp_wait_rest_token 𝒱₀ ER (talkRd G) (c : Thread nD τ) none (κ := κ (barCell b c))
      (wpE_semWait_eq 𝒱₀ (c : Thread nD τ) none Set.univ) (Set.mem_univ _) () (O := owe l) (W := W) (R := 0) (m := 0) (T := ∅)
      ((Nat.zero_add 3).trans (expect_bar G b c).symm)) $$ [Hc HO Ha]
  · isplitr; · iapply (recs_bar G κ b c) $$ Hr
    isplitl [Hc]; · iexact Hc
    isplitl [HO]; · iexact HO
    isplitr
    · iapply (mayWait hl c (.reg (barSem b)) (by rw [part_bar]; exact hb))
      iapply (recs_lev G κ) $$ Hr
    iexact Ha
  iintro ⟨HO, Ha, -, Hp⟩
  ihave Hp := (Entails.of_eq (rest_bar G b c)) $$ Hp
  iapply Hk
  isplitl [HO]; · iexists _; iexact HO
  isplitl [Ha]; · iexact Ha
  iexact Hp

/-- SENDING, the part common to all channels. -/
theorem step_send {α : Type} {Q : α → sProp 𝕄} {k : PUnit → Prog (TpuEff nD τ sig (Elt F) Λ₀ .tc) α} {s : Shape}
    (M : Memref sig .tc .vmem s .bf16) (a : Fin 5) (i : Fin 3) (c n : Dev nD) (hn : n = nx i c)
    (sS sR : DmaSem sig) (hS : sS = sendSem a i) (hR : sR = recvSem a i)
    (fs : M.view.ref.ty.Contents (Elt F)) (hN : M.view.dmaCredit = chN a)
    (hroom : (iprop(∃ f, pts a c (nx i c) fullShare f) : sProp 𝕄)
      ⊢ iprop(∃ f : M.view.ref.ty.Contents (Elt F), M.view.loc (nx i c : Thread nD τ) ↦[M.view.set]{fullShare} f))
    (hsrc' : (pts a c c (sh i) (G a) : sProp 𝕄) ⊢ (M.view.loc (c : Thread nD τ) ↦[M.view.set]{sh i} fs))
    (hpay₁ : (M.view.loc (c : Thread nD τ) ↦[M.view.set]{sh i} fs) ⊢ (pts a c c (sh i) (G a) : sProp 𝕄))
    (hpay₂ : ∀ fd : M.view.ref.ty.Contents (Elt F), (M.view.loc (nx i c : Thread nD τ) ↦[M.view.set]{fullShare} (M.view.write (Elt F) fd (M.view.read (Elt F) fs) Finset.univ))
      ⊢ (pts a c (nx i c) fullShare (G a) : sProp 𝕄))
    {hsc : (M : Memref sig (Dev.tc n : Thread nD τ).2.kind .vmem s .bf16).view.ref.isScScratch = false}
    {hsrc : M.view.WordExact} {hdst : M.view.WordExact}
    {hsem : DmaTarget.Typed .vmem (.dma sR) (.remote (Dev.tc n : Thread nD τ) (M : Memref sig .tc .vmem s .bf16) (.dma sS) hsc)}
    (l : List (GSem nD τ sig × ℕ)) :
    iprop(recs G κ ∗ ow c ((recvCell a i (nx i c), chN a) :: l) ∗ ready G a i c)
      ⊢ iprop(((ow c l ∗ sent a i c) -∗ Wp c (k ⟨⟩) Q)
          -∗ Wp c (.op (.enqueueDma M (.remote (Dev.tc n : Thread nD τ) M (.dma sS) hsc) (.dma sR) hsrc hdst hsem) k) Q) := by
  subst hn hS hR
  unfold ow ready pre room sent
  iintro ⟨#Hr, ⟨%W, HO⟩, ⟨#HrS, HaS, HaR, HtS, HtR, Hc⟩, Hsrc, Hroom, #HrR⟩ Hk
  ihave Hsrc := hsrc' $$ Hsrc
  ihave Hroom := hroom $$ Hroom
  icases Hroom with ⟨%fd, Hdst⟩
  iapply (Rounds.wp_send_pointsTo 𝒱₀ ER (talkRd G) (c : Thread nD τ) none (c' := (nx i c : Thread nD τ)) (src := M) (dst := M)
      (sS := .dma (sendSem a i)) (sem := .dma (recvSem a i)) (q := sh i) (fs := fs) (κ₁ := κ (sendCell a i c)) (κ₂ := κ (recvCell a i (nx i c)))
      (r₁ := 0) (r₂ := 0) (d₁ := 0) (d₂ := 0) (fd := fd)
      (by rw [duties_send]; exact Finset.mem_singleton_self _) (by rw [duties_recv]; exact Finset.mem_singleton_self _)
      () () (chN a) hN (amount_send G a i c 0) (amount_recv G a i (nx i c) 0) (owe l) rfl (W := W)
      (by rw [payload_send]; exact hpay₁)
      (by rw [payload_recv, pv_nx]; exact hpay₂ fd)) $$ [HO HtS HtR Hsrc Hdst]
  · isplitr; · iapply (recs_send G κ a i c) $$ Hr
    isplitr; · iapply (recs_recv G κ a i (nx i c)) $$ Hr
    isplitl [Hsrc]; · iexact Hsrc
    isplitl [Hdst]; · iexact Hdst
    isplitl [HO]; · iexact HO
    isplitl [HtS]; · iexact HtS
    isplitr; · iexact HrS
    isplitl [HtR]; · iexact HtR
    iexact HrR
  iintro ⟨HcS, HO⟩
  iapply Hk
  isplitl [HO]; · iexists W; iexact HO
  isplitl [HcS]; · iexact HcS
  isplitl [HaS]; · iexact HaS
  isplitl [HaR]; · iexact HaR
  iexact Hc

omit [FloatOps F] [Named F] in
/-- A copy lands what it read: on the slab, the source's contents. -/
theorem landed {s : Shape} {e : EltTy} (M : Memref sig .tc .vmem s e) (fd g : M.view.ref.ty.Contents (Elt F)) :
    ∀ x ∈ M.view.set, M.view.write (Elt F) fd (M.view.read (Elt F) g) Finset.univ x = g x := by
  intro x hx
  rw [View.write_read_eq_piecewise]
  exact Finset.piecewise_eq_of_mem _ _ _ (by rwa [View.setOn_univ])

/-- WAITING for the peer's slab. -/
theorem step_recv {α : Type} {Q : α → sProp 𝕄} {k : PUnit → Prog (TpuEff nD τ sig (Elt F) Λ₀ .tc) α} {s s' : Shape} {sp sp' : Space} {e e' : EltTy}
    (a : Fin 5) (i : Fin 3) (c : Dev nD) (sR : DmaSem sig) (hR : sR = recvSem a i)
    {src : Memref sig .tc sp' s' e'} {dst : Memref sig .tc sp s e} (hN : dst.view.dmaCredit = chN a)
    {hsrc : src.view.WordExact} {hdst : dst.view.WordExact}
    (l : List (GSem nD τ sig × ℕ)) (n : ℕ) (hl : Above n l) (hb : (if a.val < 3 then 2 else 4) ≤ n) :
    iprop(recs G κ ∗ ow c l ∗ sent a i c)
      ⊢ iprop(((ow c l ∗ rcvd a i c ∗ pts a (pv i c) c fullShare (G a)) -∗ Wp c (k ⟨⟩) Q)
          -∗ Wp c (.op (.waitDma2 sR src dst hsrc hdst) k) Q) := by
  subst hR
  unfold ow sent rcvd
  iintro ⟨#Hr, ⟨%W, HO⟩, HcS, HaS, HaR, Hc⟩ Hk
  iapply (Rounds.wp_wait_rest_token 𝒱₀ ER (talkRd G) (c : Thread nD τ) none (κ := κ (recvCell a i c))
      (wpE_waitDma2_eq 𝒱₀ (c : Thread nD τ) none Set.univ) (Set.mem_univ _) () (O := owe l) (W := W) (R := 0) (m := 0) (T := ∅)
      ((Nat.zero_add _).trans (hN.trans (expect_recv G a i c).symm))) $$ [Hc HO HaR]
  · isplitr; · iapply (recs_recv G κ a i c) $$ Hr
    isplitl [Hc]; · rw [hN]; iexact Hc
    isplitl [HO]; · iexact HO
    isplitr
    · iapply (mayWait hl c (.dma (recvSem a i)) (by rw [part_recv]; exact hb))
      iapply (recs_lev G κ) $$ Hr
    iexact HaR
  iintro ⟨HO, HaR, -, Hp⟩
  ihave Hp := (Entails.of_eq (rest_recv G a i c)) $$ Hp
  iapply Hk
  isplitl [HO]; · iexists _; iexact HO
  isplitl [HcS HaS HaR]
  · isplitl [HcS]; · iexact HcS
    isplitl [HaS]; · iexact HaS
    iexact HaR
  iexact Hp

/-- WAITING for the own slab to have left: the share that was read comes back. -/
theorem step_left {α : Type} {Q : α → sProp 𝕄} {k : PUnit → Prog (TpuEff nD τ sig (Elt F) Λ₀ .tc) α} {s s' : Shape} {sp sp' : Space} {e e' : EltTy}
    (a : Fin 5) (i : Fin 3) (c : Dev nD) (sS : DmaSem sig) (hS : sS = sendSem a i)
    {src : Memref sig .tc sp' s' e'} {dst : Memref sig .tc sp s e} (hN : dst.view.dmaCredit = chN a)
    {hsrc : src.view.WordExact} {hdst : dst.view.WordExact}
    (l : List (GSem nD τ sig × ℕ)) (n : ℕ) (hl : Above n l) (hb : (if a.val < 3 then 2 else 4) ≤ n) :
    iprop(recs G κ ∗ ow c l ∗ rcvd a i c)
      ⊢ iprop(((ow c l ∗ done a i c ∗ pts a c c (sh i) (G a)) -∗ Wp c (k ⟨⟩) Q)
          -∗ Wp c (.op (.waitDma2 sS src dst hsrc hdst) k) Q) := by
  subst hS
  unfold ow rcvd done
  iintro ⟨#Hr, ⟨%W, HO⟩, HcS, HaS, HaR⟩ Hk
  iapply (Rounds.wp_wait_rest_token 𝒱₀ ER (talkRd G) (c : Thread nD τ) none (κ := κ (sendCell a i c))
      (wpE_waitDma2_eq 𝒱₀ (c : Thread nD τ) none Set.univ) (Set.mem_univ _) () (O := owe l) (W := W) (R := 0) (m := 0) (T := ∅)
      ((Nat.zero_add _).trans (hN.trans (expect_send G a i c).symm))) $$ [HcS HO HaS]
  · isplitr; · iapply (recs_send G κ a i c) $$ Hr
    isplitl [HcS]; · rw [hN]; iexact HcS
    isplitl [HO]; · iexact HO
    isplitr
    · iapply (mayWait hl c (.dma (sendSem a i)) (by rw [part_send]; exact hb))
      iapply (recs_lev G κ) $$ Hr
    iexact HaS
  iintro ⟨HO, HaS, -, Hp⟩
  ihave Hp := (Entails.of_eq (rest_send G a i c)) $$ Hp
  iapply Hk
  isplitl [HO]; · iexists _; iexact HO
  isplitl [HaS HaR]
  · isplitl [HaS]; · iexact HaS
    iexact HaR
  iexact Hp

end Steps

end Cert.Proof

end
-- ==== Proof.Slab.lean ====
/-
  The slabs inside their buffers: which elements each has, that the slabs of all devices make up the whole buffer, and the
  program's own loads and stores of a slab.
-/
module

public import proofs.«01_k».proof.Proof.Ops
public import Idealize.ShloMosaic.Lib.Pipeline.ValueKit.Geometry

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## Membership -/

/-- Of the latent's columns, device `s` has 128 from `128 s`; -/
theorem mem_slabA (s : Dev nD) (x : S1024x512.Idx) : x ∈ slabSet 0 s ↔ (x 1).val / 128 = s.val := by
  refine ValueKit.mem_set_slice_whole_iff cc0_scratch0 _ x ?_
  rw [Rect.mem_set_unit, o0_7]
  have h0 : (x 0).val < 1024 := (x 0).isLt
  have h1 : (x 1).val < 512 := (x 1).isLt
  refine (Fin.forall_fin_two).trans ?_
  show (0 ≤ (x 0).val ∧ (x 0).val < 0 + 1024) ∧ (128 * s.val ≤ (x 1).val ∧ (x 1).val < 128 * s.val + 128) ↔ _
  omega
/-- of the up-projections' rows likewise; -/
theorem mem_slabU (s : Dev nD) (x : S512x2048.Idx) : x ∈ slabSet 1 s ↔ (x 0).val / 128 = s.val := by
  refine ValueKit.mem_set_slice_whole_iff cc0_scratch1 _ x ?_
  rw [Rect.mem_set_unit, o0_2]
  have h0 : (x 0).val < 512 := (x 0).isLt
  have h1 : (x 1).val < 2048 := (x 1).isLt
  refine (Fin.forall_fin_two).trans ?_
  show (128 * s.val ≤ (x 0).val ∧ (x 0).val < 128 * s.val + 128) ∧ (0 ≤ (x 1).val ∧ (x 1).val < 0 + 2048) ↔ _
  omega
theorem mem_slabV (s : Dev nD) (x : S512x2048.Idx) : x ∈ slabSet 2 s ↔ (x 0).val / 128 = s.val := by
  refine ValueKit.mem_set_slice_whole_iff cc0_scratch2 _ x ?_
  rw [Rect.mem_set_unit, o0_2]
  have h0 : (x 0).val < 512 := (x 0).isLt
  have h1 : (x 1).val < 2048 := (x 1).isLt
  refine (Fin.forall_fin_two).trans ?_
  show (128 * s.val ≤ (x 0).val ∧ (x 0).val < 128 * s.val + 128) ∧ (0 ≤ (x 1).val ∧ (x 1).val < 0 + 2048) ↔ _
  omega
theorem mem_slabOh (h : Fin 2) (s : Dev nD) (x : S1024x2048.Idx) :
    x ∈ (slabO h s).view.set ↔ (x 0).val / 128 = 2 * s.val + h.val := by
  refine ValueKit.mem_set_slice_whole_iff cc1_scratch0 _ x ?_
  rw [Rect.mem_set_unit, o1_3]
  have h0 : (x 0).val < 1024 := (x 0).isLt
  have h1 : (x 1).val < 2048 := (x 1).isLt
  refine (Fin.forall_fin_two).trans ?_
  show (256 * s.val + 128 * h.val ≤ (x 0).val ∧ (x 0).val < 256 * s.val + 128 * h.val + 128) ∧ (0 ≤ (x 1).val ∧ (x 1).val < 0 + 2048) ↔ _
  have := h.isLt
  omega
/-- of the output's rows 256, in two halves. -/
theorem mem_slabO0 (s : Dev nD) (x : S1024x2048.Idx) : x ∈ slabSet 3 s ↔ (x 0).val / 128 = 2 * s.val := mem_slabOh 0 s x
theorem mem_slabO1 (s : Dev nD) (x : S1024x2048.Idx) : x ∈ slabSet 4 s ↔ (x 0).val / 128 = 2 * s.val + 1 := mem_slabOh 1 s x

theorem devs (c : Dev nD) : (Finset.univ : Finset (Dev nD)) = [c, nx 0 c, nx 1 c, nx 2 c].toFinset := by revert c; decide
theorem devs_nodup (c : Dev nD) : [c, nx 0 c, nx 1 c, nx 2 c].Nodup := by revert c; decide

omit [FloatOps F] [Named F] in
/-- A channel's whole buffer is the four slabs, once they are disjoint and cover it. -/
theorem whole_of (a : Fin 5) (hd : ∀ t t' : Dev nD, ∀ x, x ∈ slabSet a t → x ∈ slabSet a t' → t = t') (hc : ∀ x, ∃ t : Dev nD, x ∈ slabSet a t)
    (c p : Dev nD) (q : PosShare TreeShare) (f : (chRef a).ty.Contents (Elt F)) :
    ((p : Thread nD τ).loc (chRef a) ↦{q} f : sProp 𝕄)
      = iprop(pts a c p q f ∗ pts a (nx 0 c) p q f ∗ pts a (nx 1 c) p q f ∗ pts a (nx 2 c) p q f) := by
  have h := pointsTo_biUnion (Ix := Unit) (Val := Elt F) (Name := ℕ) (U := UU) (Lvl := ℕ)
    (ℓ := (p : Thread nD τ).loc (chRef a)) (q := q) (f := f) (Finset.univ : Finset (Dev nD)) (slabSet a)
    (fun t _ t' _ hne => Finset.disjoint_left.mpr fun x hx hx' => hne (hd t t' x hx hx'))
  rw [show (Finset.univ : Finset (Dev nD)).biUnion (slabSet a) = Finset.univ from
    Finset.eq_univ_iff_forall.mpr fun x => Finset.mem_biUnion.mpr ((hc x).imp fun t ht => ⟨Finset.mem_univ t, ht⟩)] at h
  exact h.trans (bigSep_eq_bigSepL_of_eq [c, nx 0 c, nx 1 c, nx 2 c] (devs c) (devs_nodup c) _)

omit [FloatOps F] [Named F] in
/-- The gathered latent is its four slabs; -/
theorem whole_A (c p : Dev nD) (q : PosShare TreeShare) (f : (chRef 0).ty.Contents (Elt F)) :
    ((p : Thread nD τ).loc cc0_scratch0 ↦{q} f : sProp 𝕄)
      = iprop(pts 0 c p q f ∗ pts 0 (nx 0 c) p q f ∗ pts 0 (nx 1 c) p q f ∗ pts 0 (nx 2 c) p q f) :=
  whole_of 0 (fun t t' x hx hx' => Fin.ext (((mem_slabA t x).mp hx).symm.trans ((mem_slabA t' x).mp hx')))
    (fun x => ⟨⟨(show S1024x512.Idx from x) 1 / 128, by have h : ((show S1024x512.Idx from x) 1).val < 512 := Fin.isLt _; show _ < 4; omega⟩,
      (mem_slabA _ x).mpr rfl⟩) c p q f
omit [FloatOps F] [Named F] in
/-- the gathered key up-projection; -/
theorem whole_U (c p : Dev nD) (q : PosShare TreeShare) (f : (chRef 1).ty.Contents (Elt F)) :
    ((p : Thread nD τ).loc cc0_scratch1 ↦{q} f : sProp 𝕄)
      = iprop(pts 1 c p q f ∗ pts 1 (nx 0 c) p q f ∗ pts 1 (nx 1 c) p q f ∗ pts 1 (nx 2 c) p q f) :=
  whole_of 1 (fun t t' x hx hx' => Fin.ext (((mem_slabU t x).mp hx).symm.trans ((mem_slabU t' x).mp hx')))
    (fun x => ⟨⟨(show S512x2048.Idx from x) 0 / 128, by have h : ((show S512x2048.Idx from x) 0).val < 512 := Fin.isLt _; show _ < 4; omega⟩,
      (mem_slabU _ x).mpr rfl⟩) c p q f
omit [FloatOps F] [Named F] in
/-- the gathered value up-projection. -/
theorem whole_V (c p : Dev nD) (q : PosShare TreeShare) (f : (chRef 2).ty.Contents (Elt F)) :
    ((p : Thread nD τ).loc cc0_scratch2 ↦{q} f : sProp 𝕄)
      = iprop(pts 2 c p q f ∗ pts 2 (nx 0 c) p q f ∗ pts 2 (nx 1 c) p q f ∗ pts 2 (nx 2 c) p q f) :=
  whole_of 2 (fun t t' x hx hx' => Fin.ext (((mem_slabV t x).mp hx).symm.trans ((mem_slabV t' x).mp hx')))
    (fun x => ⟨⟨(show S512x2048.Idx from x) 0 / 128, by have h : ((show S512x2048.Idx from x) 0).val < 512 := Fin.isLt _; show _ < 4; omega⟩,
      (mem_slabV _ x).mpr rfl⟩) c p q f

/-- The half slabs of the second kernel's buffer. -/
def halfSet (x : Dev nD × Fin 2) : Finset (S1024x2048.Idx) := (slabO x.2 x.1).view.set
theorem halves_disj : ∀ t ∈ (Finset.univ : Finset (Dev nD × Fin 2)), ∀ t' ∈ (Finset.univ : Finset (Dev nD × Fin 2)), t ≠ t' →
    Disjoint (halfSet t) (halfSet t') := by
  rintro ⟨s, h⟩ _ ⟨s', h'⟩ _ hne
  refine Finset.disjoint_left.mpr fun x hx hx' => hne ?_
  have := ((mem_slabOh h s x).mp hx).symm.trans ((mem_slabOh h' s' x).mp hx')
  have h2 := h.isLt; have h3 := h'.isLt
  exact Prod.ext (Fin.ext (by show s.val = s'.val; omega)) (Fin.ext (by show h.val = h'.val; omega))
theorem halves_cover : (Finset.univ : Finset (Dev nD × Fin 2)).biUnion halfSet = Finset.univ := by
  refine Finset.eq_univ_iff_forall.mpr fun x => Finset.mem_biUnion.mpr ?_
  have h : (x 0).val < 1024 := (x 0).isLt
  exact ⟨(⟨(x 0).val / 128 / 2, by show _ < 4; omega⟩, ⟨(x 0).val / 128 % 2, by omega⟩), Finset.mem_univ _,
    by
      unfold halfSet
      exact (mem_slabOh ⟨(x 0).val / 128 % 2, by omega⟩ ⟨(x 0).val / 128 / 2, by show _ < 4; omega⟩ x).mpr
        (by show (x 0).val / 128 = 2 * ((x 0).val / 128 / 2) + (x 0).val / 128 % 2; omega)⟩

theorem halfs (c : Dev nD) : (Finset.univ : Finset (Dev nD × Fin 2))
    = [(c, 0), (nx 0 c, 0), (nx 1 c, 0), (nx 2 c, 0), (c, 1), (nx 0 c, 1), (nx 1 c, 1), (nx 2 c, 1)].toFinset := by revert c; decide
theorem halfs_nodup (c : Dev nD) :
    ([(c, 0), (nx 0 c, 0), (nx 1 c, 0), (nx 2 c, 0), (c, 1), (nx 0 c, 1), (nx 1 c, 1), (nx 2 c, 1)] : List (Dev nD × Fin 2)).Nodup := by
  revert c; decide

omit [FloatOps F] [Named F] in
/-- The second kernel's whole buffer is the eight half slabs. -/
theorem whole_halves (c p : Dev nD) (q : PosShare TreeShare) (f : (chRef 3).ty.Contents (Elt F)) :
    ((p : Thread nD τ).loc cc1_scratch0 ↦{q} f : sProp 𝕄)
      = iprop(pts 3 c p q f ∗ pts 3 (nx 0 c) p q f ∗ pts 3 (nx 1 c) p q f ∗ pts 3 (nx 2 c) p q f
          ∗ pts 4 c p q f ∗ pts 4 (nx 0 c) p q f ∗ pts 4 (nx 1 c) p q f ∗ pts 4 (nx 2 c) p q f) := by
  have h := pointsTo_biUnion (Ix := Unit) (Val := Elt F) (Name := ℕ) (U := UU) (Lvl := ℕ)
    (ℓ := (p : Thread nD τ).loc cc1_scratch0) (q := q) (f := f) (Finset.univ : Finset (Dev nD × Fin 2)) halfSet halves_disj
  rw [halves_cover] at h
  refine h.trans ?_
  exact bigSep_eq_bigSepL_of_eq _ (halfs c) (halfs_nodup c) _

/-! ## The program's loads and stores of a slab -/

/-- The columns of device `s` in the gathered latent `f`; -/
def gotA (f : (chRef 0).ty.Contents (Elt F)) (s : Dev nD) : S1024x128.Idx → Elt F .bf16 := (slabA s).view.read (Elt F) f
/-- its rows in the gathered up-projections, -/
def gotU (f : (chRef 1).ty.Contents (Elt F)) (s : Dev nD) : S128x2048.Idx → Elt F .bf16 := (slabU s).view.read (Elt F) f
def gotV (f : (chRef 2).ty.Contents (Elt F)) (s : Dev nD) : S128x2048.Idx → Elt F .bf16 := (slabV s).view.read (Elt F) f
/-- and in the gathered attention rows, half `h`. -/
def gotO (f : (chRef 3).ty.Contents (Elt F)) (h : Fin 2) (s : Dev nD) : S128x2048.Idx → Elt F .bf16 := (slabO h s).view.read (Elt F) f

omit [FloatOps F] [Named F] in
/-- A slab written whole with what another contents has there. -/
theorem pts_put {s : Shape} {e : EltTy} (M : Memref sig .tc .vmem s e) (c : Dev nD) (f g : M.view.ref.ty.Contents (Elt F)) (w : s.Idx → Elt F e)
    (hg : M.view.read (Elt F) g = w) :
    (M.view.loc (c : Thread nD τ) ↦[M.view.set]{fullShare} (M.view.write (Elt F) f w Finset.univ) : sProp 𝕄)
      = (M.view.loc (c : Thread nD τ) ↦[M.view.set]{fullShare} g) := by
  subst hg; exact pointsTo_congr (landed M f g)

section Steps

variable (s p : Dev nD) (q : PosShare TreeShare)

theorem load_A {α : Type} {Q : α → sProp 𝕄} {k : (S1024x128.Idx → Elt F .bf16) → Prog (TpuEff nD τ sig (Elt F) Λ₀ .tc) α} (f : (chRef 0).ty.Contents (Elt F))
    (off : Fin 2 → ℕ) (inb : ∀ a, off a + S1024x128.size a ≤ S1024x512.size a) (ho : off = k0_off7 s)
    {hl : (Memref.whole cc0_scratch0).view.LoadsAt (Rect.unit (s := S1024x512) off S1024x128.size inb).toLoadRect} :
    pts 0 s p q f ⊢ iprop((pts 0 s p q f -∗ Wp p (k (gotA f s)) Q)
      -∗ Wp p (.op (.load (Memref.whole cc0_scratch0) (Rect.unit (s := S1024x512) off S1024x128.size inb).toLoadRect hl) k) Q) := by
  subst ho
  exact wp_load_rect 𝒱₀ (p : Thread nD τ) none Set.univ (m := Memref.whole cc0_scratch0) (r := Rect.unit (s := S1024x512) (k0_off7 s) S1024x128.size inb)
    (S := slabSet 0 s) (f := f) (fun _ h => h)
theorem load_U {α : Type} {Q : α → sProp 𝕄} {k : (S128x2048.Idx → Elt F .bf16) → Prog (TpuEff nD τ sig (Elt F) Λ₀ .tc) α} (f : (chRef 1).ty.Contents (Elt F))
    (off : Fin 2 → ℕ) (inb : ∀ a, off a + S128x2048.size a ≤ S512x2048.size a) (ho : off = k0_off2 s)
    {hl : (Memref.whole cc0_scratch1).view.LoadsAt (Rect.unit (s := S512x2048) off S128x2048.size inb).toLoadRect} :
    pts 1 s p q f ⊢ iprop((pts 1 s p q f -∗ Wp p (k (gotU f s)) Q)
      -∗ Wp p (.op (.load (Memref.whole cc0_scratch1) (Rect.unit (s := S512x2048) off S128x2048.size inb).toLoadRect hl) k) Q) := by
  subst ho
  exact wp_load_rect 𝒱₀ (p : Thread nD τ) none Set.univ (m := Memref.whole cc0_scratch1) (r := Rect.unit (s := S512x2048) (k0_off2 s) S128x2048.size inb)
    (S := slabSet 1 s) (f := f) (fun _ h => h)
theorem load_V {α : Type} {Q : α → sProp 𝕄} {k : (S128x2048.Idx → Elt F .bf16) → Prog (TpuEff nD τ sig (Elt F) Λ₀ .tc) α} (f : (chRef 2).ty.Contents (Elt F))
    (off : Fin 2 → ℕ) (inb : ∀ a, off a + S128x2048.size a ≤ S512x2048.size a) (ho : off = k0_off2 s)
    {hl : (Memref.whole cc0_scratch2).view.LoadsAt (Rect.unit (s := S512x2048) off S128x2048.size inb).toLoadRect} :
    pts 2 s p q f ⊢ iprop((pts 2 s p q f -∗ Wp p (k (gotV f s)) Q)
      -∗ Wp p (.op (.load (Memref.whole cc0_scratch2) (Rect.unit (s := S512x2048) off S128x2048.size inb).toLoadRect hl) k) Q) := by
  subst ho
  exact wp_load_rect 𝒱₀ (p : Thread nD τ) none Set.univ (m := Memref.whole cc0_scratch2) (r := Rect.unit (s := S512x2048) (k0_off2 s) S128x2048.size inb)
    (S := slabSet 2 s) (f := f) (fun _ h => h)

theorem store_U {α : Type} {Q : α → sProp 𝕄} {k : PUnit → Prog (TpuEff nD τ sig (Elt F) Λ₀ .tc) α} (f g : (chRef 1).ty.Contents (Elt F)) (w : S128x2048.Idx → Elt F .bf16)
    (off : Fin 2 → ℕ) (inb : ∀ a, off a + S128x2048.size a ≤ S512x2048.size a) (ho : off = k0_off2 s) (hg : gotU g s = w)
    {hx : ((Memref.whole cc0_scratch1).access (Rect.unit (s := S512x2048) off S128x2048.size inb)).Stores Finset.univ}
    {hm : (Finset.univ : Finset (Rect.unit (s := S512x2048) off S128x2048.size inb).shape.Idx) = Finset.univ ∨ ∀ a, (Rect.unit (s := S512x2048) off S128x2048.size inb).stride a = 1} :
    pts 1 s p fullShare f ⊢ iprop((pts 1 s p fullShare g -∗ Wp p (k ⟨⟩) Q)
      -∗ Wp p (.op (.store (Memref.whole cc0_scratch1) (Rect.unit (s := S512x2048) off S128x2048.size inb) w Finset.univ hx hm) k) Q) := by
  subst ho
  exact (wp_store 𝒱₀ (p : Thread nD τ) none Set.univ (m := Memref.whole cc0_scratch1) (r := Rect.unit (s := S512x2048) (k0_off2 s) S128x2048.size inb)
    (S := slabSet 1 s) (f := f) (fun _ h => h)).trans (wand_mono_left (wand_mono_left (Entails.of_eq (pts_put (slabU s) p f g w hg))))
theorem store_V {α : Type} {Q : α → sProp 𝕄} {k : PUnit → Prog (TpuEff nD τ sig (Elt F) Λ₀ .tc) α} (f g : (chRef 2).ty.Contents (Elt F)) (w : S128x2048.Idx → Elt F .bf16)
    (off : Fin 2 → ℕ) (inb : ∀ a, off a + S128x2048.size a ≤ S512x2048.size a) (ho : off = k0_off2 s) (hg : gotV g s = w)
    {hx : ((Memref.whole cc0_scratch2).access (Rect.unit (s := S512x2048) off S128x2048.size inb)).Stores Finset.univ}
    {hm : (Finset.univ : Finset (Rect.unit (s := S512x2048) off S128x2048.size inb).shape.Idx) = Finset.univ ∨ ∀ a, (Rect.unit (s := S512x2048) off S128x2048.size inb).stride a = 1} :
    pts 2 s p fullShare f ⊢ iprop((pts 2 s p fullShare g -∗ Wp p (k ⟨⟩) Q)
      -∗ Wp p (.op (.store (Memref.whole cc0_scratch2) (Rect.unit (s := S512x2048) off S128x2048.size inb) w Finset.univ hx hm) k) Q) := by
  subst ho
  exact (wp_store 𝒱₀ (p : Thread nD τ) none Set.univ (m := Memref.whole cc0_scratch2) (r := Rect.unit (s := S512x2048) (k0_off2 s) S128x2048.size inb)
    (S := slabSet 2 s) (f := f) (fun _ h => h)).trans (wand_mono_left (wand_mono_left (Entails.of_eq (pts_put (slabV s) p f g w hg))))

end Steps

/-- A row block of the latent's own columns lies in the own slab. -/
theorem blk_sub (c : Dev nD) (r : ℕ) (off : Fin 2 → ℕ) (inb : ∀ a, off a + S256x128.size a ≤ S1024x512.size a) (ho : off = ![r, 128 * c.val]) :
    ((Memref.whole cc0_scratch0).access (Rect.unit (s := S1024x512) off S256x128.size inb)).set ⊆ slabSet 0 c := by
  subst ho
  intro x hx
  have h := (ValueKit.mem_set_slice_whole_iff cc0_scratch0 _ x Rect.mem_set_unit).mp hx 1
  have h1 : 128 * c.val ≤ (x 1).val ∧ (x 1).val < 128 * c.val + 128 := h
  exact (mem_slabA c x).mpr (by omega)

/-! ## Sending, channel by channel -/

section Sends

variable (G : Gath F) (κ : GSem nD τ sig → ℕ)

theorem send_A {α : Type} {Q : α → sProp 𝕄} {k : PUnit → Prog (TpuEff nD τ sig (Elt F) Λ₀ .tc) α}
    (i : Fin 3) (c n : Dev nD) (hn : n = nx i c) (sS sR : DmaSem sig) (hS : sS = sendSem 0 i) (hR : sR = recvSem 0 i)
    {hsc : (slabA c : Memref sig (Dev.tc n : Thread nD τ).2.kind .vmem _ .bf16).view.ref.isScScratch = false}
    {hsrc : (slabA c).view.WordExact} {hdst : (slabA c).view.WordExact}
    {hsem : DmaTarget.Typed .vmem (.dma sR) (.remote (Dev.tc n : Thread nD τ) (slabA c) (.dma sS) hsc)}
    (l : List (GSem nD τ sig × ℕ)) :
    iprop(recs G κ ∗ ow c ((recvCell 0 i (nx i c), chN 0) :: l) ∗ ready G 0 i c)
      ⊢ iprop(((ow c l ∗ sent 0 i c) -∗ Wp c (k ⟨⟩) Q)
          -∗ Wp c (.op (.enqueueDma (slabA c) (.remote (Dev.tc n : Thread nD τ) (slabA c) (.dma sS) hsc) (.dma sR) hsrc hdst hsem) k) Q) :=
  step_send G κ (slabA c) 0 i c n hn sS sR hS hR (G 0) rfl .rfl .rfl .rfl
    (fun fd => Entails.of_eq (pts_put (slabA c) (nx i c) fd (G 0) _ rfl)) l
theorem send_U {α : Type} {Q : α → sProp 𝕄} {k : PUnit → Prog (TpuEff nD τ sig (Elt F) Λ₀ .tc) α}
    (i : Fin 3) (c n : Dev nD) (hn : n = nx i c) (sS sR : DmaSem sig) (hS : sS = sendSem 1 i) (hR : sR = recvSem 1 i)
    {hsc : (slabU c : Memref sig (Dev.tc n : Thread nD τ).2.kind .vmem _ .bf16).view.ref.isScScratch = false}
    {hsrc : (slabU c).view.WordExact} {hdst : (slabU c).view.WordExact}
    {hsem : DmaTarget.Typed .vmem (.dma sR) (.remote (Dev.tc n : Thread nD τ) (slabU c) (.dma sS) hsc)}
    (l : List (GSem nD τ sig × ℕ)) :
    iprop(recs G κ ∗ ow c ((recvCell 1 i (nx i c), chN 1) :: l) ∗ ready G 1 i c)
      ⊢ iprop(((ow c l ∗ sent 1 i c) -∗ Wp c (k ⟨⟩) Q)
          -∗ Wp c (.op (.enqueueDma (slabU c) (.remote (Dev.tc n : Thread nD τ) (slabU c) (.dma sS) hsc) (.dma sR) hsrc hdst hsem) k) Q) :=
  step_send G κ (slabU c) 1 i c n hn sS sR hS hR (G 1) rfl .rfl .rfl .rfl
    (fun fd => Entails.of_eq (pts_put (slabU c) (nx i c) fd (G 1) _ rfl)) l
theorem send_V {α : Type} {Q : α → sProp 𝕄} {k : PUnit → Prog (TpuEff nD τ sig (Elt F) Λ₀ .tc) α}
    (i : Fin 3) (c n : Dev nD) (hn : n = nx i c) (sS sR : DmaSem sig) (hS : sS = sendSem 2 i) (hR : sR = recvSem 2 i)
    {hsc : (slabV c : Memref sig (Dev.tc n : Thread nD τ).2.kind .vmem _ .bf16).view.ref.isScScratch = false}
    {hsrc : (slabV c).view.WordExact} {hdst : (slabV c).view.WordExact}
    {hsem : DmaTarget.Typed .vmem (.dma sR) (.remote (Dev.tc n : Thread nD τ) (slabV c) (.dma sS) hsc)}
    (l : List (GSem nD τ sig × ℕ)) :
    iprop(recs G κ ∗ ow c ((recvCell 2 i (nx i c), chN 2) :: l) ∗ ready G 2 i c)
      ⊢ iprop(((ow c l ∗ sent 2 i c) -∗ Wp c (k ⟨⟩) Q)
          -∗ Wp c (.op (.enqueueDma (slabV c) (.remote (Dev.tc n : Thread nD τ) (slabV c) (.dma sS) hsc) (.dma sR) hsrc hdst hsem) k) Q) :=
  step_send G κ (slabV c) 2 i c n hn sS sR hS hR (G 2) rfl .rfl .rfl .rfl
    (fun fd => Entails.of_eq (pts_put (slabV c) (nx i c) fd (G 2) _ rfl)) l

/-! ## Waiting, channel by channel -/

/-- Waiting for a peer's slab of the latent; -/
theorem recv_A {α : Type} {Q : α → sProp 𝕄} {k : PUnit → Prog (TpuEff nD τ sig (Elt F) Λ₀ .tc) α}
    (i : Fin 3) (c : Dev nD) (sR : DmaSem sig) (hR : sR = recvSem 0 i)
    {hsrc : (slabA c).view.WordExact} {hdst : (slabA c).view.WordExact}
    (l : List (GSem nD τ sig × ℕ)) (hl : Above 2 l) :
    iprop(recs G κ ∗ ow c l ∗ sent 0 i c)
      ⊢ iprop(((ow c l ∗ rcvd 0 i c ∗ pts 0 (pv i c) c fullShare (G 0)) -∗ Wp c (k ⟨⟩) Q)
          -∗ Wp c (.op (.waitDma2 sR (slabA c) (slabA c) hsrc hdst) k) Q) :=
  step_recv G κ 0 i c sR hR (src := slabA c) (dst := slabA c) rfl l 2 hl (by decide)
/-- for the own one to have left. -/
theorem left_A {α : Type} {Q : α → sProp 𝕄} {k : PUnit → Prog (TpuEff nD τ sig (Elt F) Λ₀ .tc) α}
    (i : Fin 3) (c : Dev nD) (sS : DmaSem sig) (hS : sS = sendSem 0 i)
    {hsrc : (slabA c).view.WordExact} {hdst : (slabA c).view.WordExact}
    (l : List (GSem nD τ sig × ℕ)) (hl : Above 2 l) :
    iprop(recs G κ ∗ ow c l ∗ rcvd 0 i c)
      ⊢ iprop(((ow c l ∗ done 0 i c ∗ pts 0 c c (sh i) (G 0)) -∗ Wp c (k ⟨⟩) Q)
          -∗ Wp c (.op (.waitDma2 sS (slabA c) (slabA c) hsrc hdst) k) Q) :=
  step_left G κ 0 i c sS hS (src := slabA c) (dst := slabA c) rfl l 2 hl (by decide)
/-- Waiting for a peer's slab of the key up-projection; -/
theorem recv_U {α : Type} {Q : α → sProp 𝕄} {k : PUnit → Prog (TpuEff nD τ sig (Elt F) Λ₀ .tc) α}
    (i : Fin 3) (c : Dev nD) (sR : DmaSem sig) (hR : sR = recvSem 1 i)
    {hsrc : (slabU c).view.WordExact} {hdst : (slabU c).view.WordExact}
    (l : List (GSem nD τ sig × ℕ)) (hl : Above 2 l) :
    iprop(recs G κ ∗ ow c l ∗ sent 1 i c)
      ⊢ iprop(((ow c l ∗ rcvd 1 i c ∗ pts 1 (pv i c) c fullShare (G 1)) -∗ Wp c (k ⟨⟩) Q)
          -∗ Wp c (.op (.waitDma2 sR (slabU c) (slabU c) hsrc hdst) k) Q) :=
  step_recv G κ 1 i c sR hR (src := slabU c) (dst := slabU c) rfl l 2 hl (by decide)
/-- for the own one to have left. -/
theorem left_U {α : Type} {Q : α → sProp 𝕄} {k : PUnit → Prog (TpuEff nD τ sig (Elt F) Λ₀ .tc) α}
    (i : Fin 3) (c : Dev nD) (sS : DmaSem sig) (hS : sS = sendSem 1 i)
    {hsrc : (slabU c).view.WordExact} {hdst : (slabU c).view.WordExact}
    (l : List (GSem nD τ sig × ℕ)) (hl : Above 2 l) :
    iprop(recs G κ ∗ ow c l ∗ rcvd 1 i c)
      ⊢ iprop(((ow c l ∗ done 1 i c ∗ pts 1 c c (sh i) (G 1)) -∗ Wp c (k ⟨⟩) Q)
          -∗ Wp c (.op (.waitDma2 sS (slabU c) (slabU c) hsrc hdst) k) Q) :=
  step_left G κ 1 i c sS hS (src := slabU c) (dst := slabU c) rfl l 2 hl (by decide)
/-- Waiting for a peer's slab of the value up-projection; -/
theorem recv_V {α : Type} {Q : α → sProp 𝕄} {k : PUnit → Prog (TpuEff nD τ sig (Elt F) Λ₀ .tc) α}
    (i : Fin 3) (c : Dev nD) (sR : DmaSem sig) (hR : sR = recvSem 2 i)
    {hsrc : (slabV c).view.WordExact} {hdst : (slabV c).view.WordExact}
    (l : List (GSem nD τ sig × ℕ)) (hl : Above 2 l) :
    iprop(recs G κ ∗ ow c l ∗ sent 2 i c)
      ⊢ iprop(((ow c l ∗ rcvd 2 i c ∗ pts 2 (pv i c) c fullShare (G 2)) -∗ Wp c (k ⟨⟩) Q)
          -∗ Wp c (.op (.waitDma2 sR (slabV c) (slabV c) hsrc hdst) k) Q) :=
  step_recv G κ 2 i c sR hR (src := slabV c) (dst := slabV c) rfl l 2 hl (by decide)
/-- for the own one to have left. -/
theorem left_V {α : Type} {Q : α → sProp 𝕄} {k : PUnit → Prog (TpuEff nD τ sig (Elt F) Λ₀ .tc) α}
    (i : Fin 3) (c : Dev nD) (sS : DmaSem sig) (hS : sS = sendSem 2 i)
    {hsrc : (slabV c).view.WordExact} {hdst : (slabV c).view.WordExact}
    (l : List (GSem nD τ sig × ℕ)) (hl : Above 2 l) :
    iprop(recs G κ ∗ ow c l ∗ rcvd 2 i c)
      ⊢ iprop(((ow c l ∗ done 2 i c ∗ pts 2 c c (sh i) (G 2)) -∗ Wp c (k ⟨⟩) Q)
          -∗ Wp c (.op (.waitDma2 sS (slabV c) (slabV c) hsrc hdst) k) Q) :=
  step_left G κ 2 i c sS hS (src := slabV c) (dst := slabV c) rfl l 2 hl (by decide)

end Sends

end Cert.Proof

end
-- ==== Proof.Vals0.lean ====
/-
  What the first kernel computes, as functions of what its devices' staging buffers hold: the latent and the rotary keys by
  row blocks, the gathered buffers, the queries, and the keys and values accumulated over the four devices' slabs.
-/
module

public import proofs.«01_k».proof.Proof.Slab
public import Idealize.ShloMosaic.Lib.ValueIdxCore

@[expose] public section

noncomputable section

namespace Cert.Proof

open Cert.KernelIdeal Cert.KernelIdeal.Gen

open Idealize.ShloMosaic
open Idealize.ShloMosaic.ValueIdx

variable {F : FTy → Type} [FloatOps F] [Named F]

/-! ## Writing a rectangle, at an index -/

omit [FloatOps F] [Named F] in
/-- A rectangle of a whole buffer written: inside it the payload, -/
theorem write_in (b : Ref sig .tc) (off size : Fin b.ty.shape.rank → ℕ) (inb : ∀ a, off a + size a ≤ b.ty.shape.size a)
    (f : b.ty.Contents (Elt F)) (w : (Rect.unit off size inb).shape.Idx → Elt F b.ty.elt) (x : b.ty.shape.Idx)
    (y : (Rect.unit off size inb).shape.Idx) (h : ∀ a, (x a).val = off a + (y a).val) :
    ((Memref.whole b).access (Rect.unit off size inb)).write (Elt F) f w Finset.univ x = w y := by
  have e : x = ((Memref.whole b).access (Rect.unit off size inb)).emb y :=
    funext fun a => Fin.ext ((h a).trans (ValueKit.view_emb_slice_whole_unit_val b off size inb y a).symm)
  rw [e]
  exact View.write_emb_of_mem (v := (Memref.whole b).access (Rect.unit off size inb)) f w (Finset.mem_univ y)
omit [FloatOps F] [Named F] in
/-- outside it what was there. -/
theorem write_out (b : Ref sig .tc) (off size : Fin b.ty.shape.rank → ℕ) (inb : ∀ a, off a + size a ≤ b.ty.shape.size a)
    (f : b.ty.Contents (Elt F)) (w : (Rect.unit off size inb).shape.Idx → Elt F b.ty.elt) (x : b.ty.shape.Idx)
    (a : Fin b.ty.shape.rank) (h : (x a).val < off a ∨ off a + size a ≤ (x a).val) :
    ((Memref.whole b).access (Rect.unit off size inb)).write (Elt F) f w Finset.univ x = f x := by
  refine View.write_of_not_mem (v := (Memref.whole b).access (Rect.unit off size inb)) f w Finset.univ fun hx => ?_
  rw [View.setOn_univ] at hx
  have h1 := (ValueKit.mem_set_slice_whole_iff b _ x Rect.mem_set_unit).mp hx a
  omega
omit [FloatOps F] [Named F] in
/-- A rectangle of a whole buffer read, at an index. -/
theorem read_in (b : Ref sig .tc) (off size : Fin b.ty.shape.rank → ℕ) (inb : ∀ a, off a + size a ≤ b.ty.shape.size a)
    (f : b.ty.Contents (Elt F)) (x : b.ty.shape.Idx)
    (y : (Rect.unit off size inb).shape.Idx) (h : ∀ a, (x a).val = off a + (y a).val) :
    ((Memref.whole b).access (Rect.unit off size inb)).read (Elt F) f y = f x := by
  have e : x = ((Memref.whole b).access (Rect.unit off size inb)).emb y :=
    funext fun a => Fin.ext ((h a).trans (ValueKit.view_emb_slice_whole_unit_val b off size inb y a).symm)
  rw [e]; rfl

/-! ## The first kernel's values -/

/-- What one device's input staging buffers hold when the first kernel's body starts. -/
structure In0 (F : FTy → Type) where
  /-- the activations, -/
  x : cc0_stg0_0.ty.Contents (Elt F)
  /-- the device's columns of the down-projection, -/
  wd : cc0_stg1_0.ty.Contents (Elt F)
  /-- its rows of the up-projections, -/
  wk : cc0_stg2_0.ty.Contents (Elt F)
  wv : cc0_stg3_0.ty.Contents (Elt F)
  /-- the rotary key projection, -/
  wkr : cc0_stg4_0.ty.Contents (Elt F)
  /-- the query projections. -/
  wq : cc0_stg5_0.ty.Contents (Elt F)
  wqr : cc0_stg6_0.ty.Contents (Elt F)

/-- The four row blocks of the activations, as the kernel reads them. -/
def xBlk (X : In0 F) : Fin 4 → Vec F S1x256x2048 .f32
  | 0 => (Memref.whole cc0_stg0_0).view.readAt (Elt F) (Rect.unit (s := S1x1024x2048) ![0, 0, 0] S1x256x2048.size inb_S1x1024x2048_S1x256x2048_0_0_0).toLoadRect X.x
  | 1 => (Memref.whole cc0_stg0_0).view.readAt (Elt F) (Rect.unit (s := S1x1024x2048) ![0, 256, 0] S1x256x2048.size inb_S1x1024x2048_S1x256x2048_0_256_0).toLoadRect X.x
  | 2 => (Memref.whole cc0_stg0_0).view.readAt (Elt F) (Rect.unit (s := S1x1024x2048) ![0, 512, 0] S1x256x2048.size inb_S1x1024x2048_S1x256x2048_0_512_0).toLoadRect X.x
  | 3 => (Memref.whole cc0_stg0_0).view.readAt (Elt F) (Rect.unit (s := S1x1024x2048) ![0, 768, 0] S1x256x2048.size inb_S1x1024x2048_S1x256x2048_0_768_0).toLoadRect X.x
/-- The row block device `c` computes the queries of. -/
def xOwn (c : Dev nD) (X : In0 F) : Vec F S1x256x2048 .f32 :=
  (Memref.whole cc0_stg0_0).view.readAt (Elt F) (Rect.unit (s := S1x1024x2048) (k0_off8 c) S1x256x2048.size (k0_off8_inb c)).toLoadRect X.x

/-- A row block of the device's latent columns; -/
def laBlk (X : In0 F) : Fin 4 → FVec F S256x128 .bf16
  | 0 => k0_pay7 (k0_pay6 X.wd (xBlk X 0))
  | 1 => k0_pay10 (k0_pay3 X.wd) (xBlk X 1)
  | 2 => k0_pay13 (k0_pay3 X.wd) (xBlk X 2)
  | 3 => k0_pay16 (k0_pay3 X.wd) (xBlk X 3)
/-- a row block of the rotary keys. -/
def krBlk (X : In0 F) : Fin 4 → FVec F S256x32 .bf16
  | 0 => k0_pay8 (k0_pay4 X.wkr) (k0_pay5 (xBlk X 0))
  | 1 => k0_pay11 (k0_pay4 X.wkr) (xBlk X 1)
  | 2 => k0_pay14 (k0_pay4 X.wkr) (xBlk X 2)
  | 3 => k0_pay17 (k0_pay4 X.wkr) (xBlk X 3)

/-- The device's latent columns; -/
def la (X : In0 F) : Vec F S1024x128 .bf16 := fun i =>
  laBlk X ⟨(i 0).val / 256, by have h : (i 0).val < 1024 := (i 0).isLt; omega⟩ (ix2 ⟨(i 0).val % 256, Nat.mod_lt _ (by decide)⟩ (i 1))
/-- the rotary keys. -/
def kr (X : In0 F) : cc0_stg9_0.ty.Contents (Elt F) := fun i =>
  krBlk X ⟨(i 0).val / 256, by have h : (i 0).val < 1024 := (i 0).isLt; omega⟩ (ix2 ⟨(i 0).val % 256, Nat.mod_lt _ (by decide)⟩ (i 1))

/-- The gathered latent, -/
def gA (X : Dev nD → In0 F) : (chRef 0).ty.Contents (Elt F) := fun (i : S1024x512.Idx) =>
  la (X ⟨(i 1).val / 128, by have h : (i 1).val < 512 := (i 1).isLt; show _ < 4; omega⟩) (ix2 (i 0) ⟨(i 1).val % 128, Nat.mod_lt _ (by decide)⟩)
/-- the gathered up-projections. -/
def gU (X : Dev nD → In0 F) : (chRef 1).ty.Contents (Elt F) := fun (i : S512x2048.Idx) =>
  k0_pay1 (X ⟨(i 0).val / 128, by have h : (i 0).val < 512 := (i 0).isLt; show _ < 4; omega⟩).wk (ix2 ⟨(i 0).val % 128, Nat.mod_lt _ (by decide)⟩ (i 1))
def gV (X : Dev nD → In0 F) : (chRef 2).ty.Contents (Elt F) := fun (i : S512x2048.Idx) =>
  k0_pay2 (X ⟨(i 0).val / 128, by have h : (i 0).val < 512 := (i 0).isLt; show _ < 4; omega⟩).wv (ix2 ⟨(i 0).val % 128, Nat.mod_lt _ (by decide)⟩ (i 1))

/-- The device's slab of the gathered latent is its latent; -/
theorem gotA_gA (X : Dev nD → In0 F) (s : Dev nD) : gotA (gA X) s = la (X s) := by
  funext y
  have h1 : (y 1).val < 128 := (y 1).isLt
  have hs : s.val < 4 := s.isLt
  refine (read_in cc0_scratch0 (k0_off7 s) S1024x128.size (k0_off7_inb s) (gA X)
    (ix2 (n0 := 1024) (n1 := 512) (y 0) ⟨128 * s.val + (y 1).val, by omega⟩) y (fun a => ?_)).trans ?_
  · match a with
    | ⟨0, _⟩ => exact ((congrArg (· + (y 0).val) (congrFun (o0_7 s) 0)).trans (Nat.zero_add _)).symm
    | ⟨1, _⟩ => exact (congrArg (· + (y 1).val) (congrFun (o0_7 s) 1)).symm
  · unfold gA
    have e1 : (⟨(128 * s.val + (y 1).val) / 128, by show _ < 4; omega⟩ : Dev nD) = s := Fin.ext (by show (128 * s.val + (y 1).val) / 128 = s.val; omega)
    have e2 : (⟨(128 * s.val + (y 1).val) % 128, Nat.mod_lt _ (by decide)⟩ : Fin 128) = y 1 := Fin.ext (by show (128 * s.val + (y 1).val) % 128 = (y 1).val; omega)
    show la (X ⟨(128 * s.val + (y 1).val) / 128, _⟩) (ix2 (y 0) ⟨(128 * s.val + (y 1).val) % 128, _⟩) = _
    rw [e1, e2]; exact congrArg _ (eq_ix2 y).symm
/-- of the gathered up-projections, its rows of them. -/
theorem gotU_gU (X : Dev nD → In0 F) (s : Dev nD) : gotU (gU X) s = k0_pay1 (X s).wk := by
  funext y
  have h1 : (y 0).val < 128 := (y 0).isLt
  have hs : s.val < 4 := s.isLt
  refine (read_in cc0_scratch1 (k0_off2 s) S128x2048.size (k0_off2_inb s) (gU X)
    (ix2 (n0 := 512) (n1 := 2048) ⟨128 * s.val + (y 0).val, by omega⟩ (y 1)) y (fun a => ?_)).trans ?_
  · match a with
    | ⟨0, _⟩ => exact (congrArg (· + (y 0).val) (congrFun (o0_2 s) 0)).symm
    | ⟨1, _⟩ => exact ((congrArg (· + (y 1).val) (congrFun (o0_2 s) 1)).trans (Nat.zero_add _)).symm
  · unfold gU
    have e1 : (⟨(128 * s.val + (y 0).val) / 128, by show _ < 4; omega⟩ : Dev nD) = s := Fin.ext (by show (128 * s.val + (y 0).val) / 128 = s.val; omega)
    have e2 : (⟨(128 * s.val + (y 0).val) % 128, Nat.mod_lt _ (by decide)⟩ : Fin 128) = y 0 := Fin.ext (by show (128 * s.val + (y 0).val) % 128 = (y 0).val; omega)
    show k0_pay1 (X ⟨(128 * s.val + (y 0).val) / 128, _⟩).wk (ix2 ⟨(128 * s.val + (y 0).val) % 128, _⟩ (y 1)) = _
    rw [e1, e2]; exact congrArg _ (eq_ix2 y).symm
theorem gotV_gV (X : Dev nD → In0 F) (s : Dev nD) : gotV (gV X) s = k0_pay2 (X s).wv := by
  funext y
  have h1 : (y 0).val < 128 := (y 0).isLt
  have hs : s.val < 4 := s.isLt
  refine (read_in cc0_scratch2 (k0_off2 s) S128x2048.size (k0_off2_inb s) (gV X)
    (ix2 (n0 := 512) (n1 := 2048) ⟨128 * s.val + (y 0).val, by omega⟩ (y 1)) y (fun a => ?_)).trans ?_
  · match a with
    | ⟨0, _⟩ => exact (congrArg (· + (y 0).val) (congrFun (o0_2 s) 0)).symm
    | ⟨1, _⟩ => exact ((congrArg (· + (y 1).val) (congrFun (o0_2 s) 1)).trans (Nat.zero_add _)).symm
  · unfold gV
    have e1 : (⟨(128 * s.val + (y 0).val) / 128, by show _ < 4; omega⟩ : Dev nD) = s := Fin.ext (by show (128 * s.val + (y 0).val) / 128 = s.val; omega)
    have e2 : (⟨(128 * s.val + (y 0).val) % 128, Nat.mod_lt _ (by decide)⟩ : Fin 128) = y 0 := Fin.ext (by show (128 * s.val + (y 0).val) % 128 = (y 0).val; omega)
    show k0_pay2 (X ⟨(128 * s.val + (y 0).val) / 128, _⟩).wv (ix2 ⟨(128 * s.val + (y 0).val) % 128, _⟩ (y 1)) = _
    rw [e1, e2]; exact congrArg _ (eq_ix2 y).symm

/-- The four row blocks written one after the other make up the own slab of the gathered latent. -/
theorem la_stored (X : Dev nD → In0 F) (c : Dev nD) (f : cc0_scratch0.ty.Contents (Elt F)) : ∀ x ∈ slabSet 0 c,
    ((Memref.whole cc0_scratch0).access (Rect.unit (s := S1024x512) (k0_off6 c) S256x128.size (k0_off6_inb c))).write (Elt F)
      (((Memref.whole cc0_scratch0).access (Rect.unit (s := S1024x512) (k0_off5 c) S256x128.size (k0_off5_inb c))).write (Elt F)
        (((Memref.whole cc0_scratch0).access (Rect.unit (s := S1024x512) (k0_off4 c) S256x128.size (k0_off4_inb c))).write (Elt F)
          (((Memref.whole cc0_scratch0).access (Rect.unit (s := S1024x512) (k0_off3 c) S256x128.size (k0_off3_inb c))).write (Elt F)
            f (laBlk (X c) 0) Finset.univ) (laBlk (X c) 1) Finset.univ) (laBlk (X c) 2) Finset.univ) (laBlk (X c) 3) Finset.univ x = gA X x := by
  intro (x : S1024x512.Idx) hx
  have hm := (mem_slabA c x).mp hx
  have h0 : (x 0).val < 1024 := (x 0).isLt
  have h1 : (x 1).val < 512 := (x 1).isLt
  have hc : c.val < 4 := c.isLt
  have hd : (⟨(x 1).val / 128, by show _ < 4; omega⟩ : Dev nD) = c := Fin.ext hm
  have hg : gA X x = laBlk (X c) ⟨(x 0).val / 256, by omega⟩ (ix2 ⟨(x 0).val % 256, Nat.mod_lt _ (by decide)⟩ ⟨(x 1).val % 128, Nat.mod_lt _ (by decide)⟩) := by
    unfold gA la; rw [hd]
  rw [hg]
  have put : ∀ (b : Fin 4) (off : Fin 2 → ℕ) (inb : ∀ a, off a + S256x128.size a ≤ S1024x512.size a) (ho : off = ![256 * b.val, 128 * c.val]) (g : cc0_scratch0.ty.Contents (Elt F)),
      (x 0).val / 256 = b.val → ((Memref.whole cc0_scratch0).access (Rect.unit (s := S1024x512) off S256x128.size inb)).write (Elt F) g (laBlk (X c) b) Finset.univ x
        = laBlk (X c) ⟨(x 0).val / 256, by omega⟩ (ix2 ⟨(x 0).val % 256, Nat.mod_lt _ (by decide)⟩ ⟨(x 1).val % 128, Nat.mod_lt _ (by decide)⟩) := by
    intro b off inb ho g hb
    subst ho
    have eb : (⟨(x 0).val / 256, by omega⟩ : Fin 4) = b := Fin.ext hb
    rw [eb]
    refine write_in cc0_scratch0 _ S256x128.size inb g _ x (ix2 (n0 := 256) (n1 := 128) ⟨(x 0).val % 256, Nat.mod_lt _ (by decide)⟩ ⟨(x 1).val % 128, Nat.mod_lt _ (by decide)⟩) (fun a => ?_)
    match a with
    | ⟨0, _⟩ => show (x 0).val = 256 * b.val + (x 0).val % 256; omega
    | ⟨1, _⟩ => show (x 1).val = 128 * c.val + (x 1).val % 128; omega
  have skip : ∀ (b : Fin 4) (off : Fin 2 → ℕ) (inb : ∀ a, off a + S256x128.size a ≤ S1024x512.size a) (ho : off = ![256 * b.val, 128 * c.val]) (g : cc0_scratch0.ty.Contents (Elt F)),
      (x 0).val / 256 < b.val → ((Memref.whole cc0_scratch0).access (Rect.unit (s := S1024x512) off S256x128.size inb)).write (Elt F) g (laBlk (X c) b) Finset.univ x = g x := by
    intro b off inb ho g hb
    subst ho
    exact write_out cc0_scratch0 _ S256x128.size inb g _ x 0 (.inl (by show (x 0).val < 256 * b.val; omega))
  rcases (show (x 0).val / 256 = 3 ∨ (x 0).val / 256 = 2 ∨ (x 0).val / 256 = 1 ∨ (x 0).val / 256 = 0 by omega) with h | h | h | h
  · exact put 3 _ _ (o0_6 c) _ h
  · exact (skip 3 _ _ (o0_6 c) _ (by rw [h]; decide)).trans (put 2 _ _ (o0_5 c) _ h)
  · exact (skip 3 _ _ (o0_6 c) _ (by rw [h]; decide)).trans ((skip 2 _ _ (o0_5 c) _ (by rw [h]; decide)).trans (put 1 _ _ (o0_4 c) _ h))
  · exact (skip 3 _ _ (o0_6 c) _ (by rw [h]; decide)).trans ((skip 2 _ _ (o0_5 c) _ (by rw [h]; decide)).trans
      ((skip 1 _ _ (o0_4 c) _ (by rw [h]; decide)).trans (put 0 _ _ (o0_3 c) _ h)))

/-- The rotary keys' four row blocks written one after the other. -/
theorem kr_stored (X : In0 F) (f : cc0_stg9_0.ty.Contents (Elt F)) :
    ((Memref.whole cc0_stg9_0).access (Rect.unit (s := S1024x32) ![768, 0] S256x32.size inb_S1024x32_S256x32_768_0)).write (Elt F)
      (((Memref.whole cc0_stg9_0).access (Rect.unit (s := S1024x32) ![512, 0] S256x32.size inb_S1024x32_S256x32_512_0)).write (Elt F)
        (((Memref.whole cc0_stg9_0).access (Rect.unit (s := S1024x32) ![256, 0] S256x32.size inb_S1024x32_S256x32_256_0)).write (Elt F)
          (((Memref.whole cc0_stg9_0).access (Rect.unit (s := S1024x32) ![0, 0] S256x32.size inb_S1024x32_S256x32_0_0)).write (Elt F)
            f (krBlk X 0) Finset.univ) (krBlk X 1) Finset.univ) (krBlk X 2) Finset.univ) (krBlk X 3) Finset.univ = kr X := by
  funext (x : S1024x32.Idx)
  have h0 : (x 0).val < 1024 := (x 0).isLt
  have h1 : (x 1).val < 32 := (x 1).isLt
  have put : ∀ (b : Fin 4) (off : Fin 2 → ℕ) (inb : ∀ a, off a + S256x32.size a ≤ S1024x32.size a) (ho : off = ![256 * b.val, 0]) (g : cc0_stg9_0.ty.Contents (Elt F)),
      (x 0).val / 256 = b.val → ((Memref.whole cc0_stg9_0).access (Rect.unit (s := S1024x32) off S256x32.size inb)).write (Elt F) g (krBlk X b) Finset.univ x
        = kr X x := by
    intro b off inb ho g hb
    subst ho
    have eb : (⟨(x 0).val / 256, by omega⟩ : Fin 4) = b := Fin.ext hb
    unfold kr
    rw [eb]
    refine write_in cc0_stg9_0 _ S256x32.size inb g _ x (ix2 (n0 := 256) (n1 := 32) ⟨(x 0).val % 256, Nat.mod_lt _ (by decide)⟩ (x 1)) (fun a => ?_)
    match a with
    | ⟨0, _⟩ => show (x 0).val = 256 * b.val + (x 0).val % 256; omega
    | ⟨1, _⟩ => exact (Nat.zero_add _).symm
  have skip : ∀ (b : Fin 4) (off : Fin 2 → ℕ) (inb : ∀ a, off a + S256x32.size a ≤ S1024x32.size a) (ho : off = ![256 * b.val, 0]) (g : cc0_stg9_0.ty.Contents (Elt F)),
      (x 0).val / 256 < b.val → ((Memref.whole cc0_stg9_0).access (Rect.unit (s := S1024x32) off S256x32.size inb)).write (Elt F) g (krBlk X b) Finset.univ x = g x := by
    intro b off inb ho g hb
    subst ho
    exact write_out cc0_stg9_0 _ S256x32.size inb g _ x 0 (.inl (by show (x 0).val < 256 * b.val; omega))
  rcases (show (x 0).val / 256 = 3 ∨ (x 0).val / 256 = 2 ∨ (x 0).val / 256 = 1 ∨ (x 0).val / 256 = 0 by omega) with h | h | h | h
  · exact put 3 _ _ rfl _ h
  · exact (skip 3 _ _ rfl _ (by rw [h]; decide)).trans (put 2 _ _ rfl _ h)
  · exact (skip 3 _ _ rfl _ (by rw [h]; decide)).trans ((skip 2 _ _ rfl _ (by rw [h]; decide)).trans (put 1 _ _ rfl _ h))
  · exact (skip 3 _ _ rfl _ (by rw [h]; decide)).trans ((skip 2 _ _ rfl _ (by rw [h]; decide)).trans
      ((skip 1 _ _ rfl _ (by rw [h]; decide)).trans (put 0 _ _ rfl _ h)))

/-- The keys: the own slabs' product, then the peers' one after the other as they are waited for; -/
def kOf (X : Dev nD → In0 F) (c : Dev nD) : cc0_stg7_0.ty.Contents (Elt F) :=
  k0_pay27 (la (X (pv 1 c))) (k0_pay1 (X (pv 1 c)).wk) (constant S1024x2048 .f32 0x00000000#32)
    (k0_pay25 (la (X (pv 2 c))) (k0_pay1 (X (pv 2 c)).wk)
      (k0_pay23 (la (X (pv 0 c))) (k0_pay1 (X (pv 0 c)).wk)
        (k0_pay21 (la (X c)) (k0_pay1 (X c).wk))))
/-- the values likewise; -/
def vOf (X : Dev nD → In0 F) (c : Dev nD) : cc0_stg8_0.ty.Contents (Elt F) :=
  k0_pay28 (la (X (pv 1 c))) (k0_pay2 (X (pv 1 c)).wv)
    (k0_pay26 (la (X (pv 2 c))) (k0_pay2 (X (pv 2 c)).wv)
      (k0_pay24 (la (X (pv 0 c))) (k0_pay2 (X (pv 0 c)).wv)
        (k0_pay22 (la (X c)) (k0_pay2 (X c).wv))))
/-- the queries and the rotary queries of the device's rows. -/
def qOf (c : Dev nD) (X : In0 F) : cc0_stg10_0.ty.Contents (Elt F) := k0_pay19 (xOwn c X) X.wq
def qrOf (c : Dev nD) (X : In0 F) : cc0_stg11_0.ty.Contents (Elt F) := k0_pay20 (xOwn c X) X.wqr

end Cert.Proof

end
-- ==== Proof.Body0.lean ====
/-
  The run of the first kernel's body on one device.
-/
module

public import proofs.«01_k».proof.Proof.Vals0

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## Whole staging buffers -/

theorem hz2 : (![0, 0] : Fin 2 → ℕ) = fun _ => 0 := by decide

/-- Sequencing; -/
theorem Wp_bind {α β : Type} (c : Dev nD) (p : Prog (TpuEff nD τ sig (Elt F) Λ₀ .tc) α) (k : α → Prog (TpuEff nD τ sig (Elt F) Λ₀ .tc) β)
    (Q : β → sProp 𝕄) : Wp c (p >>= k) Q = Wp c p (fun a => Wp c (k a) Q) := wp_bind ..
/-- returning; -/
theorem Wp_ret {α : Type} (c : Dev nD) (a : α) (Q : α → sProp 𝕄) : Q a ⊢ Wp c (.ret a) Q := by
  show _ ⊢ wp frame _ _ _ _
  rw [wp_ret]; iintro H; imodintro; iexact H
/-- the device's own number. -/
theorem Wp_deviceId {α : Type} (c : Dev nD) (k : Dev nD → Prog (TpuEff nD τ sig (Elt F) Λ₀ .tc) α) (Q : α → sProp 𝕄) :
    Wp c (.op .deviceId k) Q = Wp c (k c) Q := wp_deviceId 𝒱₀ (c : Thread nD τ) none Set.univ

/-- A load from a buffer held whole; -/
theorem load_any {α : Type} {Q : α → sProp 𝕄} {cs : CoreSpace} {s : Shape} {e : EltTy} (m : Memref sig .tc cs s e) (c : Dev nD)
    (f : m.view.ref.ty.Contents (Elt F)) {r : LoadRect s} {hl : m.view.LoadsAt r}
    {k : (r.shape.Idx → Elt F e) → Prog (TpuEff nD τ sig (Elt F) Λ₀ .tc) α} (w : r.shape.Idx → Elt F e)
    (hw : m.view.readAt (Elt F) r f = w) :
    (m.view.loc (c : Thread nD τ) ↦{fullShare} f : sProp 𝕄)
      ⊢ iprop(((m.view.loc (c : Thread nD τ) ↦{fullShare} f) -∗ Wp c (k w) Q) -∗ Wp c (.op (.load m r hl) k) Q) := by
  subst hw
  exact wp_load 𝒱₀ (c : Thread nD τ) none Set.univ (m := m) (S := Finset.univ) (Finset.subset_univ _)
/-- a store to one. -/
theorem store_any {α : Type} {Q : α → sProp 𝕄} {cs : CoreSpace} {s : Shape} {e : EltTy} (m : Memref sig .tc cs s e) (c : Dev nD)
    (r : Rect s) (w : r.shape.Idx → Elt F e)
    (f g : m.view.ref.ty.Contents (Elt F)) {hx : (m.access r).Stores Finset.univ} {hm : (Finset.univ : Finset r.shape.Idx) = Finset.univ ∨ ∀ a, r.stride a = 1}
    {k : PUnit → Prog (TpuEff nD τ sig (Elt F) Λ₀ .tc) α} (hg : (m.access r).write (Elt F) f w Finset.univ = g) :
    (m.view.loc (c : Thread nD τ) ↦{fullShare} f : sProp 𝕄)
      ⊢ iprop(((m.view.loc (c : Thread nD τ) ↦{fullShare} g) -∗ Wp c (k ⟨⟩) Q) -∗ Wp c (.op (.store m r w Finset.univ hx hm) k) Q) := by
  subst hg
  exact wp_store 𝒱₀ (c : Thread nD τ) none Set.univ (m := m) (r := r) (w := w) (Mk := Finset.univ) (hx := hx) (hm := hm) (k := k) (S := Finset.univ) (f := f) (Finset.subset_univ _)

/-- A peer's room in this device's buffers of the first kernel, handed to it. -/
theorem barPay0_mk (i : Fin 3) (c : Dev nD) (f0 : (chRef 0).ty.Contents (Elt F)) (f1 : (chRef 1).ty.Contents (Elt F)) (f2 : (chRef 2).ty.Contents (Elt F)) :
    iprop((pts 0 (nx i c) c fullShare f0 ∗ pts 1 (nx i c) c fullShare f1 ∗ pts 2 (nx i c) c fullShare f2)
        ∗ reached ER (recvCell 0 (Fin.rev i) c) 0 ∗ reached ER (recvCell 1 (Fin.rev i) c) 0 ∗ reached ER (recvCell 2 (Fin.rev i) c) 0)
      ⊢ (barPay 0 (Fin.rev i) (nx i c) : sProp 𝕄) := by
  show _ ⊢ iprop(room 0 (Fin.rev i) (nx i c) ∗ room 1 (Fin.rev i) (nx i c) ∗ room 2 (Fin.rev i) (nx i c))
  iintro ⟨⟨H0, H1, H2⟩, R0, R1, R2⟩
  isplitl [H0 R0]
  · iapply (room_mk 0 i c)
    isplitl [H0]; · iexists f0; iexact H0
    iexact R0
  isplitl [H1 R1]
  · iapply (room_mk 1 i c)
    isplitl [H1]; · iexists f1; iexact H1
    iexact R1
  iapply (room_mk 2 i c)
  isplitl [H2]; · iexists f2; iexact H2
  iexact R2

/-- A device's room in a peer's buffers of the first kernel, as it comes out of the barrier. -/
theorem barPay0_eq (i : Fin 3) (c : Dev nD) : (barPay 0 i c : sProp 𝕄) ⊢ iprop(room 0 i c ∗ room 1 i c ∗ room 2 i c) := .rfl

/-- A row block of the own latent columns loaded, to be overwritten; -/
theorem load_blk {α : Type} {Q : α → sProp 𝕄} {k : (S256x128.Idx → Elt F .bf16) → Prog (TpuEff nD τ sig (Elt F) Λ₀ .tc) α}
    (c : Dev nD) (f : (chRef 0).ty.Contents (Elt F)) (r : ℕ)
    (off : Fin 2 → ℕ) (inb : ∀ a, off a + S256x128.size a ≤ S1024x512.size a) (ho : off = ![r, 128 * c.val])
    {hl : (Memref.whole cc0_scratch0).view.LoadsAt (Rect.unit (s := S1024x512) off S256x128.size inb).toLoadRect} :
    pts 0 c c fullShare f ⊢ iprop((pts 0 c c fullShare f -∗ Wp c (k (((Memref.whole cc0_scratch0).access (Rect.unit (s := S1024x512) off S256x128.size inb)).read (Elt F) f)) Q)
      -∗ Wp c (.op (.load (Memref.whole cc0_scratch0) (Rect.unit (s := S1024x512) off S256x128.size inb).toLoadRect hl) k) Q) :=
  wp_load_rect 𝒱₀ (c : Thread nD τ) none Set.univ (m := Memref.whole cc0_scratch0) (r := Rect.unit (s := S1024x512) off S256x128.size inb)
    (S := slabSet 0 c) (f := f) (blk_sub c r off inb ho)
/-- and stored. -/
theorem store_blk {α : Type} {Q : α → sProp 𝕄} {k : PUnit → Prog (TpuEff nD τ sig (Elt F) Λ₀ .tc) α}
    (c : Dev nD) (f : (chRef 0).ty.Contents (Elt F)) (r : ℕ)
    (off : Fin 2 → ℕ) (inb : ∀ a, off a + S256x128.size a ≤ S1024x512.size a) (ho : off = ![r, 128 * c.val]) (w : S256x128.Idx → Elt F .bf16)
    {hx : ((Memref.whole cc0_scratch0).access (Rect.unit (s := S1024x512) off S256x128.size inb)).Stores Finset.univ}
    {hm : (Finset.univ : Finset (Rect.unit (s := S1024x512) off S256x128.size inb).shape.Idx) = Finset.univ ∨ ∀ a, (Rect.unit (s := S1024x512) off S256x128.size inb).stride a = 1} :
    pts 0 c c fullShare f ⊢ iprop((pts 0 c c fullShare (((Memref.whole cc0_scratch0).access (Rect.unit (s := S1024x512) off S256x128.size inb)).write (Elt F) f w Finset.univ) -∗ Wp c (k ⟨⟩) Q)
      -∗ Wp c (.op (.store (Memref.whole cc0_scratch0) (Rect.unit (s := S1024x512) off S256x128.size inb) w Finset.univ hx hm) k) Q) :=
  wp_store 𝒱₀ (c : Thread nD τ) none Set.univ (m := Memref.whole cc0_scratch0) (r := Rect.unit (s := S1024x512) off S256x128.size inb)
    (S := slabSet 0 c) (f := f) (blk_sub c r off inb ho)

/-- A copy with its cells open, and everyone knowing so of the receive cell. -/
def awake (a : Fin 5) (i : Fin 3) (c : Dev nD) : sProp 𝕄 := iprop(pre a i c ∗ reached ER (recvCell a i c) 0)

section

variable (G : Gath F) (κ : GSem nD τ sig → ℕ) (X : Dev nD → In0 F)

/-- What the body is called with: the barrier and the nine copies, the inputs staged, the outputs' and the scratch buffers at
    anything. -/
def start0 (c : Dev nD) : sProp 𝕄 :=
  iprop(ow c (dues0 c) ∗ (cred (tallyAt (barCell 0 c) () 3) ∗ atPos ER (barCell 0 c) 0 ∅ 0)
    ∗ (call 0 0 c ∗ call 0 1 c ∗ call 0 2 c)
    ∗ (awake 0 0 c ∗ awake 0 1 c ∗ awake 0 2 c ∗ awake 1 0 c ∗ awake 1 1 c ∗ awake 1 2 c ∗ awake 2 0 c ∗ awake 2 1 c ∗ awake 2 2 c))

/-- The inputs as staged. -/
def ins0 (c : Dev nD) : sProp 𝕄 :=
  iprop(((c : Thread nD τ).loc cc0_stg0_0 ↦{fullShare} (X c).x) ∗ ((c : Thread nD τ).loc cc0_stg1_0 ↦{fullShare} (X c).wd)
    ∗ ((c : Thread nD τ).loc cc0_stg2_0 ↦{fullShare} (X c).wk) ∗ ((c : Thread nD τ).loc cc0_stg3_0 ↦{fullShare} (X c).wv)
    ∗ ((c : Thread nD τ).loc cc0_stg4_0 ↦{fullShare} (X c).wkr) ∗ ((c : Thread nD τ).loc cc0_stg5_0 ↦{fullShare} (X c).wq)
    ∗ ((c : Thread nD τ).loc cc0_stg6_0 ↦{fullShare} (X c).wqr))

/-- The outputs' staging buffers: before, at anything; -/
def outs0 (c : Dev nD) : sProp 𝕄 :=
  iprop((∃ f, (c : Thread nD τ).loc cc0_stg7_0 ↦{fullShare} f) ∗ (∃ f, (c : Thread nD τ).loc cc0_stg8_0 ↦{fullShare} f)
    ∗ (∃ f, (c : Thread nD τ).loc cc0_stg9_0 ↦{fullShare} f) ∗ (∃ f, (c : Thread nD τ).loc cc0_stg10_0 ↦{fullShare} f)
    ∗ (∃ f, (c : Thread nD τ).loc cc0_stg11_0 ↦{fullShare} f))
/-- after, at what the kernel computes. -/
def res0 (c : Dev nD) : sProp 𝕄 :=
  iprop(((c : Thread nD τ).loc cc0_stg7_0 ↦{fullShare} kOf X c) ∗ ((c : Thread nD τ).loc cc0_stg8_0 ↦{fullShare} vOf X c)
    ∗ ((c : Thread nD τ).loc cc0_stg9_0 ↦{fullShare} kr (X c)) ∗ ((c : Thread nD τ).loc cc0_stg10_0 ↦{fullShare} qOf c (X c))
    ∗ ((c : Thread nD τ).loc cc0_stg11_0 ↦{fullShare} qrOf c (X c)))
/-- The shared scratch buffers at anything. -/
def scr0 (c : Dev nD) : sProp 𝕄 :=
  iprop((∃ f, (c : Thread nD τ).loc cc0_scratch0 ↦{fullShare} f) ∗ (∃ f, (c : Thread nD τ).loc cc0_scratch1 ↦{fullShare} f)
    ∗ (∃ f, (c : Thread nD τ).loc cc0_scratch2 ↦{fullShare} f))
/-- What is left of the exchange afterwards. -/
def end0 (c : Dev nD) : sProp 𝕄 :=
  iprop(ow c (dues1 c) ∗ atPos ER (barCell 0 c) (0 + 1) ∅ 0
    ∗ (done 0 0 c ∗ done 0 1 c ∗ done 0 2 c ∗ done 1 0 c ∗ done 1 1 c ∗ done 1 2 c ∗ done 2 0 c ∗ done 2 1 c ∗ done 2 2 c))

set_option maxHeartbeats 4000000 in
/-- The first kernel's body. -/
theorem run0 (hA : G 0 = gA X) (hU : G 1 = gU X) (hV : G 2 = gV X) (c : Dev nD) (Kt : PUnit → sProp 𝕄) :
    iprop(recs G κ ∗ (start0 c ∗ ins0 X c ∗ outs0 c ∗ scr0 c) ∗ ((end0 c ∗ ins0 X c ∗ res0 X c ∗ scr0 c) -∗ Kt ⟨⟩))
      ⊢ Wp c (cc0_body (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _)
          (Memref.whole cc0_stg4_0) (Memref.isWhole_whole _) (Memref.whole cc0_stg5_0) (Memref.isWhole_whole _)
          (Memref.whole cc0_stg6_0) (Memref.isWhole_whole _) (Memref.whole cc0_stg7_0) (Memref.isWhole_whole _)
          (Memref.whole cc0_stg8_0) (Memref.isWhole_whole _) (Memref.whole cc0_stg9_0) (Memref.isWhole_whole _)
          (Memref.whole cc0_stg10_0) (Memref.isWhole_whole _) (Memref.whole cc0_stg11_0) (Memref.isWhole_whole _)
          (Memref.whole cc0_scratch0) (Memref.isWhole_whole _) (Memref.whole cc0_scratch1) (Memref.isWhole_whole _)
          (Memref.whole cc0_scratch2) (Memref.isWhole_whole _) cc0_scratch3 cc0_scratch4) Kt := by
  unfold start0 ins0 outs0 scr0 awake
  iintro ⟨#Hr, ⟨⟨HO, ⟨HcB, HaB⟩, ⟨Hcall0, Hcall1, Hcall2⟩,
    ⟨⟨P00, #R00⟩, ⟨P01, #R01⟩, ⟨P02, #R02⟩, ⟨P10, #R10⟩, ⟨P11, #R11⟩, ⟨P12, #R12⟩, ⟨P20, #R20⟩, ⟨P21, #R21⟩, ⟨P22, #R22⟩⟩⟩,
    ⟨X0, X1, X2, X3, X4, X5, X6⟩, ⟨⟨%f7, O7⟩, ⟨%f8, O8⟩, ⟨%f9, O9⟩, ⟨%f10, O10⟩, ⟨%f11, O11⟩⟩,
    ⟨%fA, SA⟩, ⟨%fU, SU⟩, ⟨%fV, SV⟩⟩, Hk⟩
  ihave SA := (Entails.of_eq (whole_A c c fullShare fA)) $$ SA
  icases SA with ⟨SA, SA0, SA1, SA2⟩
  ihave SU := (Entails.of_eq (whole_U c c fullShare fU)) $$ SU
  icases SU with ⟨SU, SU0, SU1, SU2⟩
  ihave SV := (Entails.of_eq (whole_V c c fullShare fV)) $$ SV
  icases SV with ⟨SV, SV0, SV1, SV2⟩
  have hgU : ∀ s, gotU (G 1) s = k0_pay1 (X s).wk := fun s => by rw [hU]; exact gotU_gU X s
  have hgV : ∀ s, gotV (G 2) s = k0_pay2 (X s).wv := fun s => by rw [hV]; exact gotV_gV X s
  have hgA : ∀ s, gotA (G 0) s = la (X s) := fun s => by rw [hA]; exact gotA_gA X s
  rw [cc0_body_eq_skeleton]; unfold cc0_body_skel
  -- part 1
  rw [Wp_bind, k0_part1_eq_skeleton]; unfold k0_part1_skel
  simp only [semSignalWord, semWaitWord, Prog.lift, Prog.bind_op, Prog.bind_ret, Prog.pure_eq_ret]
  rw [Wp_deviceId]
  iapply (step_signal G κ 0 0 c _ (dev0_1 c) _ rfl _ rfl ((dues0 c).drop 1)) $$ [HO Hcall0 SA0 SU0 SV0]
  · isplitr; · iexact Hr
    isplitl [HO]; · iexact HO
    isplitl [Hcall0]; · iexact Hcall0
    iapply (barPay0_mk 0 c fA fU fV)
    isplitl [SA0 SU0 SV0]
    · isplitl [SA0]; · iexact SA0
      isplitl [SU0] <;> iassumption
    isplitr; · iexact R02
    isplitr; · iexact R12
    iexact R22
  iintro HO
  iapply (step_signal G κ 0 1 c _ (dev0_2 c) _ rfl _ rfl ((dues0 c).drop 2)) $$ [HO Hcall1 SA1 SU1 SV1]
  · isplitr; · iexact Hr
    isplitl [HO]; · iexact HO
    isplitl [Hcall1]; · iexact Hcall1
    iapply (barPay0_mk 1 c fA fU fV)
    isplitl [SA1 SU1 SV1]
    · isplitl [SA1]; · iexact SA1
      isplitl [SU1] <;> iassumption
    isplitr; · iexact R01
    isplitr; · iexact R11
    iexact R21
  iintro HO
  iapply Wp_ret; try dsimp only
  -- part 2
  rw [Wp_bind, k0_part2_eq_skeleton]; unfold k0_part2_skel
  simp only [semSignalWord, semWaitWord, Prog.lift, Prog.bind_op, Prog.bind_ret, Prog.pure_eq_ret]
  iapply (step_signal G κ 0 2 c _ (dev0_3 c) _ rfl _ rfl ((dues0 c).drop 3)) $$ [HO Hcall2 SA2 SU2 SV2]
  · isplitr; · iexact Hr
    isplitl [HO]; · iexact HO
    isplitl [Hcall2]; · iexact Hcall2
    iapply (barPay0_mk 2 c fA fU fV)
    isplitl [SA2 SU2 SV2]
    · isplitl [SA2]; · iexact SA2
      isplitl [SU2] <;> iassumption
    isplitr; · iexact R00
    isplitr; · iexact R10
    iexact R20
  iintro HO
  iapply (load_any (Memref.whole cc0_stg2_0) c _ _ (Memref.readAt_unit_zero _ _ hz2 _ _)) $$ X2; iintro X2
  iapply (load_U c c fullShare fU _ (k0_off1_inb c) ((o0_1 c).trans (o0_2 c).symm)) $$ SU; iintro SU
  iapply (store_U c c fU (G 1) _ _ (k0_off1_inb c) ((o0_1 c).trans (o0_2 c).symm) (hgU c)) $$ SU; iintro SU
  iapply (load_any (Memref.whole cc0_stg3_0) c _ _ (Memref.readAt_unit_zero _ _ hz2 _ _)) $$ X3; iintro X3
  iapply (load_V c c fullShare fV _ (k0_off1_inb c) ((o0_1 c).trans (o0_2 c).symm)) $$ SV; iintro SV
  iapply (store_V c c fV (G 2) _ _ (k0_off1_inb c) ((o0_1 c).trans (o0_2 c).symm) (hgV c)) $$ SV; iintro SV
  iapply (step_waitBar G κ 0 c _ rfl _ rfl ((dues0 c).drop 3) 1 (above_copies0 c) (by decide)) $$ [HO HcB HaB]
  · isplitr; · iexact Hr
    isplitl [HO]; · iexact HO
    isplitl [HcB] <;> iassumption
  iintro ⟨HO, HaB, Hp0, Hp1, Hp2⟩
  ihave Hp0 := (barPay0_eq 0 c) $$ Hp0
  icases Hp0 with ⟨Rm00, Rm10, Rm20⟩
  ihave Hp1 := (barPay0_eq 1 c) $$ Hp1
  icases Hp1 with ⟨Rm01, Rm11, Rm21⟩
  ihave Hp2 := (barPay0_eq 2 c) $$ Hp2
  icases Hp2 with ⟨Rm02, Rm12, Rm22⟩
  iapply Wp_ret; try dsimp only
  ihave SU := (pts_shares 1 c c (G 1)).1 $$ SU
  icases SU with ⟨⟨SU0, SU1⟩, SU2, SUK⟩
  ihave SV := (pts_shares 2 c c (G 2)).1 $$ SV
  icases SV with ⟨⟨SV0, SV1⟩, SV2, SVK⟩
  -- part 3
  rw [Wp_bind, k0_part3_eq_skeleton]; unfold k0_part3_skel
  simp only [Prog.lift, Prog.bind_op, Prog.bind_ret, Prog.pure_eq_ret]
  iapply (send_U G κ 0 c _ (dev0_4 c) _ _ rfl rfl ((dues0 c).drop 4)) $$ [HO P10 SU0 Rm10]
  · isplitr; · iexact Hr
    isplitl [HO]; · iexact HO
    unfold ready
    isplitl [P10]; · iexact P10
    isplitl [SU0] <;> iassumption
  iintro ⟨HO, P10⟩
  iapply (send_V G κ 0 c _ (dev0_5 c) _ _ rfl rfl ((dues0 c).drop 5)) $$ [HO P20 SV0 Rm20]
  · isplitr; · iexact Hr
    isplitl [HO]; · iexact HO
    unfold ready
    isplitl [P20]; · iexact P20
    isplitl [SV0] <;> iassumption
  iintro ⟨HO, P20⟩
  iapply Wp_ret; try dsimp only
  -- part 4
  rw [Wp_bind, k0_part4_eq_skeleton]; unfold k0_part4_skel
  simp only [Prog.lift, Prog.bind_op, Prog.bind_ret, Prog.pure_eq_ret]
  iapply (send_U G κ 1 c _ (dev0_6 c) _ _ rfl rfl ((dues0 c).drop 6)) $$ [HO P11 SU1 Rm11]
  · isplitr; · iexact Hr
    isplitl [HO]; · iexact HO
    unfold ready
    isplitl [P11]; · iexact P11
    isplitl [SU1] <;> iassumption
  iintro ⟨HO, P11⟩
  iapply (send_V G κ 1 c _ (dev0_7 c) _ _ rfl rfl ((dues0 c).drop 7)) $$ [HO P21 SV1 Rm21]
  · isplitr; · iexact Hr
    isplitl [HO]; · iexact HO
    unfold ready
    isplitl [P21]; · iexact P21
    isplitl [SV1] <;> iassumption
  iintro ⟨HO, P21⟩
  iapply Wp_ret; try dsimp only
  -- part 5
  rw [Wp_bind, k0_part5_eq_skeleton]; unfold k0_part5_skel
  simp only [Prog.lift, Prog.bind_op, Prog.bind_ret, Prog.pure_eq_ret]
  iapply (send_U G κ 2 c _ (dev0_8 c) _ _ rfl rfl ((dues0 c).drop 8)) $$ [HO P12 SU2 Rm12]
  · isplitr; · iexact Hr
    isplitl [HO]; · iexact HO
    unfold ready
    isplitl [P12]; · iexact P12
    isplitl [SU2] <;> iassumption
  iintro ⟨HO, P12⟩
  iapply (send_V G κ 2 c _ (dev0_9 c) _ _ rfl rfl ((dues0 c).drop 9)) $$ [HO P22 SV2 Rm22]
  · isplitr; · iexact Hr
    isplitl [HO]; · iexact HO
    unfold ready
    isplitl [P22]; · iexact P22
    isplitl [SV2] <;> iassumption
  iintro ⟨HO, P22⟩
  iapply (load_any (Memref.whole cc0_stg1_0) c _ _ (Memref.readAt_unit_zero _ _ hz2 _ _)) $$ X1; iintro X1
  iapply (load_any (Memref.whole cc0_stg4_0) c _ _ (Memref.readAt_unit_zero _ _ hz2 _ _)) $$ X4; iintro X4
  iapply (load_any (Memref.whole cc0_stg0_0) c _ _ rfl) $$ X0; iintro X0
  iapply (load_blk c _ 0 _ (k0_off3_inb c) (o0_3 c)) $$ SA; iintro SA
  iapply Wp_ret; try dsimp only
  -- part 6
  rw [Wp_bind, k0_part6_eq_skeleton]; unfold k0_part6_skel
  simp only [Prog.lift, Prog.bind_op, Prog.bind_ret, Prog.pure_eq_ret]
  iapply (store_blk c _ 0 _ (k0_off3_inb c) (o0_3 c) _) $$ SA; iintro SA
  iapply (load_any (Memref.whole cc0_stg9_0) c _ _ rfl) $$ O9; iintro O9
  iapply (store_any (Memref.whole cc0_stg9_0) c _ _ _ _ rfl) $$ O9; iintro O9
  iapply (load_any (Memref.whole cc0_stg0_0) c _ _ rfl) $$ X0; iintro X0
  iapply (load_blk c _ 256 _ (k0_off4_inb c) (o0_4 c)) $$ SA; iintro SA
  iapply (store_blk c _ 256 _ (k0_off4_inb c) (o0_4 c) _) $$ SA; iintro SA
  iapply (load_any (Memref.whole cc0_stg9_0) c _ _ rfl) $$ O9; iintro O9
  iapply (store_any (Memref.whole cc0_stg9_0) c _ _ _ _ rfl) $$ O9; iintro O9
  iapply (load_any (Memref.whole cc0_stg0_0) c _ _ rfl) $$ X0; iintro X0
  iapply (load_blk c _ 512 _ (k0_off5_inb c) (o0_5 c)) $$ SA; iintro SA
  iapply (store_blk c _ 512 _ (k0_off5_inb c) (o0_5 c) _) $$ SA; iintro SA
  iapply (load_any (Memref.whole cc0_stg9_0) c _ _ rfl) $$ O9; iintro O9
  iapply (store_any (Memref.whole cc0_stg9_0) c _ _ _ _ rfl) $$ O9; iintro O9
  iapply Wp_ret; try dsimp only
  -- part 7
  rw [Wp_bind, k0_part7_eq_skeleton]; unfold k0_part7_skel
  simp only [Prog.lift, Prog.bind_op, Prog.bind_ret, Prog.pure_eq_ret]
  iapply (load_any (Memref.whole cc0_stg0_0) c _ _ rfl) $$ X0; iintro X0
  iapply (load_blk c _ 768 _ (k0_off6_inb c) (o0_6 c)) $$ SA; iintro SA
  iapply (store_blk c _ 768 _ (k0_off6_inb c) (o0_6 c) _) $$ SA; iintro SA
  iapply (load_any (Memref.whole cc0_stg9_0) c _ _ rfl) $$ O9; iintro O9
  iapply (store_any (Memref.whole cc0_stg9_0) c _ _ _ _ rfl) $$ O9; iintro O9
  have e9 := kr_stored (X c) f9
  simp only [krBlk, xBlk] at e9
  ihave O9 := (Entails.of_eq (congrArg (fun g => (((c : Thread nD τ).loc cc0_stg9_0 ↦{fullShare} g) : sProp 𝕄)) e9)) $$ O9
  have eA := pointsTo_congr (Ix := Unit) (Val := Elt F) (Name := ℕ) (U := UU) (Lvl := ℕ) (ℓ := (c : Thread nD τ).loc cc0_scratch0) (q := fullShare)
    (fun x hx => (la_stored X c fA x hx).trans (congrFun hA.symm x))
  simp only [laBlk, xBlk] at eA
  ihave SA := (Entails.of_eq eA) $$ SA
  ihave SA := (pts_shares 0 c c (G 0)).1 $$ SA
  icases SA with ⟨⟨SA0, SA1⟩, SA2, SAK⟩
  iapply (send_A G κ 0 c _ (dev0_10 c) _ _ rfl rfl ((dues0 c).drop 10)) $$ [HO P00 SA0 Rm00]
  · isplitr; · iexact Hr
    isplitl [HO]; · iexact HO
    unfold ready
    isplitl [P00]; · iexact P00
    isplitl [SA0] <;> iassumption
  iintro ⟨HO, P00⟩
  iapply Wp_ret; try dsimp only
  -- part 8
  rw [Wp_bind, k0_part8_eq_skeleton]; unfold k0_part8_skel
  simp only [Prog.lift, Prog.bind_op, Prog.bind_ret, Prog.pure_eq_ret]
  iapply (send_A G κ 1 c _ (dev0_11 c) _ _ rfl rfl ((dues0 c).drop 11)) $$ [HO P01 SA1 Rm01]
  · isplitr; · iexact Hr
    isplitl [HO]; · iexact HO
    unfold ready
    isplitl [P01]; · iexact P01
    isplitl [SA1] <;> iassumption
  iintro ⟨HO, P01⟩
  iapply Wp_ret; try dsimp only
  -- part 9
  rw [Wp_bind, k0_part9_eq_skeleton]; unfold k0_part9_skel
  simp only [Prog.lift, Prog.bind_op, Prog.bind_ret, Prog.pure_eq_ret]
  iapply (send_A G κ 2 c _ (dev0_12 c) _ _ rfl rfl ((dues0 c).drop 12)) $$ [HO P02 SA2 Rm02]
  · isplitr; · iexact Hr
    isplitl [HO]; · iexact HO
    unfold ready
    isplitl [P02]; · iexact P02
    isplitl [SA2] <;> iassumption
  iintro ⟨HO, P02⟩
  iapply (load_any (Memref.whole cc0_stg0_0) c _ _ rfl) $$ X0; iintro X0
  iapply (load_any (Memref.whole cc0_stg5_0) c _ _ (Memref.readAt_unit_zero _ _ hz2 _ _)) $$ X5; iintro X5
  iapply (load_any (Memref.whole cc0_stg10_0) c _ _ (Memref.readAt_unit_zero _ _ hz2 _ _)) $$ O10; iintro O10
  iapply (store_any (Memref.whole cc0_stg10_0) c _ _ _ _ (Memref.write_access_unit_zero_univ _ _ hz2 _ _ _)) $$ O10; iintro O10
  iapply (load_any (Memref.whole cc0_stg6_0) c _ _ (Memref.readAt_unit_zero _ _ hz2 _ _)) $$ X6; iintro X6
  iapply (load_any (Memref.whole cc0_stg11_0) c _ _ (Memref.readAt_unit_zero _ _ hz2 _ _)) $$ O11; iintro O11
  iapply (store_any (Memref.whole cc0_stg11_0) c _ _ _ _ (Memref.write_access_unit_zero_univ _ _ hz2 _ _ _)) $$ O11; iintro O11
  iapply (load_A c c shK (G 0) _ (k0_off9_inb c) ((o0_9 c).trans (o0_7 c).symm)) $$ SAK; iintro SAK; rw [hgA]
  iapply (load_U c c shK (G 1) _ (k0_off1_inb c) ((o0_1 c).trans (o0_2 c).symm)) $$ SUK; iintro SUK; rw [hgU]
  iapply (load_V c c shK (G 2) _ (k0_off1_inb c) ((o0_1 c).trans (o0_2 c).symm)) $$ SVK; iintro SVK; rw [hgV]
  iapply Wp_ret; try dsimp only
  -- part 10
  rw [Wp_bind, k0_part10_eq_skeleton]; unfold k0_part10_skel
  simp only [Prog.lift, Prog.bind_op, Prog.bind_ret, Prog.pure_eq_ret]
  iapply (load_any (Memref.whole cc0_stg7_0) c _ _ (Memref.readAt_unit_zero _ _ hz2 _ _)) $$ O7; iintro O7
  iapply (store_any (Memref.whole cc0_stg7_0) c _ _ _ _ (Memref.write_access_unit_zero_univ _ _ hz2 _ _ _)) $$ O7; iintro O7
  iapply (load_any (Memref.whole cc0_stg8_0) c _ _ (Memref.readAt_unit_zero _ _ hz2 _ _)) $$ O8; iintro O8
  iapply (store_any (Memref.whole cc0_stg8_0) c _ _ _ _ (Memref.write_access_unit_zero_univ _ _ hz2 _ _ _)) $$ O8; iintro O8
  iapply (recv_A G κ 0 c _ rfl (dues1 c) (above_dues1 c)) $$ [HO P00]
  · isplitr; · iexact Hr
    isplitl [HO]; · iexact HO
    iexact P00
  iintro ⟨HO, P00, TA0⟩
  iapply (recv_U G κ 0 c _ rfl (dues1 c) (above_dues1 c)) $$ [HO P10]
  · isplitr; · iexact Hr
    isplitl [HO]; · iexact HO
    iexact P10
  iintro ⟨HO, P10, TU0⟩
  iapply (recv_V G κ 0 c _ rfl (dues1 c) (above_dues1 c)) $$ [HO P20]
  · isplitr; · iexact Hr
    isplitl [HO]; · iexact HO
    iexact P20
  iintro ⟨HO, P20, TV0⟩
  iapply Wp_ret; try dsimp only
  -- part 11
  rw [Wp_bind, k0_part11_eq_skeleton]; unfold k0_part11_skel
  simp only [Prog.lift, Prog.bind_op, Prog.bind_ret, Prog.pure_eq_ret]
  iapply (load_A (pv 0 c) c fullShare (G 0) _ (k0_off10_inb c 0) ((o0_10 c 0).trans (o0_7 (pv 0 c)).symm)) $$ TA0; iintro TA0; rw [hgA]
  iapply (load_U (pv 0 c) c fullShare (G 1) _ (k0_off11_inb c 0) ((o0_11 c 0).trans (o0_2 (pv 0 c)).symm)) $$ TU0; iintro TU0; rw [hgU]
  iapply (load_V (pv 0 c) c fullShare (G 2) _ (k0_off11_inb c 0) ((o0_11 c 0).trans (o0_2 (pv 0 c)).symm)) $$ TV0; iintro TV0; rw [hgV]
  iapply (load_any (Memref.whole cc0_stg7_0) c _ _ (Memref.readAt_unit_zero _ _ hz2 _ _)) $$ O7; iintro O7
  iapply (load_any (Memref.whole cc0_stg7_0) c _ _ (Memref.readAt_unit_zero _ _ hz2 _ _)) $$ O7; iintro O7
  iapply (store_any (Memref.whole cc0_stg7_0) c _ _ _ _ (Memref.write_access_unit_zero_univ _ _ hz2 _ _ _)) $$ O7; iintro O7
  iapply (load_any (Memref.whole cc0_stg8_0) c _ _ (Memref.readAt_unit_zero _ _ hz2 _ _)) $$ O8; iintro O8
  iapply (load_any (Memref.whole cc0_stg8_0) c _ _ (Memref.readAt_unit_zero _ _ hz2 _ _)) $$ O8; iintro O8
  iapply (store_any (Memref.whole cc0_stg8_0) c _ _ _ _ (Memref.write_access_unit_zero_univ _ _ hz2 _ _ _)) $$ O8; iintro O8
  iapply Wp_ret; try dsimp only
  -- part 12
  rw [Wp_bind, k0_part12_eq_skeleton]; unfold k0_part12_skel
  simp only [Prog.lift, Prog.bind_op, Prog.bind_ret, Prog.pure_eq_ret]
  iapply (recv_A G κ 2 c _ rfl (dues1 c) (above_dues1 c)) $$ [HO P02]
  · isplitr; · iexact Hr
    isplitl [HO]; · iexact HO
    iexact P02
  iintro ⟨HO, P02, TA2⟩
  iapply (recv_U G κ 2 c _ rfl (dues1 c) (above_dues1 c)) $$ [HO P12]
  · isplitr; · iexact Hr
    isplitl [HO]; · iexact HO
    iexact P12
  iintro ⟨HO, P12, TU2⟩
  iapply (recv_V G κ 2 c _ rfl (dues1 c) (above_dues1 c)) $$ [HO P22]
  · isplitr; · iexact Hr
    isplitl [HO]; · iexact HO
    iexact P22
  iintro ⟨HO, P22, TV2⟩
  iapply Wp_ret; try dsimp only
  -- part 13
  rw [Wp_bind, k0_part13_eq_skeleton]; unfold k0_part13_skel
  simp only [Prog.lift, Prog.bind_op, Prog.bind_ret, Prog.pure_eq_ret]
  iapply (load_A (pv 2 c) c fullShare (G 0) _ (k0_off10_inb c 2) ((o0_10 c 2).trans (o0_7 (pv 2 c)).symm)) $$ TA2; iintro TA2; rw [hgA]
  iapply (load_U (pv 2 c) c fullShare (G 1) _ (k0_off11_inb c 2) ((o0_11 c 2).trans (o0_2 (pv 2 c)).symm)) $$ TU2; iintro TU2; rw [hgU]
  iapply (load_V (pv 2 c) c fullShare (G 2) _ (k0_off11_inb c 2) ((o0_11 c 2).trans (o0_2 (pv 2 c)).symm)) $$ TV2; iintro TV2; rw [hgV]
  iapply (load_any (Memref.whole cc0_stg7_0) c _ _ (Memref.readAt_unit_zero _ _ hz2 _ _)) $$ O7; iintro O7
  iapply (load_any (Memref.whole cc0_stg7_0) c _ _ (Memref.readAt_unit_zero _ _ hz2 _ _)) $$ O7; iintro O7
  iapply (store_any (Memref.whole cc0_stg7_0) c _ _ _ _ (Memref.write_access_unit_zero_univ _ _ hz2 _ _ _)) $$ O7; iintro O7
  iapply (load_any (Memref.whole cc0_stg8_0) c _ _ (Memref.readAt_unit_zero _ _ hz2 _ _)) $$ O8; iintro O8
  iapply (load_any (Memref.whole cc0_stg8_0) c _ _ (Memref.readAt_unit_zero _ _ hz2 _ _)) $$ O8; iintro O8
  iapply (store_any (Memref.whole cc0_stg8_0) c _ _ _ _ (Memref.write_access_unit_zero_univ _ _ hz2 _ _ _)) $$ O8; iintro O8
  iapply (recv_A G κ 1 c _ rfl (dues1 c) (above_dues1 c)) $$ [HO P01]
  · isplitr; · iexact Hr
    isplitl [HO]; · iexact HO
    iexact P01
  iintro ⟨HO, P01, TA1⟩
  iapply Wp_ret; try dsimp only
  -- part 14
  rw [Wp_bind, k0_part14_eq_skeleton]; unfold k0_part14_skel
  simp only [Prog.lift, Prog.bind_op, Prog.bind_ret, Prog.pure_eq_ret]
  iapply (recv_U G κ 1 c _ rfl (dues1 c) (above_dues1 c)) $$ [HO P11]
  · isplitr; · iexact Hr
    isplitl [HO]; · iexact HO
    iexact P11
  iintro ⟨HO, P11, TU1⟩
  iapply (recv_V G κ 1 c _ rfl (dues1 c) (above_dues1 c)) $$ [HO P21]
  · isplitr; · iexact Hr
    isplitl [HO]; · iexact HO
    iexact P21
  iintro ⟨HO, P21, TV1⟩
  iapply (load_A (pv 1 c) c fullShare (G 0) _ (k0_off10_inb c 1) ((o0_10 c 1).trans (o0_7 (pv 1 c)).symm)) $$ TA1; iintro TA1; rw [hgA]
  iapply (load_U (pv 1 c) c fullShare (G 1) _ (k0_off11_inb c 1) ((o0_11 c 1).trans (o0_2 (pv 1 c)).symm)) $$ TU1; iintro TU1; rw [hgU]
  iapply (load_V (pv 1 c) c fullShare (G 2) _ (k0_off11_inb c 1) ((o0_11 c 1).trans (o0_2 (pv 1 c)).symm)) $$ TV1; iintro TV1; rw [hgV]
  iapply Wp_ret; try dsimp only
  -- part 15
  rw [Wp_bind, k0_part15_eq_skeleton]; unfold k0_part15_skel
  simp only [Prog.lift, Prog.bind_op, Prog.bind_ret, Prog.pure_eq_ret]
  iapply (load_any (Memref.whole cc0_stg7_0) c _ _ (Memref.readAt_unit_zero _ _ hz2 _ _)) $$ O7; iintro O7
  iapply (load_any (Memref.whole cc0_stg7_0) c _ _ (Memref.readAt_unit_zero _ _ hz2 _ _)) $$ O7; iintro O7
  iapply (store_any (Memref.whole cc0_stg7_0) c _ _ _ _ (Memref.write_access_unit_zero_univ _ _ hz2 _ _ _)) $$ O7; iintro O7
  iapply (load_any (Memref.whole cc0_stg8_0) c _ _ (Memref.readAt_unit_zero _ _ hz2 _ _)) $$ O8; iintro O8
  iapply (load_any (Memref.whole cc0_stg8_0) c _ _ (Memref.readAt_unit_zero _ _ hz2 _ _)) $$ O8; iintro O8
  iapply (store_any (Memref.whole cc0_stg8_0) c _ _ _ _ (Memref.write_access_unit_zero_univ _ _ hz2 _ _ _)) $$ O8; iintro O8
  iapply (left_A G κ 0 c _ rfl (dues1 c) (above_dues1 c)) $$ [HO P00]
  · isplitr; · iexact Hr
    isplitl [HO]; · iexact HO
    iexact P00
  iintro ⟨HO, P00, SA0⟩
  iapply (left_U G κ 0 c _ rfl (dues1 c) (above_dues1 c)) $$ [HO P10]
  · isplitr; · iexact Hr
    isplitl [HO]; · iexact HO
    iexact P10
  iintro ⟨HO, P10, SU0⟩
  iapply (left_V G κ 0 c _ rfl (dues1 c) (above_dues1 c)) $$ [HO P20]
  · isplitr; · iexact Hr
    isplitl [HO]; · iexact HO
    iexact P20
  iintro ⟨HO, P20, SV0⟩
  iapply Wp_ret; try dsimp only
  -- part 16
  rw [Wp_bind, k0_part16_eq_skeleton]; unfold k0_part16_skel
  simp only [Prog.lift, Prog.bind_op, Prog.bind_ret, Prog.pure_eq_ret]
  iapply (left_A G κ 1 c _ rfl (dues1 c) (above_dues1 c)) $$ [HO P01]
  · isplitr; · iexact Hr
    isplitl [HO]; · iexact HO
    iexact P01
  iintro ⟨HO, P01, SA1⟩
  iapply (left_U G κ 1 c _ rfl (dues1 c) (above_dues1 c)) $$ [HO P11]
  · isplitr; · iexact Hr
    isplitl [HO]; · iexact HO
    iexact P11
  iintro ⟨HO, P11, SU1⟩
  iapply (left_V G κ 1 c _ rfl (dues1 c) (above_dues1 c)) $$ [HO P21]
  · isplitr; · iexact Hr
    isplitl [HO]; · iexact HO
    iexact P21
  iintro ⟨HO, P21, SV1⟩
  iapply (left_A G κ 2 c _ rfl (dues1 c) (above_dues1 c)) $$ [HO P02]
  · isplitr; · iexact Hr
    isplitl [HO]; · iexact HO
    iexact P02
  iintro ⟨HO, P02, SA2⟩
  iapply (left_U G κ 2 c _ rfl (dues1 c) (above_dues1 c)) $$ [HO P12]
  · isplitr; · iexact Hr
    isplitl [HO]; · iexact HO
    iexact P12
  iintro ⟨HO, P12, SU2⟩
  iapply Wp_ret; try dsimp only
  -- the last wait
  iapply (left_V G κ 2 c _ rfl (dues1 c) (above_dues1 c)) $$ [HO P22]
  · isplitr; · iexact Hr
    isplitl [HO]; · iexact HO
    iexact P22
  iintro ⟨HO, P22, SV2⟩
  iapply Wp_ret
  iapply Hk
  unfold end0 res0
  isplitl [HO HaB P00 P01 P02 P10 P11 P12 P20 P21 P22]
  · isplitl [HO]; · iexact HO
    isplitl [HaB]; · iexact HaB
    isplitl [P00]; · iexact P00
    isplitl [P01]; · iexact P01
    isplitl [P02]; · iexact P02
    isplitl [P10]; · iexact P10
    isplitl [P11]; · iexact P11
    isplitl [P12]; · iexact P12
    isplitl [P20]; · iexact P20
    isplitl [P21]; · iexact P21
    iexact P22
  isplitl [X0 X1 X2 X3 X4 X5 X6]
  · isplitl [X0]; · iexact X0
    isplitl [X1]; · iexact X1
    isplitl [X2]; · iexact X2
    isplitl [X3]; · iexact X3
    isplitl [X4]; · iexact X4
    isplitl [X5]; · iexact X5
    iexact X6
  isplitl [O7 O8 O9 O10 O11]
  · isplitl [O7]; · iexact O7
    isplitl [O8]; · iexact O8
    isplitl [O9]; · iexact O9
    isplitl [O10]; · iexact O10
    iexact O11
  isplitl [SA0 SA1 SA2 SAK TA0 TA1 TA2]
  · iexists G 0
    iapply (Entails.of_eq (whole_A c c fullShare (G 0)).symm)
    isplitl [SA0 SA1 SA2 SAK]
    · iapply (pts_shares 0 c c (G 0)).2
      isplitl [SA0 SA1]
      · isplitl [SA0] <;> iassumption
      isplitl [SA2] <;> iassumption
    isplitl [TA2]; · iexact TA2
    isplitl [TA1]; · iexact TA1
    iexact TA0
  isplitl [SU0 SU1 SU2 SUK TU0 TU1 TU2]
  · iexists G 1
    iapply (Entails.of_eq (whole_U c c fullShare (G 1)).symm)
    isplitl [SU0 SU1 SU2 SUK]
    · iapply (pts_shares 1 c c (G 1)).2
      isplitl [SU0 SU1]
      · isplitl [SU0] <;> iassumption
      isplitl [SU2] <;> iassumption
    isplitl [TU2]; · iexact TU2
    isplitl [TU1]; · iexact TU1
    iexact TU0
  iexists G 2
  iapply (Entails.of_eq (whole_V c c fullShare (G 2)).symm)
  isplitl [SV0 SV1 SV2 SVK]
  · iapply (pts_shares 2 c c (G 2)).2
    isplitl [SV0 SV1]
    · isplitl [SV0] <;> iassumption
    isplitl [SV2] <;> iassumption
  isplitl [TV2]; · iexact TV2
  isplitl [TV1]; · iexact TV1
  iexact TV0

end

end Cert.Proof

end
-- ==== Proof.Slab1.lean ====
/-
  The second kernel's slabs: loads, stores, copies and waits of the two halves of a device's attention rows, and the loads of
  a peer's two halves together.
-/
module

public import proofs.«01_k».proof.Proof.Slab

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## The first halves -/

/-- Loading an own first half, to be overwritten; -/
theorem load_P {α : Type} {Q : α → sProp 𝕄} {k : (S128x2048.Idx → Elt F .bf16) → Prog (TpuEff nD τ sig (Elt F) Λ₀ .tc) α}
    (s p : Dev nD) (q : PosShare TreeShare) (f : (chRef 3).ty.Contents (Elt F))
    (off : Fin 2 → ℕ) (inb : ∀ a, off a + S128x2048.size a ≤ S1024x2048.size a) (ho : off = k1_off3 s (BitVec.ofNat 32 (128 * (0 : Fin 2).val)))
    {hl : (Memref.whole cc1_scratch0).view.LoadsAt (Rect.unit (s := S1024x2048) off S128x2048.size inb).toLoadRect} :
    pts 3 s p q f ⊢ iprop((pts 3 s p q f -∗ Wp p (k (gotO f 0 s)) Q)
      -∗ Wp p (.op (.load (Memref.whole cc1_scratch0) (Rect.unit (s := S1024x2048) off S128x2048.size inb).toLoadRect hl) k) Q) := by
  subst ho
  exact wp_load_rect 𝒱₀ (p : Thread nD τ) none Set.univ (m := Memref.whole cc1_scratch0) (r := Rect.unit (s := S1024x2048) (k1_off3 s (BitVec.ofNat 32 (128 * (0 : Fin 2).val))) S128x2048.size (k1_off3_inb s 0))
    (S := slabSet 3 s) (f := f) (fun _ h => h)
/-- storing it; -/
theorem store_P {α : Type} {Q : α → sProp 𝕄} {k : PUnit → Prog (TpuEff nD τ sig (Elt F) Λ₀ .tc) α}
    (s p : Dev nD) (f g : (chRef 3).ty.Contents (Elt F)) (w : S128x2048.Idx → Elt F .bf16)
    (off : Fin 2 → ℕ) (inb : ∀ a, off a + S128x2048.size a ≤ S1024x2048.size a) (ho : off = k1_off3 s (BitVec.ofNat 32 (128 * (0 : Fin 2).val))) (hg : gotO g 0 s = w)
    {hx : ((Memref.whole cc1_scratch0).access (Rect.unit (s := S1024x2048) off S128x2048.size inb)).Stores Finset.univ}
    {hm : (Finset.univ : Finset (Rect.unit (s := S1024x2048) off S128x2048.size inb).shape.Idx) = Finset.univ ∨ ∀ a, (Rect.unit (s := S1024x2048) off S128x2048.size inb).stride a = 1} :
    pts 3 s p fullShare f ⊢ iprop((pts 3 s p fullShare g -∗ Wp p (k ⟨⟩) Q)
      -∗ Wp p (.op (.store (Memref.whole cc1_scratch0) (Rect.unit (s := S1024x2048) off S128x2048.size inb) w Finset.univ hx hm) k) Q) := by
  subst ho
  exact (wp_store 𝒱₀ (p : Thread nD τ) none Set.univ (m := Memref.whole cc1_scratch0) (r := Rect.unit (s := S1024x2048) (k1_off3 s (BitVec.ofNat 32 (128 * (0 : Fin 2).val))) S128x2048.size (k1_off3_inb s 0))
    (S := slabSet 3 s) (f := f) (fun _ h => h)).trans (wand_mono_left (wand_mono_left (Entails.of_eq (pts_put (slabO 0 s) p f g w hg))))

/-- sending it; -/
theorem send_P (G : Gath F) (κ : GSem nD τ sig → ℕ) {α : Type} {Q : α → sProp 𝕄} {k : PUnit → Prog (TpuEff nD τ sig (Elt F) Λ₀ .tc) α}
    (i : Fin 3) (c n : Dev nD) (hn : n = nx i c) (sS sR : DmaSem sig) (hS : sS = sendSem 3 i) (hR : sR = recvSem 3 i)
    {hsc : (slabO 0 c : Memref sig (Dev.tc n : Thread nD τ).2.kind .vmem _ .bf16).view.ref.isScScratch = false}
    {hsrc : (slabO 0 c).view.WordExact} {hdst : (slabO 0 c).view.WordExact}
    {hsem : DmaTarget.Typed .vmem (.dma sR) (.remote (Dev.tc n : Thread nD τ) (slabO 0 c) (.dma sS) hsc)}
    (l : List (GSem nD τ sig × ℕ)) :
    iprop(recs G κ ∗ ow c ((recvCell 3 i (nx i c), chN 3) :: l) ∗ ready G 3 i c)
      ⊢ iprop(((ow c l ∗ sent 3 i c) -∗ Wp c (k ⟨⟩) Q)
          -∗ Wp c (.op (.enqueueDma (slabO 0 c) (.remote (Dev.tc n : Thread nD τ) (slabO 0 c) (.dma sS) hsc) (.dma sR) hsrc hdst hsem) k) Q) :=
  step_send G κ (slabO 0 c) 3 i c n hn sS sR hS hR (G 3) rfl .rfl .rfl .rfl
    (fun fd => Entails.of_eq (pts_put (slabO 0 c) (nx i c) fd (G 3) _ rfl)) l
/-- waiting for a peer's; -/
theorem recv_P (G : Gath F) (κ : GSem nD τ sig → ℕ) {α : Type} {Q : α → sProp 𝕄} {k : PUnit → Prog (TpuEff nD τ sig (Elt F) Λ₀ .tc) α}
    (i : Fin 3) (c : Dev nD) (sR : DmaSem sig) (hR : sR = recvSem 3 i)
    {hsrc : (slabO 0 c).view.WordExact} {hdst : (slabO 0 c).view.WordExact} :
    iprop(recs G κ ∗ ow c [] ∗ sent 3 i c)
      ⊢ iprop(((ow c [] ∗ rcvd 3 i c ∗ pts 3 (pv i c) c fullShare (G 3)) -∗ Wp c (k ⟨⟩) Q)
          -∗ Wp c (.op (.waitDma2 sR (slabO 0 c) (slabO 0 c) hsrc hdst) k) Q) :=
  step_recv G κ 3 i c sR hR (src := slabO 0 c) (dst := slabO 0 c) rfl [] 4 (.nil 4) (by decide)
/-- waiting for the own one to have left. -/
theorem left_P (G : Gath F) (κ : GSem nD τ sig → ℕ) {α : Type} {Q : α → sProp 𝕄} {k : PUnit → Prog (TpuEff nD τ sig (Elt F) Λ₀ .tc) α}
    (i : Fin 3) (c : Dev nD) (sS : DmaSem sig) (hS : sS = sendSem 3 i)
    {hsrc : (slabO 0 c).view.WordExact} {hdst : (slabO 0 c).view.WordExact} :
    iprop(recs G κ ∗ ow c [] ∗ rcvd 3 i c)
      ⊢ iprop(((ow c [] ∗ done 3 i c ∗ pts 3 c c (sh i) (G 3)) -∗ Wp c (k ⟨⟩) Q)
          -∗ Wp c (.op (.waitDma2 sS (slabO 0 c) (slabO 0 c) hsrc hdst) k) Q) :=
  step_left G κ 3 i c sS hS (src := slabO 0 c) (dst := slabO 0 c) rfl [] 4 (.nil 4) (by decide)

/-! ## The second halves -/

/-- Loading an own second half, to be overwritten; -/
theorem load_Q {α : Type} {Q : α → sProp 𝕄} {k : (S128x2048.Idx → Elt F .bf16) → Prog (TpuEff nD τ sig (Elt F) Λ₀ .tc) α}
    (s p : Dev nD) (q : PosShare TreeShare) (f : (chRef 4).ty.Contents (Elt F))
    (off : Fin 2 → ℕ) (inb : ∀ a, off a + S128x2048.size a ≤ S1024x2048.size a) (ho : off = k1_off3 s (BitVec.ofNat 32 (128 * (1 : Fin 2).val)))
    {hl : (Memref.whole cc1_scratch0).view.LoadsAt (Rect.unit (s := S1024x2048) off S128x2048.size inb).toLoadRect} :
    pts 4 s p q f ⊢ iprop((pts 4 s p q f -∗ Wp p (k (gotO f 1 s)) Q)
      -∗ Wp p (.op (.load (Memref.whole cc1_scratch0) (Rect.unit (s := S1024x2048) off S128x2048.size inb).toLoadRect hl) k) Q) := by
  subst ho
  exact wp_load_rect 𝒱₀ (p : Thread nD τ) none Set.univ (m := Memref.whole cc1_scratch0) (r := Rect.unit (s := S1024x2048) (k1_off3 s (BitVec.ofNat 32 (128 * (1 : Fin 2).val))) S128x2048.size (k1_off3_inb s 1))
    (S := slabSet 4 s) (f := f) (fun _ h => h)
/-- storing it; -/
theorem store_Q {α : Type} {Q : α → sProp 𝕄} {k : PUnit → Prog (TpuEff nD τ sig (Elt F) Λ₀ .tc) α}
    (s p : Dev nD) (f g : (chRef 4).ty.Contents (Elt F)) (w : S128x2048.Idx → Elt F .bf16)
    (off : Fin 2 → ℕ) (inb : ∀ a, off a + S128x2048.size a ≤ S1024x2048.size a) (ho : off = k1_off3 s (BitVec.ofNat 32 (128 * (1 : Fin 2).val))) (hg : gotO g 1 s = w)
    {hx : ((Memref.whole cc1_scratch0).access (Rect.unit (s := S1024x2048) off S128x2048.size inb)).Stores Finset.univ}
    {hm : (Finset.univ : Finset (Rect.unit (s := S1024x2048) off S128x2048.size inb).shape.Idx) = Finset.univ ∨ ∀ a, (Rect.unit (s := S1024x2048) off S128x2048.size inb).stride a = 1} :
    pts 4 s p fullShare f ⊢ iprop((pts 4 s p fullShare g -∗ Wp p (k ⟨⟩) Q)
      -∗ Wp p (.op (.store (Memref.whole cc1_scratch0) (Rect.unit (s := S1024x2048) off S128x2048.size inb) w Finset.univ hx hm) k) Q) := by
  subst ho
  exact (wp_store 𝒱₀ (p : Thread nD τ) none Set.univ (m := Memref.whole cc1_scratch0) (r := Rect.unit (s := S1024x2048) (k1_off3 s (BitVec.ofNat 32 (128 * (1 : Fin 2).val))) S128x2048.size (k1_off3_inb s 1))
    (S := slabSet 4 s) (f := f) (fun _ h => h)).trans (wand_mono_left (wand_mono_left (Entails.of_eq (pts_put (slabO 1 s) p f g w hg))))

/-- sending it; -/
theorem send_Q (G : Gath F) (κ : GSem nD τ sig → ℕ) {α : Type} {Q : α → sProp 𝕄} {k : PUnit → Prog (TpuEff nD τ sig (Elt F) Λ₀ .tc) α}
    (i : Fin 3) (c n : Dev nD) (hn : n = nx i c) (sS sR : DmaSem sig) (hS : sS = sendSem 4 i) (hR : sR = recvSem 4 i)
    {hsc : (slabO 1 c : Memref sig (Dev.tc n : Thread nD τ).2.kind .vmem _ .bf16).view.ref.isScScratch = false}
    {hsrc : (slabO 1 c).view.WordExact} {hdst : (slabO 1 c).view.WordExact}
    {hsem : DmaTarget.Typed .vmem (.dma sR) (.remote (Dev.tc n : Thread nD τ) (slabO 1 c) (.dma sS) hsc)}
    (l : List (GSem nD τ sig × ℕ)) :
    iprop(recs G κ ∗ ow c ((recvCell 4 i (nx i c), chN 4) :: l) ∗ ready G 4 i c)
      ⊢ iprop(((ow c l ∗ sent 4 i c) -∗ Wp c (k ⟨⟩) Q)
          -∗ Wp c (.op (.enqueueDma (slabO 1 c) (.remote (Dev.tc n : Thread nD τ) (slabO 1 c) (.dma sS) hsc) (.dma sR) hsrc hdst hsem) k) Q) :=
  step_send G κ (slabO 1 c) 4 i c n hn sS sR hS hR (G 4) rfl .rfl .rfl .rfl
    (fun fd => Entails.of_eq (pts_put (slabO 1 c) (nx i c) fd (G 4) _ rfl)) l
/-- waiting for a peer's; -/
theorem recv_Q (G : Gath F) (κ : GSem nD τ sig → ℕ) {α : Type} {Q : α → sProp 𝕄} {k : PUnit → Prog (TpuEff nD τ sig (Elt F) Λ₀ .tc) α}
    (i : Fin 3) (c : Dev nD) (sR : DmaSem sig) (hR : sR = recvSem 4 i)
    {hsrc : (slabO 1 c).view.WordExact} {hdst : (slabO 1 c).view.WordExact} :
    iprop(recs G κ ∗ ow c [] ∗ sent 4 i c)
      ⊢ iprop(((ow c [] ∗ rcvd 4 i c ∗ pts 4 (pv i c) c fullShare (G 4)) -∗ Wp c (k ⟨⟩) Q)
          -∗ Wp c (.op (.waitDma2 sR (slabO 1 c) (slabO 1 c) hsrc hdst) k) Q) :=
  step_recv G κ 4 i c sR hR (src := slabO 1 c) (dst := slabO 1 c) rfl [] 4 (.nil 4) (by decide)
/-- waiting for the own one to have left. -/
theorem left_Q (G : Gath F) (κ : GSem nD τ sig → ℕ) {α : Type} {Q : α → sProp 𝕄} {k : PUnit → Prog (TpuEff nD τ sig (Elt F) Λ₀ .tc) α}
    (i : Fin 3) (c : Dev nD) (sS : DmaSem sig) (hS : sS = sendSem 4 i)
    {hsrc : (slabO 1 c).view.WordExact} {hdst : (slabO 1 c).view.WordExact} :
    iprop(recs G κ ∗ ow c [] ∗ rcvd 4 i c)
      ⊢ iprop(((ow c [] ∗ done 4 i c ∗ pts 4 c c (sh i) (G 4)) -∗ Wp c (k ⟨⟩) Q)
          -∗ Wp c (.op (.waitDma2 sS (slabO 1 c) (slabO 1 c) hsrc hdst) k) Q) :=
  step_left G κ 4 i c sS hS (src := slabO 1 c) (dst := slabO 1 c) rfl [] 4 (.nil 4) (by decide)

/-! ## Both halves of a peer -/

/-- The 256 rows of device `s` in gathered attention rows `f`. -/
def gotP (f : (chRef 3).ty.Contents (Elt F)) (s : Dev nD) : S256x2048.Idx → Elt F .bf16 :=
  ((Memref.whole cc1_scratch0).access (Rect.unit (s := S1024x2048) ![256 * s.val, 0] S256x2048.size
    (by revert s; decide))).read (Elt F) f

theorem halves_disjoint (s : Dev nD) : Disjoint (slabSet 3 s) (slabSet 4 s) :=
  Finset.disjoint_left.mpr fun x hx hx' => by
    have h := ((mem_slabO0 s x).mp hx).symm.trans ((mem_slabO1 s x).mp hx')
    omega

/-- A load of a device's 256 rows reads both its half slabs. -/
theorem load_PQ {α : Type} {Q : α → sProp 𝕄} {k : (S256x2048.Idx → Elt F .bf16) → Prog (TpuEff nD τ sig (Elt F) Λ₀ .tc) α}
    (s p : Dev nD) (q : PosShare TreeShare) (f : (chRef 3).ty.Contents (Elt F))
    (off : Fin 2 → ℕ) (inb : ∀ a, off a + S256x2048.size a ≤ S1024x2048.size a) (ho : off = ![256 * s.val, 0])
    {hl : (Memref.whole cc1_scratch0).view.LoadsAt (Rect.unit (s := S1024x2048) off S256x2048.size inb).toLoadRect} :
    iprop(pts 3 s p q f ∗ pts 4 s p q f) ⊢ iprop(((pts 3 s p q f ∗ pts 4 s p q f) -∗ Wp p (k (gotP f s)) Q)
      -∗ Wp p (.op (.load (Memref.whole cc1_scratch0) (Rect.unit (s := S1024x2048) off S256x2048.size inb).toLoadRect hl) k) Q) := by
  subst ho
  have hj := pointsTo_union (Ix := Unit) (Val := Elt F) (Name := ℕ) (U := UU) (Lvl := ℕ)
    (ℓ := (p : Thread nD τ).loc cc1_scratch0) (q := q) (f := f) (halves_disjoint s)
  refine hj.2.trans ?_
  refine (wp_load_rect 𝒱₀ (p : Thread nD τ) none Set.univ (m := Memref.whole cc1_scratch0) (r := Rect.unit (s := S1024x2048) ![256 * s.val, 0] S256x2048.size inb)
    (S := slabSet 3 s ∪ slabSet 4 s) (f := f) ?_).trans (wand_mono_left (wand_mono_left hj.1))
  intro x hx
  have h := (ValueKit.mem_set_slice_whole_iff cc1_scratch0 _ x Rect.mem_set_unit).mp hx 0
  have h1 : 256 * s.val ≤ (x 0).val ∧ (x 0).val < 256 * s.val + 256 := h
  rcases (show (x 0).val / 128 = 2 * s.val ∨ (x 0).val / 128 = 2 * s.val + 1 by omega) with h2 | h2
  · exact Finset.mem_union_left _ ((mem_slabO0 s x).mpr h2)
  · exact Finset.mem_union_right _ ((mem_slabO1 s x).mpr h2)

end Cert.Proof

end
-- ==== Proof.Vals1.lean ====
/-
  What the second kernel computes, device by device, as functions of what its staging buffers hold.
-/
module

public import proofs.«01_k».proof.Proof.Slab1
public import proofs.«01_k».proof.Proof.Vals0

@[expose] public section

noncomputable section

namespace Cert.Proof

open Cert.KernelIdeal Cert.KernelIdeal.Gen

open Idealize.ShloMosaic
open Idealize.ShloMosaic.ValueIdx

variable {F : FTy → Type} [FloatOps F] [Named F]

/-- What one device's input staging buffers hold when the second kernel's body starts. -/
structure In1 (F : FTy → Type) where
  /-- the queries and the rotary queries of the device's rows, -/
  q : cc1_stg0_0.ty.Contents (Elt F)
  qr : cc1_stg1_0.ty.Contents (Elt F)
  /-- the rotary keys, the keys, the values, -/
  kr : cc1_stg2_0.ty.Contents (Elt F)
  k : cc1_stg3_0.ty.Contents (Elt F)
  v : cc1_stg4_0.ty.Contents (Elt F)
  /-- the output projection. -/
  wo : cc1_stg5_0.ty.Contents (Elt F)

theorem inbQ (h : Fin 2) (j : Fin 16) : ∀ a, (![128 * h.val, 128 * j.val] : Fin 2 → ℕ) a + S128x128.size a ≤ S256x2048.size a := by
  revert h j; decide
theorem inbR (h : Fin 2) (j : Fin 16) : ∀ a, (![128 * h.val, 32 * j.val] : Fin 2 → ℕ) a + S128x32.size a ≤ S256x512.size a := by
  revert h j; decide
theorem inbK (j : Fin 16) : ∀ a, (![0, 128 * j.val] : Fin 2 → ℕ) a + S1024x128.size a ≤ S1024x2048.size a := by
  revert j; decide

/-- The queries of head `j`, row half `h`; -/
def qB (X : In1 F) (h : Fin 2) (j : Fin 16) : Vec F S128x128 .bf16 :=
  (Memref.whole cc1_stg0_0).view.readAt (Elt F) (Rect.unit (s := S256x2048) ![128 * h.val, 128 * j.val] S128x128.size (inbQ h j)).toLoadRect X.q
/-- the rotary queries; -/
def qrB (X : In1 F) (h : Fin 2) (j : Fin 16) : Vec F S128x32 .bf16 :=
  (Memref.whole cc1_stg1_0).view.readAt (Elt F) (Rect.unit (s := S256x512) ![128 * h.val, 32 * j.val] S128x32.size (inbR h j)).toLoadRect X.qr
/-- the keys of head `j`; -/
def kB (X : In1 F) (j : Fin 16) : Vec F S1024x128 .bf16 :=
  (Memref.whole cc1_stg3_0).view.readAt (Elt F) (Rect.unit (s := S1024x2048) ![0, 128 * j.val] S1024x128.size (inbK j)).toLoadRect X.k
/-- the values. -/
def vB (X : In1 F) (j : Fin 16) : Vec F S1024x128 .bf16 :=
  (Memref.whole cc1_stg4_0).view.readAt (Elt F) (Rect.unit (s := S1024x2048) ![0, 128 * j.val] S1024x128.size (inbK j)).toLoadRect X.v

/-- One head's attention on one half of the device's rows. -/
def head (X : In1 F) (h : Fin 2) (j : Fin 16) : FVec F S128x128 .bf16 :=
  k1_pay5 (k1_pay1 X.kr) (qB X h j) (kB X j) (vB X j) (qrB X h j)

/-- The heads side by side through the output projection. -/
def proj (hd : Fin 16 → FVec F S128x128 .bf16) (wo : FVec F S2048x2048 .f32) : FVec F S128x2048 .f32 :=
  matmul dot_S128x2048_S2048x2048_S128x2048_1_0_0_1_n_n none
    (extf .f32 (concatenate S128x2048 1 [⟨S128x128, hd 0⟩, ⟨S128x128, hd 1⟩, ⟨S128x128, hd 2⟩, ⟨S128x128, hd 3⟩, ⟨S128x128, hd 4⟩, ⟨S128x128, hd 5⟩, ⟨S128x128, hd 6⟩, ⟨S128x128, hd 7⟩, ⟨S128x128, hd 8⟩, ⟨S128x128, hd 9⟩, ⟨S128x128, hd 10⟩, ⟨S128x128, hd 11⟩, ⟨S128x128, hd 12⟩, ⟨S128x128, hd 13⟩, ⟨S128x128, hd 14⟩, ⟨S128x128, hd 15⟩] concatenates_S128x128_S128x128_S128x128_S128x128_S128x128_S128x128_S128x128_S128x128_S128x128_S128x128_S128x128_S128x128_S128x128_S128x128_S128x128_S128x128_S128x2048_d1) bitsLt_bf16_f32)
    (shapeCast S2048x2048 wo shapeCasts_S2048x2048_S2048x2048) (constant S128x2048 .f32 0x00000000#32)

/-- The output on one half of the device's rows. -/
def outB (X : In1 F) (h : Fin 2) : FVec F S128x2048 .f32 := proj (head X h) X.wo

/-- The gathered output rows, as they travel. -/
def gO (X : Dev nD → In1 F) : (chRef 3).ty.Contents (Elt F) := fun (i : S1024x2048.Idx) =>
  k1_pay39 (outB (X ⟨(i 0).val / 256, by have h : (i 0).val < 1024 := (i 0).isLt; show _ < 4; omega⟩) ⟨(i 0).val / 128 % 2, Nat.mod_lt _ (by decide)⟩)
    (ix2 ⟨(i 0).val % 128, Nat.mod_lt _ (by decide)⟩ (i 1))

/-- The result on device `c`: its own rows as computed, the peers' as they came. -/
def yOf (X : Dev nD → In1 F) (c : Dev nD) : cc1_stg6_0.ty.Contents (Elt F) := fun (i : S1x1024x2048.Idx) =>
  if (i 1).val / 256 = c.val then
    k1_pay38 (outB (X c) ⟨(i 1).val / 128 % 2, Nat.mod_lt _ (by decide)⟩) (ix3 (i 0) ⟨(i 1).val % 128, Nat.mod_lt _ (by decide)⟩ (i 2))
  else k1_pay77 (gotP (gO X) ⟨(i 1).val / 256, by have h : (i 1).val < 1024 := (i 1).isLt; show _ < 4; omega⟩)
    (ix3 (i 0) ⟨(i 1).val % 256, Nat.mod_lt _ (by decide)⟩ (i 2))

/-- A device's half of the gathered rows is what it computed. -/
theorem gotO_gO (X : Dev nD → In1 F) (h : Fin 2) (s : Dev nD) : gotO (gO X) h s = k1_pay39 (outB (X s) h) := by
  funext y
  have h1 : (y 0).val < 128 := (y 0).isLt
  have hs : s.val < 4 := s.isLt
  have hh : h.val < 2 := h.isLt
  refine (read_in cc1_scratch0 (k1_off3 s (BitVec.ofNat 32 (128 * h.val))) S128x2048.size (k1_off3_inb s h) (gO X)
    (ix2 (n0 := 1024) (n1 := 2048) ⟨256 * s.val + 128 * h.val + (y 0).val, by omega⟩ (y 1)) y (fun a => ?_)).trans ?_
  · match a with
    | ⟨0, _⟩ => exact (congrArg (· + (y 0).val) (congrFun (o1_3 s h) 0)).symm
    | ⟨1, _⟩ => exact ((congrArg (· + (y 1).val) (congrFun (o1_3 s h) 1)).trans (Nat.zero_add _)).symm
  · unfold gO
    have e1 : (⟨(256 * s.val + 128 * h.val + (y 0).val) / 256, by show _ < 4; omega⟩ : Dev nD) = s :=
      Fin.ext (by show (256 * s.val + 128 * h.val + (y 0).val) / 256 = s.val; omega)
    have e2 : (⟨(256 * s.val + 128 * h.val + (y 0).val) / 128 % 2, Nat.mod_lt _ (by decide)⟩ : Fin 2) = h :=
      Fin.ext (by show (256 * s.val + 128 * h.val + (y 0).val) / 128 % 2 = h.val; omega)
    have e3 : (⟨(256 * s.val + 128 * h.val + (y 0).val) % 128, Nat.mod_lt _ (by decide)⟩ : Fin 128) = y 0 :=
      Fin.ext (by show (256 * s.val + 128 * h.val + (y 0).val) % 128 = (y 0).val; omega)
    show k1_pay39 (outB (X ⟨(256 * s.val + 128 * h.val + (y 0).val) / 256, _⟩) ⟨(256 * s.val + 128 * h.val + (y 0).val) / 128 % 2, _⟩)
      (ix2 ⟨(256 * s.val + 128 * h.val + (y 0).val) % 128, _⟩ (y 1)) = _
    rw [e1, e2, e3]; exact congrArg _ (eq_ix2 y).symm

/-- The three peers are different devices, -/
theorem pv_far (c : Dev nD) : (pv 0 c).val ≠ c.val ∧ (pv 1 c).val ≠ c.val ∧ (pv 2 c).val ≠ c.val ∧ (pv 0 c).val ≠ (pv 1 c).val
    ∧ (pv 0 c).val ≠ (pv 2 c).val ∧ (pv 1 c).val ≠ (pv 2 c).val := by revert c; decide
/-- and with the own one all there are. -/
theorem pv_all (c d : Dev nD) : d = c ∨ d = pv 0 c ∨ d = pv 1 c ∨ d = pv 2 c := by revert c d; decide

set_option maxHeartbeats 1000000 in
/-- The five stores of the result, one after the other. -/
theorem y_stored (X : Dev nD → In1 F) (c : Dev nD) (f : cc1_stg6_0.ty.Contents (Elt F)) :
    ((Memref.whole cc1_stg6_0).access (Rect.unit (s := S1x1024x2048) (k1_off5 c 3#32) S1x256x2048.size (k1_off5_inb c 2))).write (Elt F)
      (((Memref.whole cc1_stg6_0).access (Rect.unit (s := S1x1024x2048) (k1_off5 c 2#32) S1x256x2048.size (k1_off5_inb c 1))).write (Elt F)
        (((Memref.whole cc1_stg6_0).access (Rect.unit (s := S1x1024x2048) (k1_off5 c 1#32) S1x256x2048.size (k1_off5_inb c 0))).write (Elt F)
          (((Memref.whole cc1_stg6_0).access (Rect.unit (s := S1x1024x2048) (k1_off1 c 128#32) S1x128x2048.size (k1_off1_inb c 1))).write (Elt F)
            (((Memref.whole cc1_stg6_0).access (Rect.unit (s := S1x1024x2048) (k1_off1 c 0#32) S1x128x2048.size (k1_off1_inb c 0))).write (Elt F)
              f (k1_pay38 (outB (X c) 0)) Finset.univ) (k1_pay38 (outB (X c) 1)) Finset.univ)
            (k1_pay77 (gotP (gO X) (pv 0 c))) Finset.univ) (k1_pay77 (gotP (gO X) (pv 1 c))) Finset.univ) (k1_pay77 (gotP (gO X) (pv 2 c))) Finset.univ
      = yOf X c := by
  funext (x : S1x1024x2048.Idx)
  have h0 : (x 0).val < 1 := (x 0).isLt
  have h1 : (x 1).val < 1024 := (x 1).isLt
  have h2 : (x 2).val < 2048 := (x 2).isLt
  have hc : c.val < 4 := c.isLt
  -- a peer's rows
  have putP : ∀ (i : Fin 3) (off : Fin 3 → ℕ) (inb : ∀ a, off a + S1x256x2048.size a ≤ S1x1024x2048.size a) (ho : off = ![0, 256 * (pv i c).val, 0])
      (g : cc1_stg6_0.ty.Contents (Elt F)), (x 1).val / 256 = (pv i c).val → (pv i c).val ≠ c.val →
      ((Memref.whole cc1_stg6_0).access (Rect.unit (s := S1x1024x2048) off S1x256x2048.size inb)).write (Elt F) g (k1_pay77 (gotP (gO X) (pv i c))) Finset.univ x
        = yOf X c x := by
    intro i off inb ho g hb hne
    subst ho
    have eb : (⟨(x 1).val / 256, by show _ < 4; omega⟩ : Dev nD) = pv i c := Fin.ext hb
    unfold yOf
    rw [if_neg (by rw [hb]; exact hne), eb]
    refine write_in cc1_stg6_0 _ S1x256x2048.size inb g _ x (ix3 (n0 := 1) (n1 := 256) (n2 := 2048) (x 0) ⟨(x 1).val % 256, Nat.mod_lt _ (by decide)⟩ (x 2)) (fun a => ?_)
    match a with
    | ⟨0, _⟩ => exact (Nat.zero_add _).symm
    | ⟨1, _⟩ => show (x 1).val = 256 * (pv i c).val + (x 1).val % 256; omega
    | ⟨2, _⟩ => exact (Nat.zero_add _).symm
  have skipP : ∀ (i : Fin 3) (off : Fin 3 → ℕ) (inb : ∀ a, off a + S1x256x2048.size a ≤ S1x1024x2048.size a) (ho : off = ![0, 256 * (pv i c).val, 0])
      (g : cc1_stg6_0.ty.Contents (Elt F)) (w : S1x256x2048.Idx → Elt F .f32), (x 1).val / 256 ≠ (pv i c).val →
      ((Memref.whole cc1_stg6_0).access (Rect.unit (s := S1x1024x2048) off S1x256x2048.size inb)).write (Elt F) g w Finset.univ x = g x := by
    intro i off inb ho g w hb
    subst ho
    exact write_out cc1_stg6_0 _ S1x256x2048.size inb g _ x 1
      (by show (x 1).val < 256 * (pv i c).val ∨ 256 * (pv i c).val + 256 ≤ (x 1).val; omega)
  -- the own rows
  have putO : ∀ (h : Fin 2) (off : Fin 3 → ℕ) (inb : ∀ a, off a + S1x128x2048.size a ≤ S1x1024x2048.size a) (ho : off = ![0, 256 * c.val + 128 * h.val, 0])
      (g : cc1_stg6_0.ty.Contents (Elt F)), (x 1).val / 256 = c.val → (x 1).val / 128 % 2 = h.val →
      ((Memref.whole cc1_stg6_0).access (Rect.unit (s := S1x1024x2048) off S1x128x2048.size inb)).write (Elt F) g (k1_pay38 (outB (X c) h)) Finset.univ x
        = yOf X c x := by
    intro h off inb ho g hb hh
    subst ho
    have eb : (⟨(x 1).val / 128 % 2, Nat.mod_lt _ (by decide)⟩ : Fin 2) = h := Fin.ext hh
    unfold yOf
    rw [if_pos hb, eb]
    refine write_in cc1_stg6_0 _ S1x128x2048.size inb g _ x (ix3 (n0 := 1) (n1 := 128) (n2 := 2048) (x 0) ⟨(x 1).val % 128, Nat.mod_lt _ (by decide)⟩ (x 2)) (fun a => ?_)
    match a with
    | ⟨0, _⟩ => exact (Nat.zero_add _).symm
    | ⟨1, _⟩ => show (x 1).val = 256 * c.val + 128 * h.val + (x 1).val % 128; omega
    | ⟨2, _⟩ => exact (Nat.zero_add _).symm
  have skipO : ∀ (h : Fin 2) (off : Fin 3 → ℕ) (inb : ∀ a, off a + S1x128x2048.size a ≤ S1x1024x2048.size a) (ho : off = ![0, 256 * c.val + 128 * h.val, 0])
      (g : cc1_stg6_0.ty.Contents (Elt F)) (w : S1x128x2048.Idx → Elt F .f32), (x 1).val / 128 % 2 ≠ h.val →
      ((Memref.whole cc1_stg6_0).access (Rect.unit (s := S1x1024x2048) off S1x128x2048.size inb)).write (Elt F) g w Finset.univ x = g x := by
    intro h off inb ho g w hb
    subst ho
    exact write_out cc1_stg6_0 _ S1x128x2048.size inb g _ x 1
      (by show (x 1).val < 256 * c.val + 128 * h.val ∨ 256 * c.val + 128 * h.val + 128 ≤ (x 1).val; omega)
  have far := pv_far c
  obtain ⟨n0, n1, n2, n01, n02, n12⟩ := far
  have all := pv_all c
  have hx : (x 1).val / 256 = c.val ∨ (x 1).val / 256 = (pv 0 c).val ∨ (x 1).val / 256 = (pv 1 c).val ∨ (x 1).val / 256 = (pv 2 c).val := by
    rcases all ⟨(x 1).val / 256, by omega⟩ with h | h | h | h
    · exact .inl (congrArg Fin.val h)
    · exact .inr (.inl (congrArg Fin.val h))
    · exact .inr (.inr (.inl (congrArg Fin.val h)))
    · exact .inr (.inr (.inr (congrArg Fin.val h)))
  have p0 : k1_off5 c 1#32 = ![0, 256 * (pv 0 c).val, 0] := o1_5 c 0
  have p1 : k1_off5 c 2#32 = ![0, 256 * (pv 1 c).val, 0] := o1_5 c 1
  have p2 : k1_off5 c 3#32 = ![0, 256 * (pv 2 c).val, 0] := o1_5 c 2
  have q0 : k1_off1 c 0#32 = ![0, 256 * c.val + 128 * (0 : Fin 2).val, 0] := o1_1 c 0
  have q1 : k1_off1 c 128#32 = ![0, 256 * c.val + 128 * (1 : Fin 2).val, 0] := o1_1 c 1
  rcases hx with h | h | h | h
  · rw [skipP 2 (k1_off5 c 3#32) (k1_off5_inb c 2) p2 _ _ (by rw [h]; exact n2.symm), skipP 1 (k1_off5 c 2#32) (k1_off5_inb c 1) p1 _ _ (by rw [h]; exact n1.symm),
      skipP 0 (k1_off5 c 1#32) (k1_off5_inb c 0) p0 _ _ (by rw [h]; exact n0.symm)]
    rcases (show (x 1).val / 128 % 2 = 1 ∨ (x 1).val / 128 % 2 = 0 by omega) with g | g
    · exact putO 1 (k1_off1 c 128#32) (k1_off1_inb c 1) q1 _ h g
    · rw [skipO 1 (k1_off1 c 128#32) (k1_off1_inb c 1) q1 _ _ (by rw [g]; decide)]
      exact putO 0 (k1_off1 c 0#32) (k1_off1_inb c 0) q0 _ h g
  · rw [skipP 2 (k1_off5 c 3#32) (k1_off5_inb c 2) p2 _ _ (by rw [h]; exact n02), skipP 1 (k1_off5 c 2#32) (k1_off5_inb c 1) p1 _ _ (by rw [h]; exact n01)]
    exact putP 0 (k1_off5 c 1#32) (k1_off5_inb c 0) p0 _ h n0
  · rw [skipP 2 (k1_off5 c 3#32) (k1_off5_inb c 2) p2 _ _ (by rw [h]; exact n12)]
    exact putP 1 (k1_off5 c 2#32) (k1_off5_inb c 1) p1 _ h n1
  · exact putP 2 (k1_off5 c 3#32) (k1_off5_inb c 2) p2 _ h n2

end Cert.Proof

end
-- ==== Proof.Body1.lean ====
/-
  The run of the second kernel's body on one device.
-/
module

public import proofs.«01_k».proof.Proof.Vals1
public import proofs.«01_k».proof.Proof.Body0

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## The program's pieces are the heads -/

/-- The first half of the rows, as the program computes it piece by piece. -/
theorem out0 (X : In1 F) :
    (k1_pay37 (k1_pay1 X.kr) (k1_pay4 (k1_pay2 (vB X 0)) (k1_pay3 X.kr (qB X 0 0) (kB X 0) (qrB X 0 0))) (k1_pay5 (k1_pay1 X.kr) (qB X 0 1) (kB X 1) (vB X 1) (qrB X 0 1)) (k1_pay10 (k1_pay1 X.kr) (k1_pay6 (qB X 0 2)) (k1_pay7 (kB X 2)) (k1_pay8 (vB X 2)) (k1_pay9 (qrB X 0 2)) (constant S128x1024 .f32 0x00000000#32)) (k1_pay12 (k1_pay11 (k1_pay1 X.kr) (qB X 0 3) (kB X 3) (vB X 3) (qrB X 0 3))) (k1_pay13 (k1_pay1 X.kr) (qB X 0 4) (kB X 4) (vB X 4) (qrB X 0 4)) (k1_pay17 (k1_pay14 (vB X 5)) (k1_pay15 (qB X 0 5) (kB X 5)) (k1_pay16 (k1_pay1 X.kr) (qrB X 0 5))) (k1_pay18 (k1_pay1 X.kr) (qB X 0 6) (kB X 6) (vB X 6) (qrB X 0 6)) (k1_pay19 (k1_pay1 X.kr) (qB X 0 7) (kB X 7) (vB X 7) (qrB X 0 7)) (k1_pay23 (k1_pay20 (vB X 8)) (k1_pay21 (k1_pay1 X.kr) (qB X 0 8) (kB X 8) (qrB X 0 8)) (k1_pay22 (F := F))) (k1_pay24 (k1_pay1 X.kr) (qB X 0 9) (kB X 9) (vB X 9) (qrB X 0 9)) (k1_pay26 (k1_pay1 X.kr) (k1_pay25 (qB X 0 10)) (kB X 10) (vB X 10) (qrB X 0 10)) (k1_pay30 (k1_pay27 (vB X 11)) (k1_pay28 (k1_pay1 X.kr) (qB X 0 11) (kB X 11) (qrB X 0 11)) (k1_pay29 (k1_pay1 X.kr) (qB X 0 11) (kB X 11) (qrB X 0 11))) (k1_pay31 (k1_pay1 X.kr) (qB X 0 12) (kB X 12) (vB X 12) (qrB X 0 12)) (k1_pay34 (k1_pay1 X.kr) (k1_pay32 (qB X 0 13)) (k1_pay33 (kB X 13)) (vB X 13) (qrB X 0 13)) (k1_pay35 (vB X 14)) (k1_pay36 (k1_pay1 X.kr) (qB X 0 14) (kB X 14) (qrB X 0 14)) (qB X 0 15) (kB X 15) (vB X 15) (qrB X 0 15) X.wo) = outB X 0 := rfl
/-- The second half, stored to the result; -/
theorem out1a (X : In1 F) :
    (k1_pay75 (k1_pay1 X.kr) (k1_pay40 (k1_pay1 X.kr) (qB X 1 0) (kB X 0) (vB X 0) (qrB X 1 0)) (k1_pay44 (k1_pay1 X.kr) (k1_pay41 (qB X 1 1)) (k1_pay42 (kB X 1)) (k1_pay43 (vB X 1)) (qrB X 1 1)) (k1_pay48 (k1_pay45 (vB X 2)) (k1_pay46 (k1_pay1 X.kr) (qB X 1 2) (kB X 2) (qrB X 1 2)) (k1_pay47 (k1_pay1 X.kr) (qB X 1 2) (kB X 2) (qrB X 1 2))) (k1_pay49 (k1_pay1 X.kr) (qB X 1 3) (kB X 3) (vB X 3) (qrB X 1 3)) (k1_pay53 (k1_pay1 X.kr) (k1_pay50 (qB X 1 4)) (k1_pay51 (kB X 4)) (k1_pay52 (vB X 4)) (qrB X 1 4)) (k1_pay56 (k1_pay54 (vB X 5)) (k1_pay55 (k1_pay1 X.kr) (qB X 1 5) (kB X 5) (qrB X 1 5))) (k1_pay57 (k1_pay1 X.kr) (qB X 1 6) (kB X 6) (vB X 6) (qrB X 1 6)) (k1_pay61 (k1_pay1 X.kr) (k1_pay58 (vB X 7)) (k1_pay59 (qrB X 1 7)) (k1_pay60 (qB X 1 7) (kB X 7))) (k1_pay62 (k1_pay1 X.kr) (qB X 1 8) (kB X 8) (vB X 8) (qrB X 1 8)) (k1_pay63 (k1_pay1 X.kr) (qB X 1 9) (kB X 9) (vB X 9) (qrB X 1 9)) (k1_pay66 (k1_pay64 (vB X 10)) (k1_pay65 (k1_pay1 X.kr) (qB X 1 10) (kB X 10) (qrB X 1 10))) (k1_pay67 (k1_pay1 X.kr) (qB X 1 11) (kB X 11) (vB X 11) (qrB X 1 11)) (k1_pay68 (k1_pay1 X.kr) (qB X 1 12) (kB X 12) (vB X 12) (qrB X 1 12)) (k1_pay71 (k1_pay69 (vB X 13)) (k1_pay70 (k1_pay1 X.kr) (qB X 1 13) (kB X 13) (qrB X 1 13))) (k1_pay72 (k1_pay1 X.kr) (qB X 1 14) (kB X 14) (vB X 14) (qrB X 1 14)) (k1_pay73 (qB X 1 15)) (kB X 15) (vB X 15) (qrB X 1 15) X.wo) = k1_pay38 (outB X 1) := rfl
/-- and to the gathered rows. -/
theorem out1b (X : In1 F) :
    (k1_pay76 (k1_pay1 X.kr) (k1_pay40 (k1_pay1 X.kr) (qB X 1 0) (kB X 0) (vB X 0) (qrB X 1 0)) (k1_pay44 (k1_pay1 X.kr) (k1_pay41 (qB X 1 1)) (k1_pay42 (kB X 1)) (k1_pay43 (vB X 1)) (qrB X 1 1)) (k1_pay48 (k1_pay45 (vB X 2)) (k1_pay46 (k1_pay1 X.kr) (qB X 1 2) (kB X 2) (qrB X 1 2)) (k1_pay47 (k1_pay1 X.kr) (qB X 1 2) (kB X 2) (qrB X 1 2))) (k1_pay49 (k1_pay1 X.kr) (qB X 1 3) (kB X 3) (vB X 3) (qrB X 1 3)) (k1_pay53 (k1_pay1 X.kr) (k1_pay50 (qB X 1 4)) (k1_pay51 (kB X 4)) (k1_pay52 (vB X 4)) (qrB X 1 4)) (k1_pay56 (k1_pay54 (vB X 5)) (k1_pay55 (k1_pay1 X.kr) (qB X 1 5) (kB X 5) (qrB X 1 5))) (k1_pay57 (k1_pay1 X.kr) (qB X 1 6) (kB X 6) (vB X 6) (qrB X 1 6)) (k1_pay61 (k1_pay1 X.kr) (k1_pay58 (vB X 7)) (k1_pay59 (qrB X 1 7)) (k1_pay60 (qB X 1 7) (kB X 7))) (k1_pay62 (k1_pay1 X.kr) (qB X 1 8) (kB X 8) (vB X 8) (qrB X 1 8)) (k1_pay63 (k1_pay1 X.kr) (qB X 1 9) (kB X 9) (vB X 9) (qrB X 1 9)) (k1_pay66 (k1_pay64 (vB X 10)) (k1_pay65 (k1_pay1 X.kr) (qB X 1 10) (kB X 10) (qrB X 1 10))) (k1_pay67 (k1_pay1 X.kr) (qB X 1 11) (kB X 11) (vB X 11) (qrB X 1 11)) (k1_pay68 (k1_pay1 X.kr) (qB X 1 12) (kB X 12) (vB X 12) (qrB X 1 12)) (k1_pay71 (k1_pay69 (vB X 13)) (k1_pay70 (k1_pay1 X.kr) (qB X 1 13) (kB X 13) (qrB X 1 13))) (k1_pay72 (k1_pay1 X.kr) (qB X 1 14) (kB X 14) (vB X 14) (qrB X 1 14)) (k1_pay73 (qB X 1 15)) (kB X 15) (vB X 15) (qrB X 1 15) X.wo) = k1_pay39 (outB X 1) := rfl
/-- The peers' rows are widened alike. -/
theorem pay78_eq (v : Vec F S256x2048 .bf16) : k1_pay78 v = k1_pay77 v := rfl
theorem pay79_eq (v : Vec F S256x2048 .bf16) : k1_pay79 v = k1_pay77 v := rfl

/-! ## Loads -/

/-- A load of a head's queries; -/
theorem load_q {α : Type} {Q : α → sProp 𝕄} {k : (S128x128.Idx → Elt F .bf16) → Prog (TpuEff nD τ sig (Elt F) Λ₀ .tc) α}
    (c : Dev nD) (X : In1 F) (h : Fin 2) (j : Fin 16) (off : Fin 2 → ℕ) (inb : ∀ a, off a + S128x128.size a ≤ S256x2048.size a) (ho : off = ![128 * h.val, 128 * j.val])
    {hl : (Memref.whole cc1_stg0_0).view.LoadsAt (Rect.unit (s := S256x2048) off S128x128.size inb).toLoadRect} :
    ((c : Thread nD τ).loc cc1_stg0_0 ↦{fullShare} X.q : sProp 𝕄)
      ⊢ iprop((((c : Thread nD τ).loc cc1_stg0_0 ↦{fullShare} X.q) -∗ Wp c (k (qB X h j)) Q)
        -∗ Wp c (.op (.load (Memref.whole cc1_stg0_0) (Rect.unit (s := S256x2048) off S128x128.size inb).toLoadRect hl) k) Q) := by
  subst ho
  exact load_any (Memref.whole cc1_stg0_0) c X.q _ rfl
/-- of its rotary queries; -/
theorem load_qr {α : Type} {Q : α → sProp 𝕄} {k : (S128x32.Idx → Elt F .bf16) → Prog (TpuEff nD τ sig (Elt F) Λ₀ .tc) α}
    (c : Dev nD) (X : In1 F) (h : Fin 2) (j : Fin 16) (off : Fin 2 → ℕ) (inb : ∀ a, off a + S128x32.size a ≤ S256x512.size a) (ho : off = ![128 * h.val, 32 * j.val])
    {hl : (Memref.whole cc1_stg1_0).view.LoadsAt (Rect.unit (s := S256x512) off S128x32.size inb).toLoadRect} :
    ((c : Thread nD τ).loc cc1_stg1_0 ↦{fullShare} X.qr : sProp 𝕄)
      ⊢ iprop((((c : Thread nD τ).loc cc1_stg1_0 ↦{fullShare} X.qr) -∗ Wp c (k (qrB X h j)) Q)
        -∗ Wp c (.op (.load (Memref.whole cc1_stg1_0) (Rect.unit (s := S256x512) off S128x32.size inb).toLoadRect hl) k) Q) := by
  subst ho
  exact load_any (Memref.whole cc1_stg1_0) c X.qr _ rfl
/-- of its keys; -/
theorem load_k {α : Type} {Q : α → sProp 𝕄} {k : (S1024x128.Idx → Elt F .bf16) → Prog (TpuEff nD τ sig (Elt F) Λ₀ .tc) α}
    (c : Dev nD) (X : In1 F) (j : Fin 16) (off : Fin 2 → ℕ) (inb : ∀ a, off a + S1024x128.size a ≤ S1024x2048.size a) (ho : off = ![0, 128 * j.val])
    {hl : (Memref.whole cc1_stg3_0).view.LoadsAt (Rect.unit (s := S1024x2048) off S1024x128.size inb).toLoadRect} :
    ((c : Thread nD τ).loc cc1_stg3_0 ↦{fullShare} X.k : sProp 𝕄)
      ⊢ iprop((((c : Thread nD τ).loc cc1_stg3_0 ↦{fullShare} X.k) -∗ Wp c (k (kB X j)) Q)
        -∗ Wp c (.op (.load (Memref.whole cc1_stg3_0) (Rect.unit (s := S1024x2048) off S1024x128.size inb).toLoadRect hl) k) Q) := by
  subst ho
  exact load_any (Memref.whole cc1_stg3_0) c X.k _ rfl
/-- of its values. -/
theorem load_v {α : Type} {Q : α → sProp 𝕄} {k : (S1024x128.Idx → Elt F .bf16) → Prog (TpuEff nD τ sig (Elt F) Λ₀ .tc) α}
    (c : Dev nD) (X : In1 F) (j : Fin 16) (off : Fin 2 → ℕ) (inb : ∀ a, off a + S1024x128.size a ≤ S1024x2048.size a) (ho : off = ![0, 128 * j.val])
    {hl : (Memref.whole cc1_stg4_0).view.LoadsAt (Rect.unit (s := S1024x2048) off S1024x128.size inb).toLoadRect} :
    ((c : Thread nD τ).loc cc1_stg4_0 ↦{fullShare} X.v : sProp 𝕄)
      ⊢ iprop((((c : Thread nD τ).loc cc1_stg4_0 ↦{fullShare} X.v) -∗ Wp c (k (vB X j)) Q)
        -∗ Wp c (.op (.load (Memref.whole cc1_stg4_0) (Rect.unit (s := S1024x2048) off S1024x128.size inb).toLoadRect hl) k) Q) := by
  subst ho
  exact load_any (Memref.whole cc1_stg4_0) c X.v _ rfl

/-- A peer's room in this device's buffer of the second kernel, handed to it; -/
theorem barPay1_mk (i : Fin 3) (c : Dev nD) (f3 : (chRef 3).ty.Contents (Elt F)) (f4 : (chRef 4).ty.Contents (Elt F)) :
    iprop((pts 3 (nx i c) c fullShare f3 ∗ pts 4 (nx i c) c fullShare f4)
        ∗ reached ER (recvCell 3 (Fin.rev i) c) 0 ∗ reached ER (recvCell 4 (Fin.rev i) c) 0)
      ⊢ (barPay 1 (Fin.rev i) (nx i c) : sProp 𝕄) := by
  show _ ⊢ iprop(room 3 (Fin.rev i) (nx i c) ∗ room 4 (Fin.rev i) (nx i c))
  iintro ⟨⟨H3, H4⟩, R3, R4⟩
  isplitl [H3 R3]
  · iapply (room_mk 3 i c)
    isplitl [H3]; · iexists f3; iexact H3
    iexact R3
  iapply (room_mk 4 i c)
  isplitl [H4]; · iexists f4; iexact H4
  iexact R4
/-- a device's room in a peer's, as it comes out of the barrier. -/
theorem barPay1_eq (i : Fin 3) (c : Dev nD) : (barPay 1 i c : sProp 𝕄) ⊢ iprop(room 3 i c ∗ room 4 i c) := .rfl

section

variable (G : Gath F) (κ : GSem nD τ sig → ℕ) (X : Dev nD → In1 F)

/-- What the body is called with: the barrier and the six copies; -/
def start1 (c : Dev nD) : sProp 𝕄 :=
  iprop(ow c (dues1 c) ∗ (cred (tallyAt (barCell 1 c) () 3) ∗ atPos ER (barCell 1 c) 0 ∅ 0)
    ∗ (call 1 0 c ∗ call 1 1 c ∗ call 1 2 c)
    ∗ (awake 3 0 c ∗ awake 3 1 c ∗ awake 3 2 c ∗ awake 4 0 c ∗ awake 4 1 c ∗ awake 4 2 c))
/-- the inputs as staged; -/
def ins1 (c : Dev nD) : sProp 𝕄 :=
  iprop(((c : Thread nD τ).loc cc1_stg0_0 ↦{fullShare} (X c).q) ∗ ((c : Thread nD τ).loc cc1_stg1_0 ↦{fullShare} (X c).qr)
    ∗ ((c : Thread nD τ).loc cc1_stg2_0 ↦{fullShare} (X c).kr) ∗ ((c : Thread nD τ).loc cc1_stg3_0 ↦{fullShare} (X c).k)
    ∗ ((c : Thread nD τ).loc cc1_stg4_0 ↦{fullShare} (X c).v) ∗ ((c : Thread nD τ).loc cc1_stg5_0 ↦{fullShare} (X c).wo))
/-- the result's staging buffer and the shared scratch buffer at anything. -/
def outs1 (c : Dev nD) : sProp 𝕄 := iprop(∃ f, (c : Thread nD τ).loc cc1_stg6_0 ↦{fullShare} f)
def scr1 (c : Dev nD) : sProp 𝕄 := iprop(∃ f, (c : Thread nD τ).loc cc1_scratch0 ↦{fullShare} f)
/-- Afterwards: the result, -/
def res1 (c : Dev nD) : sProp 𝕄 := iprop((c : Thread nD τ).loc cc1_stg6_0 ↦{fullShare} yOf X c)
/-- and what is left of the exchange. -/
def end1 (c : Dev nD) : sProp 𝕄 :=
  iprop(ow c [] ∗ atPos ER (barCell 1 c) (0 + 1) ∅ 0
    ∗ (done 3 0 c ∗ done 3 1 c ∗ done 3 2 c ∗ done 4 0 c ∗ done 4 1 c ∗ done 4 2 c))

set_option maxHeartbeats 8000000 in
/-- The second kernel's body. -/
theorem run1 (hP : G 3 = gO X) (hQ : G 4 = gO X) (c : Dev nD) (Kt : PUnit → sProp 𝕄) :
    iprop(recs G κ ∗ (start1 c ∗ ins1 X c ∗ outs1 c ∗ scr1 c) ∗ ((end1 c ∗ ins1 X c ∗ res1 X c ∗ scr1 c) -∗ Kt ⟨⟩))
      ⊢ Wp c (cc1_body (Memref.whole cc1_stg0_0) (Memref.isWhole_whole _) (Memref.whole cc1_stg1_0) (Memref.isWhole_whole _)
          (Memref.whole cc1_stg2_0) (Memref.isWhole_whole _) (Memref.whole cc1_stg3_0) (Memref.isWhole_whole _)
          (Memref.whole cc1_stg4_0) (Memref.isWhole_whole _) (Memref.whole cc1_stg5_0) (Memref.isWhole_whole _)
          (Memref.whole cc1_stg6_0) (Memref.isWhole_whole _) (Memref.whole cc1_scratch0) (Memref.isWhole_whole _)
          cc1_scratch1 cc1_scratch2) Kt := by
  unfold start1 ins1 outs1 scr1 awake
  iintro ⟨#Hr, ⟨⟨HO, ⟨HcB, HaB⟩, ⟨Hcall0, Hcall1, Hcall2⟩,
    ⟨⟨P30, #R30⟩, ⟨P31, #R31⟩, ⟨P32, #R32⟩, ⟨P40, #R40⟩, ⟨P41, #R41⟩, ⟨P42, #R42⟩⟩⟩,
    ⟨X0, X1, X2, X3, X4, X5⟩, ⟨%f6, O6⟩, ⟨%fO, SO⟩⟩, Hk⟩
  ihave SO := (Entails.of_eq (whole_halves c c fullShare fO)) $$ SO
  icases SO with ⟨SP, SP0, SP1, SP2, SQ, SQ0, SQ1, SQ2⟩
  have h34 : G 4 = G 3 := hQ.trans hP.symm
  have hgP : ∀ s, gotO (G 3) 0 s = k1_pay39 (outB (X s) 0) := fun s => by rw [hP]; exact gotO_gO X 0 s
  have hgQ : ∀ s, gotO (G 4) 1 s = k1_pay39 (outB (X s) 1) := fun s => by rw [hQ]; exact gotO_gO X 1 s
  have hgPQ : ∀ s, gotP (G 3) s = gotP (gO X) s := fun s => by rw [hP]
  rw [cc1_body_eq_skeleton]; unfold cc1_body_skel
  -- part 1
  rw [Wp_bind, k1_part1_eq_skeleton]; unfold k1_part1_skel
  simp only [semSignalWord, semWaitWord, Prog.lift, Prog.bind_op, Prog.bind_ret, Prog.pure_eq_ret]
  rw [Wp_deviceId]
  iapply (step_signal G κ 1 0 c _ (dev1_1 c) _ rfl _ rfl ((dues1 c).drop 1)) $$ [HO Hcall0 SP0 SQ0]
  · isplitr; · iexact Hr
    isplitl [HO]; · iexact HO
    isplitl [Hcall0]; · iexact Hcall0
    iapply (barPay1_mk 0 c fO fO)
    isplitl [SP0 SQ0]
    · isplitl [SP0] <;> iassumption
    isplitr; · iexact R32
    iexact R42
  iintro HO
  iapply (step_signal G κ 1 1 c _ (dev1_2 c) _ rfl _ rfl ((dues1 c).drop 2)) $$ [HO Hcall1 SP1 SQ1]
  · isplitr; · iexact Hr
    isplitl [HO]; · iexact HO
    isplitl [Hcall1]; · iexact Hcall1
    iapply (barPay1_mk 1 c fO fO)
    isplitl [SP1 SQ1]
    · isplitl [SP1] <;> iassumption
    isplitr; · iexact R31
    iexact R41
  iintro HO
  iapply Wp_ret; try dsimp only
  -- part 2
  rw [Wp_bind, k1_part2_eq_skeleton]; unfold k1_part2_skel
  simp only [semSignalWord, semWaitWord, Prog.lift, Prog.bind_op, Prog.bind_ret, Prog.pure_eq_ret]
  iapply (step_signal G κ 1 2 c _ (dev1_3 c) _ rfl _ rfl ((dues1 c).drop 3)) $$ [HO Hcall2 SP2 SQ2]
  · isplitr; · iexact Hr
    isplitl [HO]; · iexact HO
    isplitl [Hcall2]; · iexact Hcall2
    iapply (barPay1_mk 2 c fO fO)
    isplitl [SP2 SQ2]
    · isplitl [SP2] <;> iassumption
    isplitr; · iexact R30
    iexact R40
  iintro HO
  iapply (load_any (Memref.whole cc1_stg2_0) c _ _ (Memref.readAt_unit_zero _ _ hz2 _ _)) $$ X2; iintro X2
  iapply (load_q c (X c) 0 0 _ inb_S256x2048_S128x128_0_0 rfl) $$ X0; iintro X0
  iapply (load_k c (X c) 0 _ inb_S1024x2048_S1024x128_0_0 rfl) $$ X3; iintro X3
  iapply (load_v c (X c) 0 _ inb_S1024x2048_S1024x128_0_0 rfl) $$ X4; iintro X4
  iapply (load_qr c (X c) 0 0 _ inb_S256x512_S128x32_0_0 rfl) $$ X1; iintro X1
  iapply Wp_ret; try dsimp only
  -- part 3
  rw [Wp_bind, k1_part3_eq_skeleton]; unfold k1_part3_skel
  simp only [Prog.lift, Prog.bind_op, Prog.bind_ret, Prog.pure_eq_ret]
  iapply (load_q c (X c) 0 1 _ inb_S256x2048_S128x128_0_128 rfl) $$ X0; iintro X0
  iapply (load_k c (X c) 1 _ inb_S1024x2048_S1024x128_0_128 rfl) $$ X3; iintro X3
  iapply (load_v c (X c) 1 _ inb_S1024x2048_S1024x128_0_128 rfl) $$ X4; iintro X4
  iapply (load_qr c (X c) 0 1 _ inb_S256x512_S128x32_0_32 rfl) $$ X1; iintro X1
  iapply (load_q c (X c) 0 2 _ inb_S256x2048_S128x128_0_256 rfl) $$ X0; iintro X0
  iapply (load_k c (X c) 2 _ inb_S1024x2048_S1024x128_0_256 rfl) $$ X3; iintro X3
  iapply (load_v c (X c) 2 _ inb_S1024x2048_S1024x128_0_256 rfl) $$ X4; iintro X4
  iapply (load_qr c (X c) 0 2 _ inb_S256x512_S128x32_0_64 rfl) $$ X1; iintro X1
  iapply Wp_ret; try dsimp only
  -- part 4
  rw [Wp_bind, k1_part4_eq_skeleton]; unfold k1_part4_skel
  simp only [Prog.lift, Prog.bind_op, Prog.bind_ret, Prog.pure_eq_ret]
  iapply (load_q c (X c) 0 3 _ inb_S256x2048_S128x128_0_384 rfl) $$ X0; iintro X0
  iapply (load_k c (X c) 3 _ inb_S1024x2048_S1024x128_0_384 rfl) $$ X3; iintro X3
  iapply (load_v c (X c) 3 _ inb_S1024x2048_S1024x128_0_384 rfl) $$ X4; iintro X4
  iapply (load_qr c (X c) 0 3 _ inb_S256x512_S128x32_0_96 rfl) $$ X1; iintro X1
  iapply Wp_ret; try dsimp only
  -- part 5
  rw [Wp_bind, k1_part5_eq_skeleton]; unfold k1_part5_skel
  simp only [Prog.lift, Prog.bind_op, Prog.bind_ret, Prog.pure_eq_ret]
  iapply (load_q c (X c) 0 4 _ inb_S256x2048_S128x128_0_512 rfl) $$ X0; iintro X0
  iapply (load_k c (X c) 4 _ inb_S1024x2048_S1024x128_0_512 rfl) $$ X3; iintro X3
  iapply (load_v c (X c) 4 _ inb_S1024x2048_S1024x128_0_512 rfl) $$ X4; iintro X4
  iapply (load_qr c (X c) 0 4 _ inb_S256x512_S128x32_0_128 rfl) $$ X1; iintro X1
  iapply (load_q c (X c) 0 5 _ inb_S256x2048_S128x128_0_640 rfl) $$ X0; iintro X0
  iapply (load_k c (X c) 5 _ inb_S1024x2048_S1024x128_0_640 rfl) $$ X3; iintro X3
  iapply (load_v c (X c) 5 _ inb_S1024x2048_S1024x128_0_640 rfl) $$ X4; iintro X4
  iapply (load_qr c (X c) 0 5 _ inb_S256x512_S128x32_0_160 rfl) $$ X1; iintro X1
  iapply Wp_ret; try dsimp only
  -- part 6
  rw [Wp_bind, k1_part6_eq_skeleton]; unfold k1_part6_skel
  simp only [Prog.lift, Prog.bind_op, Prog.bind_ret, Prog.pure_eq_ret]
  iapply (load_q c (X c) 0 6 _ inb_S256x2048_S128x128_0_768 rfl) $$ X0; iintro X0
  iapply (load_k c (X c) 6 _ inb_S1024x2048_S1024x128_0_768 rfl) $$ X3; iintro X3
  iapply (load_v c (X c) 6 _ inb_S1024x2048_S1024x128_0_768 rfl) $$ X4; iintro X4
  iapply (load_qr c (X c) 0 6 _ inb_S256x512_S128x32_0_192 rfl) $$ X1; iintro X1
  iapply Wp_ret; try dsimp only
  -- part 7
  rw [Wp_bind, k1_part7_eq_skeleton]; unfold k1_part7_skel
  simp only [Prog.lift, Prog.bind_op, Prog.bind_ret, Prog.pure_eq_ret]
  iapply (load_q c (X c) 0 7 _ inb_S256x2048_S128x128_0_896 rfl) $$ X0; iintro X0
  iapply (load_k c (X c) 7 _ inb_S1024x2048_S1024x128_0_896 rfl) $$ X3; iintro X3
  iapply (load_v c (X c) 7 _ inb_S1024x2048_S1024x128_0_896 rfl) $$ X4; iintro X4
  iapply (load_qr c (X c) 0 7 _ inb_S256x512_S128x32_0_224 rfl) $$ X1; iintro X1
  iapply (load_q c (X c) 0 8 _ inb_S256x2048_S128x128_0_1024 rfl) $$ X0; iintro X0
  iapply (load_k c (X c) 8 _ inb_S1024x2048_S1024x128_0_1024 rfl) $$ X3; iintro X3
  iapply (load_v c (X c) 8 _ inb_S1024x2048_S1024x128_0_1024 rfl) $$ X4; iintro X4
  iapply (load_qr c (X c) 0 8 _ inb_S256x512_S128x32_0_256 rfl) $$ X1; iintro X1
  iapply Wp_ret; try dsimp only
  -- part 8
  rw [Wp_bind, k1_part8_eq_skeleton]; unfold k1_part8_skel
  simp only [Prog.lift, Prog.bind_op, Prog.bind_ret, Prog.pure_eq_ret]
  iapply (load_q c (X c) 0 9 _ inb_S256x2048_S128x128_0_1152 rfl) $$ X0; iintro X0
  iapply (load_k c (X c) 9 _ inb_S1024x2048_S1024x128_0_1152 rfl) $$ X3; iintro X3
  iapply (load_v c (X c) 9 _ inb_S1024x2048_S1024x128_0_1152 rfl) $$ X4; iintro X4
  iapply (load_qr c (X c) 0 9 _ inb_S256x512_S128x32_0_288 rfl) $$ X1; iintro X1
  iapply (load_q c (X c) 0 10 _ inb_S256x2048_S128x128_0_1280 rfl) $$ X0; iintro X0
  iapply Wp_ret; try dsimp only
  -- part 9
  rw [Wp_bind, k1_part9_eq_skeleton]; unfold k1_part9_skel
  simp only [Prog.lift, Prog.bind_op, Prog.bind_ret, Prog.pure_eq_ret]
  iapply (load_k c (X c) 10 _ inb_S1024x2048_S1024x128_0_1280 rfl) $$ X3; iintro X3
  iapply (load_v c (X c) 10 _ inb_S1024x2048_S1024x128_0_1280 rfl) $$ X4; iintro X4
  iapply (load_qr c (X c) 0 10 _ inb_S256x512_S128x32_0_320 rfl) $$ X1; iintro X1
  iapply (load_q c (X c) 0 11 _ inb_S256x2048_S128x128_0_1408 rfl) $$ X0; iintro X0
  iapply (load_k c (X c) 11 _ inb_S1024x2048_S1024x128_0_1408 rfl) $$ X3; iintro X3
  iapply (load_v c (X c) 11 _ inb_S1024x2048_S1024x128_0_1408 rfl) $$ X4; iintro X4
  iapply (load_qr c (X c) 0 11 _ inb_S256x512_S128x32_0_352 rfl) $$ X1; iintro X1
  iapply Wp_ret; try dsimp only
  -- part 10
  rw [Wp_bind, k1_part10_eq_skeleton]; unfold k1_part10_skel
  simp only [Prog.lift, Prog.bind_op, Prog.bind_ret, Prog.pure_eq_ret]
  iapply (load_q c (X c) 0 12 _ inb_S256x2048_S128x128_0_1536 rfl) $$ X0; iintro X0
  iapply (load_k c (X c) 12 _ inb_S1024x2048_S1024x128_0_1536 rfl) $$ X3; iintro X3
  iapply (load_v c (X c) 12 _ inb_S1024x2048_S1024x128_0_1536 rfl) $$ X4; iintro X4
  iapply (load_qr c (X c) 0 12 _ inb_S256x512_S128x32_0_384 rfl) $$ X1; iintro X1
  iapply (load_q c (X c) 0 13 _ inb_S256x2048_S128x128_0_1664 rfl) $$ X0; iintro X0
  iapply (load_k c (X c) 13 _ inb_S1024x2048_S1024x128_0_1664 rfl) $$ X3; iintro X3
  iapply Wp_ret; try dsimp only
  -- part 11
  rw [Wp_bind, k1_part11_eq_skeleton]; unfold k1_part11_skel
  simp only [Prog.lift, Prog.bind_op, Prog.bind_ret, Prog.pure_eq_ret]
  iapply (load_v c (X c) 13 _ inb_S1024x2048_S1024x128_0_1664 rfl) $$ X4; iintro X4
  iapply (load_qr c (X c) 0 13 _ inb_S256x512_S128x32_0_416 rfl) $$ X1; iintro X1
  iapply (load_q c (X c) 0 14 _ inb_S256x2048_S128x128_0_1792 rfl) $$ X0; iintro X0
  iapply (load_k c (X c) 14 _ inb_S1024x2048_S1024x128_0_1792 rfl) $$ X3; iintro X3
  iapply (load_v c (X c) 14 _ inb_S1024x2048_S1024x128_0_1792 rfl) $$ X4; iintro X4
  iapply (load_qr c (X c) 0 14 _ inb_S256x512_S128x32_0_448 rfl) $$ X1; iintro X1
  iapply Wp_ret; try dsimp only
  -- part 12
  rw [Wp_bind, k1_part12_eq_skeleton]; unfold k1_part12_skel
  simp only [Prog.lift, Prog.bind_op, Prog.bind_ret, Prog.pure_eq_ret]
  iapply (load_q c (X c) 0 15 _ inb_S256x2048_S128x128_0_1920 rfl) $$ X0; iintro X0
  iapply (load_k c (X c) 15 _ inb_S1024x2048_S1024x128_0_1920 rfl) $$ X3; iintro X3
  iapply (load_v c (X c) 15 _ inb_S1024x2048_S1024x128_0_1920 rfl) $$ X4; iintro X4
  iapply (load_qr c (X c) 0 15 _ inb_S256x512_S128x32_0_480 rfl) $$ X1; iintro X1
  iapply (load_any (Memref.whole cc1_stg5_0) c _ _ (Memref.readAt_unit_zero _ _ hz2 _ _)) $$ X5; iintro X5
  iapply Wp_ret; try dsimp only
  rw [out0 (X c)]
  -- part 13
  rw [Wp_bind, k1_part13_eq_skeleton]; unfold k1_part13_skel
  simp only [semSignalWord, semWaitWord, Prog.lift, Prog.bind_op, Prog.bind_ret, Prog.pure_eq_ret]
  iapply (load_any (Memref.whole cc1_stg6_0) c _ _ rfl) $$ O6; iintro O6
  iapply (store_any (Memref.whole cc1_stg6_0) c _ _ _ _ rfl) $$ O6; iintro O6
  iapply (load_P c c fullShare fO _ (k1_off2_inb c 0) ((o1_2 c 0).trans (o1_3 c 0).symm)) $$ SP; iintro SP
  iapply (store_P c c fO (G 3) _ _ (k1_off2_inb c 0) ((o1_2 c 0).trans (o1_3 c 0).symm) (hgP c)) $$ SP; iintro SP
  ihave SP := (pts_shares 3 c c (G 3)).1 $$ SP
  icases SP with ⟨⟨SP0, SP1⟩, SP2, SPK⟩
  iapply (step_waitBar G κ 1 c _ rfl _ rfl ((dues1 c).drop 3) 3 (above_copies1 c) (by decide)) $$ [HO HcB HaB]
  · isplitr; · iexact Hr
    isplitl [HO]; · iexact HO
    isplitl [HcB] <;> iassumption
  iintro ⟨HO, HaB, Hp0, Hp1, Hp2⟩
  ihave Hp0 := (barPay1_eq 0 c) $$ Hp0
  icases Hp0 with ⟨Rm30, Rm40⟩
  ihave Hp1 := (barPay1_eq 1 c) $$ Hp1
  icases Hp1 with ⟨Rm31, Rm41⟩
  ihave Hp2 := (barPay1_eq 2 c) $$ Hp2
  icases Hp2 with ⟨Rm32, Rm42⟩
  iapply (send_P G κ 0 c _ (dev1_4 c) _ _ rfl rfl ((dues1 c).drop 4)) $$ [HO P30 SP0 Rm30]
  · isplitr; · iexact Hr
    isplitl [HO]; · iexact HO
    unfold ready
    isplitl [P30]; · iexact P30
    isplitl [SP0] <;> iassumption
  iintro ⟨HO, P30⟩
  iapply Wp_ret; try dsimp only
  -- part 14
  rw [Wp_bind, k1_part14_eq_skeleton]; unfold k1_part14_skel
  simp only [Prog.lift, Prog.bind_op, Prog.bind_ret, Prog.pure_eq_ret]
  iapply (send_P G κ 1 c _ (dev1_5 c) _ _ rfl rfl ((dues1 c).drop 5)) $$ [HO P31 SP1 Rm31]
  · isplitr; · iexact Hr
    isplitl [HO]; · iexact HO
    unfold ready
    isplitl [P31]; · iexact P31
    isplitl [SP1] <;> iassumption
  iintro ⟨HO, P31⟩
  iapply Wp_ret; try dsimp only
  -- part 15
  rw [Wp_bind, k1_part15_eq_skeleton]; unfold k1_part15_skel
  simp only [Prog.lift, Prog.bind_op, Prog.bind_ret, Prog.pure_eq_ret]
  iapply (send_P G κ 2 c _ (dev1_6 c) _ _ rfl rfl ((dues1 c).drop 6)) $$ [HO P32 SP2 Rm32]
  · isplitr; · iexact Hr
    isplitl [HO]; · iexact HO
    unfold ready
    isplitl [P32]; · iexact P32
    isplitl [SP2] <;> iassumption
  iintro ⟨HO, P32⟩
  iapply (load_q c (X c) 1 0 _ inb_S256x2048_S128x128_128_0 rfl) $$ X0; iintro X0
  iapply (load_k c (X c) 0 _ inb_S1024x2048_S1024x128_0_0 rfl) $$ X3; iintro X3
  iapply (load_v c (X c) 0 _ inb_S1024x2048_S1024x128_0_0 rfl) $$ X4; iintro X4
  iapply (load_qr c (X c) 1 0 _ inb_S256x512_S128x32_128_0 rfl) $$ X1; iintro X1
  iapply (load_q c (X c) 1 1 _ inb_S256x2048_S128x128_128_128 rfl) $$ X0; iintro X0
  iapply (load_k c (X c) 1 _ inb_S1024x2048_S1024x128_0_128 rfl) $$ X3; iintro X3
  iapply (load_v c (X c) 1 _ inb_S1024x2048_S1024x128_0_128 rfl) $$ X4; iintro X4
  iapply Wp_ret; try dsimp only
  -- part 16
  rw [Wp_bind, k1_part16_eq_skeleton]; unfold k1_part16_skel
  simp only [Prog.lift, Prog.bind_op, Prog.bind_ret, Prog.pure_eq_ret]
  iapply (load_qr c (X c) 1 1 _ inb_S256x512_S128x32_128_32 rfl) $$ X1; iintro X1
  iapply (load_q c (X c) 1 2 _ inb_S256x2048_S128x128_128_256 rfl) $$ X0; iintro X0
  iapply (load_k c (X c) 2 _ inb_S1024x2048_S1024x128_0_256 rfl) $$ X3; iintro X3
  iapply (load_v c (X c) 2 _ inb_S1024x2048_S1024x128_0_256 rfl) $$ X4; iintro X4
  iapply (load_qr c (X c) 1 2 _ inb_S256x512_S128x32_128_64 rfl) $$ X1; iintro X1
  iapply Wp_ret; try dsimp only
  -- part 17
  rw [Wp_bind, k1_part17_eq_skeleton]; unfold k1_part17_skel
  simp only [Prog.lift, Prog.bind_op, Prog.bind_ret, Prog.pure_eq_ret]
  iapply (load_q c (X c) 1 3 _ inb_S256x2048_S128x128_128_384 rfl) $$ X0; iintro X0
  iapply (load_k c (X c) 3 _ inb_S1024x2048_S1024x128_0_384 rfl) $$ X3; iintro X3
  iapply (load_v c (X c) 3 _ inb_S1024x2048_S1024x128_0_384 rfl) $$ X4; iintro X4
  iapply (load_qr c (X c) 1 3 _ inb_S256x512_S128x32_128_96 rfl) $$ X1; iintro X1
  iapply (load_q c (X c) 1 4 _ inb_S256x2048_S128x128_128_512 rfl) $$ X0; iintro X0
  iapply (load_k c (X c) 4 _ inb_S1024x2048_S1024x128_0_512 rfl) $$ X3; iintro X3
  iapply (load_v c (X c) 4 _ inb_S1024x2048_S1024x128_0_512 rfl) $$ X4; iintro X4
  iapply (load_qr c (X c) 1 4 _ inb_S256x512_S128x32_128_128 rfl) $$ X1; iintro X1
  iapply Wp_ret; try dsimp only
  -- part 18
  rw [Wp_bind, k1_part18_eq_skeleton]; unfold k1_part18_skel
  simp only [Prog.lift, Prog.bind_op, Prog.bind_ret, Prog.pure_eq_ret]
  iapply (load_q c (X c) 1 5 _ inb_S256x2048_S128x128_128_640 rfl) $$ X0; iintro X0
  iapply (load_k c (X c) 5 _ inb_S1024x2048_S1024x128_0_640 rfl) $$ X3; iintro X3
  iapply (load_v c (X c) 5 _ inb_S1024x2048_S1024x128_0_640 rfl) $$ X4; iintro X4
  iapply (load_qr c (X c) 1 5 _ inb_S256x512_S128x32_128_160 rfl) $$ X1; iintro X1
  iapply Wp_ret; try dsimp only
  -- part 19
  rw [Wp_bind, k1_part19_eq_skeleton]; unfold k1_part19_skel
  simp only [Prog.lift, Prog.bind_op, Prog.bind_ret, Prog.pure_eq_ret]
  iapply (load_q c (X c) 1 6 _ inb_S256x2048_S128x128_128_768 rfl) $$ X0; iintro X0
  iapply (load_k c (X c) 6 _ inb_S1024x2048_S1024x128_0_768 rfl) $$ X3; iintro X3
  iapply (load_v c (X c) 6 _ inb_S1024x2048_S1024x128_0_768 rfl) $$ X4; iintro X4
  iapply (load_qr c (X c) 1 6 _ inb_S256x512_S128x32_128_192 rfl) $$ X1; iintro X1
  iapply (load_q c (X c) 1 7 _ inb_S256x2048_S128x128_128_896 rfl) $$ X0; iintro X0
  iapply (load_k c (X c) 7 _ inb_S1024x2048_S1024x128_0_896 rfl) $$ X3; iintro X3
  iapply (load_v c (X c) 7 _ inb_S1024x2048_S1024x128_0_896 rfl) $$ X4; iintro X4
  iapply (load_qr c (X c) 1 7 _ inb_S256x512_S128x32_128_224 rfl) $$ X1; iintro X1
  iapply Wp_ret; try dsimp only
  -- part 20
  rw [Wp_bind, k1_part20_eq_skeleton]; unfold k1_part20_skel
  simp only [Prog.lift, Prog.bind_op, Prog.bind_ret, Prog.pure_eq_ret]
  iapply (load_q c (X c) 1 8 _ inb_S256x2048_S128x128_128_1024 rfl) $$ X0; iintro X0
  iapply (load_k c (X c) 8 _ inb_S1024x2048_S1024x128_0_1024 rfl) $$ X3; iintro X3
  iapply (load_v c (X c) 8 _ inb_S1024x2048_S1024x128_0_1024 rfl) $$ X4; iintro X4
  iapply (load_qr c (X c) 1 8 _ inb_S256x512_S128x32_128_256 rfl) $$ X1; iintro X1
  iapply Wp_ret; try dsimp only
  -- part 21
  rw [Wp_bind, k1_part21_eq_skeleton]; unfold k1_part21_skel
  simp only [Prog.lift, Prog.bind_op, Prog.bind_ret, Prog.pure_eq_ret]
  iapply (load_q c (X c) 1 9 _ inb_S256x2048_S128x128_128_1152 rfl) $$ X0; iintro X0
  iapply (load_k c (X c) 9 _ inb_S1024x2048_S1024x128_0_1152 rfl) $$ X3; iintro X3
  iapply (load_v c (X c) 9 _ inb_S1024x2048_S1024x128_0_1152 rfl) $$ X4; iintro X4
  iapply (load_qr c (X c) 1 9 _ inb_S256x512_S128x32_128_288 rfl) $$ X1; iintro X1
  iapply (load_q c (X c) 1 10 _ inb_S256x2048_S128x128_128_1280 rfl) $$ X0; iintro X0
  iapply (load_k c (X c) 10 _ inb_S1024x2048_S1024x128_0_1280 rfl) $$ X3; iintro X3
  iapply (load_v c (X c) 10 _ inb_S1024x2048_S1024x128_0_1280 rfl) $$ X4; iintro X4
  iapply (load_qr c (X c) 1 10 _ inb_S256x512_S128x32_128_320 rfl) $$ X1; iintro X1
  iapply Wp_ret; try dsimp only
  -- part 22
  rw [Wp_bind, k1_part22_eq_skeleton]; unfold k1_part22_skel
  simp only [Prog.lift, Prog.bind_op, Prog.bind_ret, Prog.pure_eq_ret]
  iapply (load_q c (X c) 1 11 _ inb_S256x2048_S128x128_128_1408 rfl) $$ X0; iintro X0
  iapply (load_k c (X c) 11 _ inb_S1024x2048_S1024x128_0_1408 rfl) $$ X3; iintro X3
  iapply (load_v c (X c) 11 _ inb_S1024x2048_S1024x128_0_1408 rfl) $$ X4; iintro X4
  iapply (load_qr c (X c) 1 11 _ inb_S256x512_S128x32_128_352 rfl) $$ X1; iintro X1
  iapply (load_q c (X c) 1 12 _ inb_S256x2048_S128x128_128_1536 rfl) $$ X0; iintro X0
  iapply Wp_ret; try dsimp only
  -- part 23
  rw [Wp_bind, k1_part23_eq_skeleton]; unfold k1_part23_skel
  simp only [Prog.lift, Prog.bind_op, Prog.bind_ret, Prog.pure_eq_ret]
  iapply (load_k c (X c) 12 _ inb_S1024x2048_S1024x128_0_1536 rfl) $$ X3; iintro X3
  iapply (load_v c (X c) 12 _ inb_S1024x2048_S1024x128_0_1536 rfl) $$ X4; iintro X4
  iapply (load_qr c (X c) 1 12 _ inb_S256x512_S128x32_128_384 rfl) $$ X1; iintro X1
  iapply (load_q c (X c) 1 13 _ inb_S256x2048_S128x128_128_1664 rfl) $$ X0; iintro X0
  iapply (load_k c (X c) 13 _ inb_S1024x2048_S1024x128_0_1664 rfl) $$ X3; iintro X3
  iapply (load_v c (X c) 13 _ inb_S1024x2048_S1024x128_0_1664 rfl) $$ X4; iintro X4
  iapply (load_qr c (X c) 1 13 _ inb_S256x512_S128x32_128_416 rfl) $$ X1; iintro X1
  iapply Wp_ret; try dsimp only
  -- part 24
  rw [Wp_bind, k1_part24_eq_skeleton]; unfold k1_part24_skel
  simp only [Prog.lift, Prog.bind_op, Prog.bind_ret, Prog.pure_eq_ret]
  iapply (load_q c (X c) 1 14 _ inb_S256x2048_S128x128_128_1792 rfl) $$ X0; iintro X0
  iapply (load_k c (X c) 14 _ inb_S1024x2048_S1024x128_0_1792 rfl) $$ X3; iintro X3
  iapply (load_v c (X c) 14 _ inb_S1024x2048_S1024x128_0_1792 rfl) $$ X4; iintro X4
  iapply (load_qr c (X c) 1 14 _ inb_S256x512_S128x32_128_448 rfl) $$ X1; iintro X1
  iapply (load_q c (X c) 1 15 _ inb_S256x2048_S128x128_128_1920 rfl) $$ X0; iintro X0
  iapply Wp_ret; try dsimp only
  -- part 25
  rw [Wp_bind, k1_part25_eq_skeleton]; unfold k1_part25_skel
  simp only [Prog.lift, Prog.bind_op, Prog.bind_ret, Prog.pure_eq_ret]
  iapply (load_k c (X c) 15 _ inb_S1024x2048_S1024x128_0_1920 rfl) $$ X3; iintro X3
  iapply (load_v c (X c) 15 _ inb_S1024x2048_S1024x128_0_1920 rfl) $$ X4; iintro X4
  iapply (load_qr c (X c) 1 15 _ inb_S256x512_S128x32_128_480 rfl) $$ X1; iintro X1
  iapply (load_any (Memref.whole cc1_stg5_0) c _ _ (Memref.readAt_unit_zero _ _ hz2 _ _)) $$ X5; iintro X5
  iapply (load_any (Memref.whole cc1_stg6_0) c _ _ rfl) $$ O6; iintro O6
  rw [out1a (X c)]
  iapply (store_any (Memref.whole cc1_stg6_0) c _ _ _ _ rfl) $$ O6; iintro O6
  iapply (load_Q c c fullShare fO _ (k1_off2_inb c 1) ((o1_2 c 1).trans (o1_3 c 1).symm)) $$ SQ; iintro SQ
  rw [out1b (X c)]
  iapply (store_Q c c fO (G 4) _ _ (k1_off2_inb c 1) ((o1_2 c 1).trans (o1_3 c 1).symm) (hgQ c)) $$ SQ; iintro SQ
  ihave SQ := (pts_shares 4 c c (G 4)).1 $$ SQ
  icases SQ with ⟨⟨SQ0, SQ1⟩, SQ2, SQK⟩
  iapply Wp_ret; try dsimp only
  -- part 26
  rw [Wp_bind, k1_part26_eq_skeleton]; unfold k1_part26_skel
  simp only [Prog.lift, Prog.bind_op, Prog.bind_ret, Prog.pure_eq_ret]
  iapply (send_Q G κ 0 c _ (dev1_7 c) _ _ rfl rfl ((dues1 c).drop 7)) $$ [HO P40 SQ0 Rm40]
  · isplitr; · iexact Hr
    isplitl [HO]; · iexact HO
    unfold ready
    isplitl [P40]; · iexact P40
    isplitl [SQ0] <;> iassumption
  iintro ⟨HO, P40⟩
  iapply Wp_ret; try dsimp only
  -- part 27
  rw [Wp_bind, k1_part27_eq_skeleton]; unfold k1_part27_skel
  simp only [Prog.lift, Prog.bind_op, Prog.bind_ret, Prog.pure_eq_ret]
  iapply (send_Q G κ 1 c _ (dev1_8 c) _ _ rfl rfl ((dues1 c).drop 8)) $$ [HO P41 SQ1 Rm41]
  · isplitr; · iexact Hr
    isplitl [HO]; · iexact HO
    unfold ready
    isplitl [P41]; · iexact P41
    isplitl [SQ1] <;> iassumption
  iintro ⟨HO, P41⟩
  iapply (send_Q G κ 2 c _ (dev1_9 c) _ _ rfl rfl []) $$ [HO P42 SQ2 Rm42]
  · isplitr; · iexact Hr
    isplitl [HO]; · iexact HO
    unfold ready
    isplitl [P42]; · iexact P42
    isplitl [SQ2] <;> iassumption
  iintro ⟨HO, P42⟩
  iapply Wp_ret; try dsimp only
  -- part 28
  rw [Wp_bind, k1_part28_eq_skeleton]; unfold k1_part28_skel
  simp only [Prog.lift, Prog.bind_op, Prog.bind_ret, Prog.pure_eq_ret]
  iapply (recv_P G κ 0 c _ rfl) $$ [HO P30]
  · isplitr; · iexact Hr
    isplitl [HO]; · iexact HO
    iexact P30
  iintro ⟨HO, P30, TP0⟩
  iapply (recv_Q G κ 0 c _ rfl) $$ [HO P40]
  · isplitr; · iexact Hr
    isplitl [HO]; · iexact HO
    iexact P40
  iintro ⟨HO, P40, TQ0⟩
  iapply (recv_P G κ 1 c _ rfl) $$ [HO P31]
  · isplitr; · iexact Hr
    isplitl [HO]; · iexact HO
    iexact P31
  iintro ⟨HO, P31, TP1⟩
  iapply (recv_Q G κ 1 c _ rfl) $$ [HO P41]
  · isplitr; · iexact Hr
    isplitl [HO]; · iexact HO
    iexact P41
  iintro ⟨HO, P41, TQ1⟩
  iapply Wp_ret; try dsimp only
  -- part 29
  rw [Wp_bind, k1_part29_eq_skeleton]; unfold k1_part29_skel
  simp only [Prog.lift, Prog.bind_op, Prog.bind_ret, Prog.pure_eq_ret]
  iapply (recv_P G κ 2 c _ rfl) $$ [HO P32]
  · isplitr; · iexact Hr
    isplitl [HO]; · iexact HO
    iexact P32
  iintro ⟨HO, P32, TP2⟩
  iapply (recv_Q G κ 2 c _ rfl) $$ [HO P42]
  · isplitr; · iexact Hr
    isplitl [HO]; · iexact HO
    iexact P42
  iintro ⟨HO, P42, TQ2⟩
  ihave TQ0 := (Entails.of_eq (congrArg (fun g => (pts 4 (pv 0 c) c fullShare g : sProp 𝕄)) h34)) $$ TQ0
  ihave T0 : (iprop(pts 3 (pv 0 c) c fullShare (G 3) ∗ pts 4 (pv 0 c) c fullShare (G 3)) : sProp 𝕄) $$ [TP0 TQ0]
  · isplitl [TP0]; · iexact TP0
    iexact TQ0
  iapply (load_PQ (pv 0 c) c fullShare (G 3) _ (k1_off4_inb c 0) (o1_4 c 0)) $$ T0; iintro ⟨TP0, TQ0⟩; rw [hgPQ]
  iapply (load_any (Memref.whole cc1_stg6_0) c _ _ rfl) $$ O6; iintro O6
  iapply (store_any (Memref.whole cc1_stg6_0) c _ _ _ _ rfl) $$ O6; iintro O6
  iapply Wp_ret; try dsimp only
  -- part 30
  rw [Wp_bind, k1_part30_eq_skeleton]; unfold k1_part30_skel
  simp only [Prog.lift, Prog.bind_op, Prog.bind_ret, Prog.pure_eq_ret]
  ihave TQ1 := (Entails.of_eq (congrArg (fun g => (pts 4 (pv 1 c) c fullShare g : sProp 𝕄)) h34)) $$ TQ1
  ihave T1 : (iprop(pts 3 (pv 1 c) c fullShare (G 3) ∗ pts 4 (pv 1 c) c fullShare (G 3)) : sProp 𝕄) $$ [TP1 TQ1]
  · isplitl [TP1]; · iexact TP1
    iexact TQ1
  iapply (load_PQ (pv 1 c) c fullShare (G 3) _ (k1_off4_inb c 1) (o1_4 c 1)) $$ T1; iintro ⟨TP1, TQ1⟩; rw [hgPQ]
  rw [pay78_eq]
  iapply (load_any (Memref.whole cc1_stg6_0) c _ _ rfl) $$ O6; iintro O6
  iapply (store_any (Memref.whole cc1_stg6_0) c _ _ _ _ rfl) $$ O6; iintro O6
  ihave TQ2 := (Entails.of_eq (congrArg (fun g => (pts 4 (pv 2 c) c fullShare g : sProp 𝕄)) h34)) $$ TQ2
  ihave T2 : (iprop(pts 3 (pv 2 c) c fullShare (G 3) ∗ pts 4 (pv 2 c) c fullShare (G 3)) : sProp 𝕄) $$ [TP2 TQ2]
  · isplitl [TP2]; · iexact TP2
    iexact TQ2
  iapply (load_PQ (pv 2 c) c fullShare (G 3) _ (k1_off4_inb c 2) (o1_4 c 2)) $$ T2; iintro ⟨TP2, TQ2⟩; rw [hgPQ]
  rw [pay79_eq]
  iapply (load_any (Memref.whole cc1_stg6_0) c _ _ rfl) $$ O6; iintro O6
  iapply (store_any (Memref.whole cc1_stg6_0) c _ _ _ _ rfl) $$ O6; iintro O6
  iapply Wp_ret; try dsimp only
  -- part 31
  rw [Wp_bind, k1_part31_eq_skeleton]; unfold k1_part31_skel
  simp only [Prog.lift, Prog.bind_op, Prog.bind_ret, Prog.pure_eq_ret]
  iapply (left_P G κ 0 c _ rfl) $$ [HO P30]
  · isplitr; · iexact Hr
    isplitl [HO]; · iexact HO
    iexact P30
  iintro ⟨HO, P30, SP0⟩
  iapply (left_Q G κ 0 c _ rfl) $$ [HO P40]
  · isplitr; · iexact Hr
    isplitl [HO]; · iexact HO
    iexact P40
  iintro ⟨HO, P40, SQ0⟩
  iapply (left_P G κ 1 c _ rfl) $$ [HO P31]
  · isplitr; · iexact Hr
    isplitl [HO]; · iexact HO
    iexact P31
  iintro ⟨HO, P31, SP1⟩
  iapply (left_Q G κ 1 c _ rfl) $$ [HO P41]
  · isplitr; · iexact Hr
    isplitl [HO]; · iexact HO
    iexact P41
  iintro ⟨HO, P41, SQ1⟩
  iapply (left_P G κ 2 c _ rfl) $$ [HO P32]
  · isplitr; · iexact Hr
    isplitl [HO]; · iexact HO
    iexact P32
  iintro ⟨HO, P32, SP2⟩
  iapply Wp_ret; try dsimp only
  -- the last wait
  iapply (left_Q G κ 2 c _ rfl) $$ [HO P42]
  · isplitr; · iexact Hr
    isplitl [HO]; · iexact HO
    iexact P42
  iintro ⟨HO, P42, SQ2⟩
  iapply Wp_ret
  iapply Hk
  ihave O6 := (Entails.of_eq (congrArg (fun g => (((c : Thread nD τ).loc cc1_stg6_0 ↦{fullShare} g) : sProp 𝕄)) (y_stored X c f6))) $$ O6
  unfold end1 res1
  isplitl [HO HaB P30 P31 P32 P40 P41 P42]
  · isplitl [HO]; · iexact HO
    isplitl [HaB]; · iexact HaB
    isplitl [P30]; · iexact P30
    isplitl [P31]; · iexact P31
    isplitl [P32]; · iexact P32
    isplitl [P40]; · iexact P40
    isplitl [P41]; · iexact P41
    iexact P42
  isplitl [X0 X1 X2 X3 X4 X5]
  · isplitl [X0]; · iexact X0
    isplitl [X1]; · iexact X1
    isplitl [X2]; · iexact X2
    isplitl [X3]; · iexact X3
    isplitl [X4]; · iexact X4
    iexact X5
  isplitl [O6]; · iexact O6
  iexists G 3
  iapply (Entails.of_eq (whole_halves c c fullShare (G 3)).symm)
  isplitl [SP0 SP1 SP2 SPK]
  · iapply (pts_shares 3 c c (G 3)).2
    isplitl [SP0 SP1]
    · isplitl [SP0] <;> iassumption
    isplitl [SP2] <;> iassumption
  isplitl [TP2]; · iexact TP2
  isplitl [TP1]; · iexact TP1
  isplitl [TP0]; · iexact TP0
  isplitl [SQ0 SQ1 SQ2 SQK]
  · iapply (Entails.of_eq (congrArg (fun g => (pts 4 c c fullShare g : sProp 𝕄)) h34))
    iapply (pts_shares 4 c c (G 4)).2
    isplitl [SQ0 SQ1]
    · isplitl [SQ0] <;> iassumption
    isplitl [SQ2] <;> iassumption
  isplitl [TQ2]; · iexact TQ2
  isplitl [TQ1]; · iexact TQ1
  iexact TQ0

end

end Cert.Proof

end
-- ==== Proof.Setup.lean ====
/- The contents of every buffer along the run, and the two kernels' pipelines as data: what each window holds, what a core owes,
   what rides beside. -/
module

public import proofs.«01_k».proof.Proof.Body0
public import proofs.«01_k».proof.Proof.Body1
public import proofs.«01_k».proof.Proof.Gen.KernelIdeal.Launch
public import proofs.«01_k».proof.Proof.Gen.KernelIdeal.Points
public import proofs.«01_k».proof.Proof.Gen.KernelIdeal.Regions
public import Idealize.ShloMosaic.Lib.Pipeline.RegionTalk

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ UU ℕ

variable (m : (l : Loc nD τ sig) → Buf (Elt F) l)

/-! ## Contents -/

/-- What the first kernel is given on device `c`; -/
def X0 (c : Dev nD) : In0 F where
  x := m ((c : Thread nD τ).loc main_arg0)
  wd := m ((c : Thread nD τ).loc main_arg1)
  wk := m ((c : Thread nD τ).loc main_arg2)
  wv := m ((c : Thread nD τ).loc main_arg3)
  wkr := m ((c : Thread nD τ).loc main_arg6)
  wq := m ((c : Thread nD τ).loc main_arg4)
  wqr := m ((c : Thread nD τ).loc main_arg5)
/-- the second. -/
def X1 (c : Dev nD) : In1 F where
  q := qOf c (X0 m c)
  qr := qrOf c (X0 m c)
  kr := kr (X0 m c)
  k := kOf (X0 m) c
  v := vOf (X0 m) c
  wo := m ((c : Thread nD τ).loc main_arg7)

/-- What is gathered on every device, channel by channel. -/
def gath : Gath F
  | 0 => gA (X0 m)
  | 1 => gU (X0 m)
  | 2 => gV (X0 m)
  | 3 => gO (X1 m)
  | 4 => gO (X1 m)

/-- The unscoped buffers of device `c` at the end. -/
def fin (c : Dev nD) : Valuation τ sig (Elt F) :=
  Function.update (Function.update (Function.update (Function.update (Function.update (Function.update (V0 m c)
    main_v1_0 (kOf (X0 m) c)) main_v1_1 (vOf (X0 m) c)) main_v1_2 (kr (X0 m c))) main_v1_3 (qOf c (X0 m c))) main_v1_4 (qrOf c (X0 m c)))
    main_v2 (yOf (X1 m) c)
/-- What the two kernels leave. -/
def outs : Outs (F := F) := fun _ r c => fin m c r

theorem ne_ref {r s : Ref sig .tc} (h : r ≠ s) : (Proc.devRef (τ := τ) .tc r) ≠ Proc.devRef .tc s := StableHlo.devRef_ne_of_ne h

theorem fin_v2 (c : Dev nD) : fin m c main_v2 = yOf (X1 m) c := Function.update_self _ _ _
theorem fin_v1_4 (c : Dev nD) : fin m c main_v1_4 = qrOf c (X0 m c) :=
  (Function.update_of_ne (ne_ref (by decide)) _ _).trans (Function.update_self _ _ _)
theorem fin_v1_3 (c : Dev nD) : fin m c main_v1_3 = qOf c (X0 m c) :=
  (Function.update_of_ne (ne_ref (by decide)) _ _).trans <| (Function.update_of_ne (ne_ref (by decide)) _ _).trans (Function.update_self _ _ _)
theorem fin_v1_2 (c : Dev nD) : fin m c main_v1_2 = kr (X0 m c) :=
  (Function.update_of_ne (ne_ref (by decide)) _ _).trans <| (Function.update_of_ne (ne_ref (by decide)) _ _).trans <|
  (Function.update_of_ne (ne_ref (by decide)) _ _).trans (Function.update_self _ _ _)
theorem fin_v1_1 (c : Dev nD) : fin m c main_v1_1 = vOf (X0 m) c :=
  (Function.update_of_ne (ne_ref (by decide)) _ _).trans <| (Function.update_of_ne (ne_ref (by decide)) _ _).trans <|
  (Function.update_of_ne (ne_ref (by decide)) _ _).trans <| (Function.update_of_ne (ne_ref (by decide)) _ _).trans (Function.update_self _ _ _)
theorem fin_v1_0 (c : Dev nD) : fin m c main_v1_0 = kOf (X0 m) c :=
  (Function.update_of_ne (ne_ref (by decide)) _ _).trans <| (Function.update_of_ne (ne_ref (by decide)) _ _).trans <|
  (Function.update_of_ne (ne_ref (by decide)) _ _).trans <| (Function.update_of_ne (ne_ref (by decide)) _ _).trans <|
  (Function.update_of_ne (ne_ref (by decide)) _ _).trans (Function.update_self _ _ _)

theorem V1_v1_4 (c : Dev nD) : V1 m (outs m) c main_v1_4 = qrOf c (X0 m c) := (Function.update_self _ _ _).trans (fin_v1_4 m c)
theorem V1_v1_3 (c : Dev nD) : V1 m (outs m) c main_v1_3 = qOf c (X0 m c) :=
  ((Function.update_of_ne (ne_ref (by decide)) _ _).trans (Function.update_self _ _ _)).trans (fin_v1_3 m c)
theorem V1_v1_2 (c : Dev nD) : V1 m (outs m) c main_v1_2 = kr (X0 m c) :=
  ((Function.update_of_ne (ne_ref (by decide)) _ _).trans <| (Function.update_of_ne (ne_ref (by decide)) _ _).trans (Function.update_self _ _ _)).trans (fin_v1_2 m c)
theorem V1_v1_1 (c : Dev nD) : V1 m (outs m) c main_v1_1 = vOf (X0 m) c :=
  ((Function.update_of_ne (ne_ref (by decide)) _ _).trans <| (Function.update_of_ne (ne_ref (by decide)) _ _).trans <|
    (Function.update_of_ne (ne_ref (by decide)) _ _).trans (Function.update_self _ _ _)).trans (fin_v1_1 m c)
theorem V1_v1_0 (c : Dev nD) : V1 m (outs m) c main_v1_0 = kOf (X0 m) c :=
  ((Function.update_of_ne (ne_ref (by decide)) _ _).trans <| (Function.update_of_ne (ne_ref (by decide)) _ _).trans <|
    (Function.update_of_ne (ne_ref (by decide)) _ _).trans <| (Function.update_of_ne (ne_ref (by decide)) _ _).trans (Function.update_self _ _ _)).trans (fin_v1_0 m c)
theorem V2_v2 (c : Dev nD) : V2 m (outs m) c main_v2 = yOf (X1 m) c := (Function.update_self _ _ _).trans (fin_v2 m c)

/-! ## What rides beside the buffers -/

/-- The right to wait at a kernel's barrier, and the position there; -/
def gate (b : Fin 2) (c : Dev nD) : sProp 𝕄 := iprop(cred (tallyAt (barCell b c) () 3) ∗ atPos ER (barCell b c) 0 ∅ 0)
/-- the three announcements; -/
def calls (b : Fin 2) (c : Dev nD) : sProp 𝕄 := iprop(call b 0 c ∗ call b 1 c ∗ call b 2 c)
/-- a channel's three copies, from launch; -/
def sleeps (a : Fin 5) (c : Dev nD) : sProp 𝕄 := iprop(asleep a 0 c ∗ asleep a 1 c ∗ asleep a 2 c)
/-- opened; -/
def wakes (a : Fin 5) (c : Dev nD) : sProp 𝕄 := iprop(awake a 0 c ∗ awake a 1 c ∗ awake a 2 c)
/-- over; -/
def dones (a : Fin 5) (c : Dev nD) : sProp 𝕄 := iprop(done a 0 c ∗ done a 1 c ∗ done a 2 c)
/-- its counters at zero. -/
def zeros (a : Fin 5) (c : Dev nD) : sProp 𝕄 :=
  iprop((semVal (sendCell a 0 c) 0 ∗ semVal (recvCell a 0 c) 0) ∗ (semVal (sendCell a 1 c) 0 ∗ semVal (recvCell a 1 c) 0)
    ∗ (semVal (sendCell a 2 c) 0 ∗ semVal (recvCell a 2 c) 0))

section
variable (G : Gath F) (κ : GSem nD τ sig → ℕ)
/-- A channel's cells opened, -/
theorem wakes_of (a : Fin 5) (c : Dev nD) : iprop(recs G κ ∗ sleeps a c ∗ zeros a c) ⊢ (|={Set.univ}=> wakes a c : sProp 𝕄) := by
  unfold sleeps zeros wakes awake
  iintro ⟨#Hr, ⟨A0, A1, A2⟩, ⟨⟨S0, R0⟩, ⟨S1, R1⟩, ⟨S2, R2⟩⟩⟩
  imod (wake G κ a 0 c) $$ [A0 S0 R0] with H0
  · isplitr; · iexact Hr
    isplitl [A0]; · iexact A0
    isplitl [S0] <;> iassumption
  imod (wake G κ a 1 c) $$ [A1 S1 R1] with H1
  · isplitr; · iexact Hr
    isplitl [A1]; · iexact A1
    isplitl [S1] <;> iassumption
  imod (wake G κ a 2 c) $$ [A2 S2 R2] with H2
  · isplitr; · iexact Hr
    isplitl [A2]; · iexact A2
    isplitl [S2] <;> iassumption
  imodintro
  isplitl [H0]; · iexact H0
  isplitl [H1] <;> iassumption
/-- and closed. -/
theorem zeros_of (a : Fin 5) (c : Dev nD) : iprop(recs G κ ∗ dones a c) ⊢ (|={Set.univ}=> zeros a c : sProp 𝕄) := by
  unfold dones zeros
  iintro ⟨#Hr, A0, A1, A2⟩
  imod (shut G κ a 0 c) $$ [A0] with H0
  · isplitr; · iexact Hr
    iexact A0
  imod (shut G κ a 1 c) $$ [A1] with H1
  · isplitr; · iexact Hr
    iexact A1
  imod (shut G κ a 2 c) $$ [A2] with H2
  · isplitr; · iexact Hr
    iexact A2
  imodintro
  isplitl [H0]; · iexact H0
  isplitl [H1] <;> iassumption
end

/-- What the first kernel needs of the launch; -/
def need0 (c : Dev nD) : sProp 𝕄 :=
  iprop((∃ κ, recs (gath m) κ) ∗ gate 0 c ∗ calls 0 c ∗ sleeps 0 c ∗ sleeps 1 c ∗ sleeps 2 c)
/-- the second; -/
def need1 (c : Dev nD) : sProp 𝕄 :=
  iprop((∃ κ, recs (gath m) κ) ∗ gate 1 c ∗ calls 1 c ∗ sleeps 3 c ∗ sleeps 4 c)
/-- the same with the kernel's own cells open. -/
def open0 (c : Dev nD) : sProp 𝕄 :=
  iprop((∃ κ, recs (gath m) κ) ∗ gate 0 c ∗ calls 0 c ∗ wakes 0 c ∗ wakes 1 c ∗ wakes 2 c)
def open1 (c : Dev nD) : sProp 𝕄 :=
  iprop((∃ κ, recs (gath m) κ) ∗ gate 1 c ∗ calls 1 c ∗ wakes 3 c ∗ wakes 4 c)

/-- The first kernel's own semaphores; -/
def osem0 (k : Fin 3 × Fin 3 × Fin 2) : SemLoc sig :=
  .dma ((![sendSem, recvSem] : Fin 2 → Fin 5 → Fin 3 → DmaSem sig) k.2.2 ((![0, 1, 2] : Fin 3 → Fin 5) k.1) k.2.1)
/-- the second's. -/
def osem1 (k : Fin 2 × Fin 3 × Fin 2) : SemLoc sig :=
  .dma ((![sendSem, recvSem] : Fin 2 → Fin 5 → Fin 3 → DmaSem sig) k.2.2 ((![3, 4] : Fin 2 → Fin 5) k.1) k.2.1)

theorem big3 {M : Type} [URA M] (Φ : Fin 3 → sProp M) : bigSep Finset.univ Φ = iprop(Φ 0 ∗ Φ 1 ∗ Φ 2) :=
  bigSep_univ_eq_bigSepL [(0 : Fin 3), 1, 2] (by decide) (by decide) Φ

theorem ownSems0_eq (c : Dev nD) : (Pipeline.ownSems0 osem0 c : sProp 𝕄) = iprop(zeros 0 c ∗ zeros 1 c ∗ zeros 2 c) := by
  unfold Pipeline.ownSems0
  rw [bigSep_univ_prod, big3]
  simp only [bigSep_univ_prod, big3, BI.bigSep_fin_two]
  rfl
theorem ownSems1_eq (c : Dev nD) : (Pipeline.ownSems0 osem1 c : sProp 𝕄) = iprop(zeros 3 c ∗ zeros 4 c) := by
  unfold Pipeline.ownSems0
  rw [bigSep_univ_prod, BI.bigSep_fin_two]
  simp only [bigSep_univ_prod, big3, BI.bigSep_fin_two]
  rfl

/-! ## The pipelines' data -/

/-- The first kernel's: its arguments staged, its results; the exchange before its one point, the counters back at zero after it. -/
def dat0 (c : Dev nD) : Dat τ (Elt F) Unit ℕ UU ℕ (cfgs 0) c where
  A w := V0 m c (Proc.devRef .tc (Pipeline.arrRef spec0 w))
  after := fun
    | 0 => fun _ => (X0 m c).x
    | 1 => fun _ => (X0 m c).wd
    | 2 => fun _ => (X0 m c).wk
    | 3 => fun _ => (X0 m c).wv
    | 4 => fun _ => (X0 m c).wkr
    | 5 => fun _ => (X0 m c).wq
    | 6 => fun _ => (X0 m c).wqr
    | 7 => fun _ => kOf (X0 m) c
    | 8 => fun _ => vOf (X0 m) c
    | 9 => fun _ => kr (X0 m c)
    | 10 => fun _ => qOf c (X0 m c)
    | 11 => fun _ => qrOf c (X0 m c)
    | ⟨_ + 12, h⟩ => absurd h (Nat.not_lt.2 (Nat.le_add_left _ _))
  Φ t := if t.val = 0 then iprop(Pipeline.scopedRest spec0 c ∗ (∃ r, prngReg c r) ∗ open0 m c)
    else iprop(Pipeline.scopedRest spec0 c ∗ (∃ r, prngReg c r) ∗ Pipeline.ownSems0 osem0 c ∗ semVal (barCell 0 c) 0)
  q _ := fullShare
  owed t := if t.val = 0 then owe (dues0 c) else owe (dues1 c)
/-- The second kernel's. -/
def dat1 (c : Dev nD) : Dat τ (Elt F) Unit ℕ UU ℕ (cfgs 1) c where
  A w := V1 m (outs m) c (Proc.devRef .tc (Pipeline.arrRef spec1 w))
  after := fun
    | 0 => fun _ => (X1 m c).q
    | 1 => fun _ => (X1 m c).qr
    | 2 => fun _ => (X1 m c).kr
    | 3 => fun _ => (X1 m c).k
    | 4 => fun _ => (X1 m c).v
    | 5 => fun _ => (X1 m c).wo
    | 6 => fun _ => yOf (X1 m) c
    | ⟨_ + 7, h⟩ => absurd h (Nat.not_lt.2 (Nat.le_add_left _ _))
  Φ t := if t.val = 0 then iprop(Pipeline.scopedRest spec1 c ∗ (∃ r, prngReg c r) ∗ open1 m c)
    else iprop(Pipeline.scopedRest spec1 c ∗ (∃ r, prngReg c r) ∗ Pipeline.ownSems0 osem1 c ∗ semVal (barCell 1 c) 0)
  q _ := fullShare
  owed t := if t.val = 0 then owe (dues1 c) else owe []

/-- Both. -/
def pdats : (p : Fin 2) → (c : Dev nD) → Dat τ (Elt F) Unit ℕ UU ℕ (cfgs p) c
  | 0 => dat0 m
  | 1 => dat1 m

/-! ## Whole windows -/

omit [FloatOps F] [Named F] in
/-- A window that is a whole array reads it as it is, -/
theorem read_whole_unit (b : Ref sig .tc) (off : Fin b.ty.shape.rank → ℕ) (ho : ∀ a, off a = 0)
    (inb : ∀ a, off a + b.ty.shape.size a ≤ b.ty.shape.size a) (f : b.ty.Contents (Elt F)) :
    ((Memref.whole b).slice (Rect.unit off b.ty.shape.size inb) fun _ => rfl).view.read (Elt F) f = f := by
  funext i
  exact read_in b off b.ty.shape.size inb f i i fun a => by rw [ho a, Nat.zero_add]
omit [FloatOps F] [Named F] in
/-- and is overwritten as a whole. -/
theorem write_whole_unit (b : Ref sig .tc) (off : Fin b.ty.shape.rank → ℕ) (ho : ∀ a, off a = 0)
    (inb : ∀ a, off a + b.ty.shape.size a ≤ b.ty.shape.size a) (f : b.ty.Contents (Elt F)) (w : b.ty.shape.Idx → Elt F b.ty.elt) :
    ((Memref.whole b).slice (Rect.unit off b.ty.shape.size inb) fun _ => rfl).view.write (Elt F) f w Finset.univ = w := by
  funext i
  exact write_in b off b.ty.shape.size inb f w i i fun a => by rw [ho a, Nat.zero_add]

omit [FloatOps F] [Named F] in
/-- A staging buffer found at known contents; -/
theorem stage_in {D : Type} (b : Ref sig .tc) (c : Dev nD) (B : D → b.ty.Contents (Elt F)) (X : b.ty.Contents (Elt F)) (h : ∀ d, B d = X) :
    iprop(∃ d, owns (c : Thread nD τ) (Memref.whole b) fullShare (B d)) ⊢ ((c : Thread nD τ).loc b ↦{fullShare} X : sProp 𝕄) := by
  iintro ⟨%d, H⟩
  rw [h d]
  iapply (Entails.of_eq (owns_whole (c : Thread nD τ) b fullShare X)) $$ H
omit [FloatOps F] [Named F] in
/-- at any; -/
theorem stage_any {D : Type} (b : Ref sig .tc) (c : Dev nD) (B : D → b.ty.Contents (Elt F)) :
    iprop(∃ d, owns (c : Thread nD τ) (Memref.whole b) fullShare (B d)) ⊢ (iprop(∃ f, (c : Thread nD τ).loc b ↦{fullShare} f) : sProp 𝕄) := by
  iintro ⟨%d, H⟩
  iexists (B d)
  iapply (Entails.of_eq (owns_whole (c : Thread nD τ) b fullShare (B d))) $$ H
omit [FloatOps F] [Named F] in
/-- left at known ones. -/
theorem stage_out (b : Ref sig .tc) (c : Dev nD) (X : b.ty.Contents (Elt F)) :
    ((c : Thread nD τ).loc b ↦{fullShare} X : sProp 𝕄) ⊢ owns (c : Thread nD τ) (Memref.whole b) fullShare X :=
  Entails.of_eq (owns_whole (c : Thread nD τ) b fullShare X).symm

theorem owes_in {cfg : Pipeline.Cfg sig Λ₀} {c : Dev nD} (dat : Dat τ (Elt F) Unit ℕ UU ℕ cfg c) (t : Fin (cfg.N + 1))
    (l : List (GSem nD τ sig × ℕ)) (h : dat.owed t = owe l) (hr : dat.recorded t = Set.univ) : (ow c l : sProp 𝕄) ⊢ dat.owesAt () t := by
  unfold Dat.owesAt Pipeline.owesWithin Dat.bound ow
  rw [h, hr]
  iintro ⟨%W, HO⟩
  iexists W
  isplitr
  · ipureintro; exact fun _ _ => Or.inl trivial
  iexact HO
theorem owes_out {cfg : Pipeline.Cfg sig Λ₀} {c : Dev nD} (dat : Dat τ (Elt F) Unit ℕ UU ℕ cfg c) (t : Fin (cfg.N + 1))
    (l : List (GSem nD τ sig × ℕ)) (h : dat.owed t = owe l) : dat.owesAt () t ⊢ (ow c l : sProp 𝕄) := by
  unfold Dat.owesAt Pipeline.owesWithin ow
  rw [h]
  iintro ⟨%W, -, HO⟩
  iexists W
  iexact HO

end Cert.Proof

end
-- ==== Proof.Bodies.lean ====
/- The two kernels' bodies as their pipelines call them. -/
module

public import proofs.«01_k».proof.Proof.Setup

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ UU ℕ

variable (m : (l : Loc nD τ sig) → Buf (Elt F) l)

/-! ## The bodies -/

theorem before_in0 (c : Dev nD) (t : Fin cfg0.N) (w : Fin 12) (hf : (cfg0.win w).fetch t = true) (d) :
    (dat0 m c).before w t d = (dat0 m c).fetched w t d := by
  unfold Dat.before
  exact if_pos hf
theorem before_in1 (c : Dev nD) (t : Fin cfg1.N) (w : Fin 7) (hf : (cfg1.win w).fetch t = true) (d) :
    (dat1 m c).before w t d = (dat1 m c).fetched w t d := by
  unfold Dat.before
  exact if_pos hf

theorem emb0_0 (i : main_arg0.ty.shape.Idx) : ((cfg0.win 0).blk t0_0).view.emb i = i :=
  funext fun a => Fin.ext ((ValueKit.view_emb_slice_whole_unit_val main_arg0 (fun a => 0 * main_arg0.ty.shape.size a) main_arg0.ty.shape.size
    (fun a => by rw [Nat.zero_mul, Nat.zero_add]) i a).trans (by rw [Nat.zero_mul, Nat.zero_add]))
theorem emb0_1 (i : main_arg1.ty.shape.Idx) : ((cfg0.win 1).blk t0_0).view.emb i = i :=
  funext fun a => Fin.ext ((ValueKit.view_emb_slice_whole_unit_val main_arg1 (fun a => 0 * main_arg1.ty.shape.size a) main_arg1.ty.shape.size
    (fun a => by rw [Nat.zero_mul, Nat.zero_add]) i a).trans (by rw [Nat.zero_mul, Nat.zero_add]))
theorem emb0_2 (i : main_arg2.ty.shape.Idx) : ((cfg0.win 2).blk t0_0).view.emb i = i :=
  funext fun a => Fin.ext ((ValueKit.view_emb_slice_whole_unit_val main_arg2 (fun a => 0 * main_arg2.ty.shape.size a) main_arg2.ty.shape.size
    (fun a => by rw [Nat.zero_mul, Nat.zero_add]) i a).trans (by rw [Nat.zero_mul, Nat.zero_add]))
theorem emb0_3 (i : main_arg3.ty.shape.Idx) : ((cfg0.win 3).blk t0_0).view.emb i = i :=
  funext fun a => Fin.ext ((ValueKit.view_emb_slice_whole_unit_val main_arg3 (fun a => 0 * main_arg3.ty.shape.size a) main_arg3.ty.shape.size
    (fun a => by rw [Nat.zero_mul, Nat.zero_add]) i a).trans (by rw [Nat.zero_mul, Nat.zero_add]))
theorem emb0_4 (i : main_arg6.ty.shape.Idx) : ((cfg0.win 4).blk t0_0).view.emb i = i :=
  funext fun a => Fin.ext ((ValueKit.view_emb_slice_whole_unit_val main_arg6 (fun a => 0 * main_arg6.ty.shape.size a) main_arg6.ty.shape.size
    (fun a => by rw [Nat.zero_mul, Nat.zero_add]) i a).trans (by rw [Nat.zero_mul, Nat.zero_add]))
theorem emb0_5 (i : main_arg4.ty.shape.Idx) : ((cfg0.win 5).blk t0_0).view.emb i = i :=
  funext fun a => Fin.ext ((ValueKit.view_emb_slice_whole_unit_val main_arg4 (fun a => 0 * main_arg4.ty.shape.size a) main_arg4.ty.shape.size
    (fun a => by rw [Nat.zero_mul, Nat.zero_add]) i a).trans (by rw [Nat.zero_mul, Nat.zero_add]))
theorem emb0_6 (i : main_arg5.ty.shape.Idx) : ((cfg0.win 6).blk t0_0).view.emb i = i :=
  funext fun a => Fin.ext ((ValueKit.view_emb_slice_whole_unit_val main_arg5 (fun a => 0 * main_arg5.ty.shape.size a) main_arg5.ty.shape.size
    (fun a => by rw [Nat.zero_mul, Nat.zero_add]) i a).trans (by rw [Nat.zero_mul, Nat.zero_add]))
theorem emb0_7 (i : main_v1_0.ty.shape.Idx) : ((cfg0.win 7).blk t0_0).view.emb i = i :=
  funext fun a => Fin.ext ((ValueKit.view_emb_slice_whole_unit_val main_v1_0 (fun a => 0 * main_v1_0.ty.shape.size a) main_v1_0.ty.shape.size
    (fun a => by rw [Nat.zero_mul, Nat.zero_add]) i a).trans (by rw [Nat.zero_mul, Nat.zero_add]))
theorem emb0_8 (i : main_v1_1.ty.shape.Idx) : ((cfg0.win 8).blk t0_0).view.emb i = i :=
  funext fun a => Fin.ext ((ValueKit.view_emb_slice_whole_unit_val main_v1_1 (fun a => 0 * main_v1_1.ty.shape.size a) main_v1_1.ty.shape.size
    (fun a => by rw [Nat.zero_mul, Nat.zero_add]) i a).trans (by rw [Nat.zero_mul, Nat.zero_add]))
theorem emb0_9 (i : main_v1_2.ty.shape.Idx) : ((cfg0.win 9).blk t0_0).view.emb i = i :=
  funext fun a => Fin.ext ((ValueKit.view_emb_slice_whole_unit_val main_v1_2 (fun a => 0 * main_v1_2.ty.shape.size a) main_v1_2.ty.shape.size
    (fun a => by rw [Nat.zero_mul, Nat.zero_add]) i a).trans (by rw [Nat.zero_mul, Nat.zero_add]))
theorem emb0_10 (i : main_v1_3.ty.shape.Idx) : ((cfg0.win 10).blk t0_0).view.emb i = i :=
  funext fun a => Fin.ext ((ValueKit.view_emb_slice_whole_unit_val main_v1_3 (fun a => 0 * main_v1_3.ty.shape.size a) main_v1_3.ty.shape.size
    (fun a => by rw [Nat.zero_mul, Nat.zero_add]) i a).trans (by rw [Nat.zero_mul, Nat.zero_add]))
theorem emb0_11 (i : main_v1_4.ty.shape.Idx) : ((cfg0.win 11).blk t0_0).view.emb i = i :=
  funext fun a => Fin.ext ((ValueKit.view_emb_slice_whole_unit_val main_v1_4 (fun a => 0 * main_v1_4.ty.shape.size a) main_v1_4.ty.shape.size
    (fun a => by rw [Nat.zero_mul, Nat.zero_add]) i a).trans (by rw [Nat.zero_mul, Nat.zero_add]))
theorem emb1_0 (i : main_v1_3.ty.shape.Idx) : ((cfg1.win 0).blk t1_0).view.emb i = i :=
  funext fun a => Fin.ext ((ValueKit.view_emb_slice_whole_unit_val main_v1_3 (fun a => 0 * main_v1_3.ty.shape.size a) main_v1_3.ty.shape.size
    (fun a => by rw [Nat.zero_mul, Nat.zero_add]) i a).trans (by rw [Nat.zero_mul, Nat.zero_add]))
theorem emb1_1 (i : main_v1_4.ty.shape.Idx) : ((cfg1.win 1).blk t1_0).view.emb i = i :=
  funext fun a => Fin.ext ((ValueKit.view_emb_slice_whole_unit_val main_v1_4 (fun a => 0 * main_v1_4.ty.shape.size a) main_v1_4.ty.shape.size
    (fun a => by rw [Nat.zero_mul, Nat.zero_add]) i a).trans (by rw [Nat.zero_mul, Nat.zero_add]))
theorem emb1_2 (i : main_v1_2.ty.shape.Idx) : ((cfg1.win 2).blk t1_0).view.emb i = i :=
  funext fun a => Fin.ext ((ValueKit.view_emb_slice_whole_unit_val main_v1_2 (fun a => 0 * main_v1_2.ty.shape.size a) main_v1_2.ty.shape.size
    (fun a => by rw [Nat.zero_mul, Nat.zero_add]) i a).trans (by rw [Nat.zero_mul, Nat.zero_add]))
theorem emb1_3 (i : main_v1_0.ty.shape.Idx) : ((cfg1.win 3).blk t1_0).view.emb i = i :=
  funext fun a => Fin.ext ((ValueKit.view_emb_slice_whole_unit_val main_v1_0 (fun a => 0 * main_v1_0.ty.shape.size a) main_v1_0.ty.shape.size
    (fun a => by rw [Nat.zero_mul, Nat.zero_add]) i a).trans (by rw [Nat.zero_mul, Nat.zero_add]))
theorem emb1_4 (i : main_v1_1.ty.shape.Idx) : ((cfg1.win 4).blk t1_0).view.emb i = i :=
  funext fun a => Fin.ext ((ValueKit.view_emb_slice_whole_unit_val main_v1_1 (fun a => 0 * main_v1_1.ty.shape.size a) main_v1_1.ty.shape.size
    (fun a => by rw [Nat.zero_mul, Nat.zero_add]) i a).trans (by rw [Nat.zero_mul, Nat.zero_add]))
theorem emb1_5 (i : main_arg7.ty.shape.Idx) : ((cfg1.win 5).blk t1_0).view.emb i = i :=
  funext fun a => Fin.ext ((ValueKit.view_emb_slice_whole_unit_val main_arg7 (fun a => 0 * main_arg7.ty.shape.size a) main_arg7.ty.shape.size
    (fun a => by rw [Nat.zero_mul, Nat.zero_add]) i a).trans (by rw [Nat.zero_mul, Nat.zero_add]))
theorem emb1_6 (i : main_v2.ty.shape.Idx) : ((cfg1.win 6).blk t1_0).view.emb i = i :=
  funext fun a => Fin.ext ((ValueKit.view_emb_slice_whole_unit_val main_v2 (fun a => 0 * main_v2.ty.shape.size a) main_v2.ty.shape.size
    (fun a => by rw [Nat.zero_mul, Nat.zero_add]) i a).trans (by rw [Nat.zero_mul, Nat.zero_add]))
theorem inp0_0 (c : Dev nD) (d) : (dat0 m c).fetched 0 t0_0 d = (X0 m c).x :=
  funext fun i => congrArg (m ((c : Thread nD τ).loc main_arg0)) (emb0_0 i)
theorem inp0_1 (c : Dev nD) (d) : (dat0 m c).fetched 1 t0_0 d = (X0 m c).wd :=
  funext fun i => congrArg (m ((c : Thread nD τ).loc main_arg1)) (emb0_1 i)
theorem inp0_2 (c : Dev nD) (d) : (dat0 m c).fetched 2 t0_0 d = (X0 m c).wk :=
  funext fun i => congrArg (m ((c : Thread nD τ).loc main_arg2)) (emb0_2 i)
theorem inp0_3 (c : Dev nD) (d) : (dat0 m c).fetched 3 t0_0 d = (X0 m c).wv :=
  funext fun i => congrArg (m ((c : Thread nD τ).loc main_arg3)) (emb0_3 i)
theorem inp0_4 (c : Dev nD) (d) : (dat0 m c).fetched 4 t0_0 d = (X0 m c).wkr :=
  funext fun i => congrArg (m ((c : Thread nD τ).loc main_arg6)) (emb0_4 i)
theorem inp0_5 (c : Dev nD) (d) : (dat0 m c).fetched 5 t0_0 d = (X0 m c).wq :=
  funext fun i => congrArg (m ((c : Thread nD τ).loc main_arg4)) (emb0_5 i)
theorem inp0_6 (c : Dev nD) (d) : (dat0 m c).fetched 6 t0_0 d = (X0 m c).wqr :=
  funext fun i => congrArg (m ((c : Thread nD τ).loc main_arg5)) (emb0_6 i)
theorem inp1_0 (c : Dev nD) (d) : (dat1 m c).fetched 0 t1_0 d = (X1 m c).q :=
  funext fun i => (congrArg (V1 m (outs m) c (Proc.devRef .tc main_v1_3)) (emb1_0 i)).trans (congrFun (V1_v1_3 m c) i)
theorem inp1_1 (c : Dev nD) (d) : (dat1 m c).fetched 1 t1_0 d = (X1 m c).qr :=
  funext fun i => (congrArg (V1 m (outs m) c (Proc.devRef .tc main_v1_4)) (emb1_1 i)).trans (congrFun (V1_v1_4 m c) i)
theorem inp1_2 (c : Dev nD) (d) : (dat1 m c).fetched 2 t1_0 d = (X1 m c).kr :=
  funext fun i => (congrArg (V1 m (outs m) c (Proc.devRef .tc main_v1_2)) (emb1_2 i)).trans (congrFun (V1_v1_2 m c) i)
theorem inp1_3 (c : Dev nD) (d) : (dat1 m c).fetched 3 t1_0 d = (X1 m c).k :=
  funext fun i => (congrArg (V1 m (outs m) c (Proc.devRef .tc main_v1_0)) (emb1_3 i)).trans (congrFun (V1_v1_0 m c) i)
theorem inp1_4 (c : Dev nD) (d) : (dat1 m c).fetched 4 t1_0 d = (X1 m c).v :=
  funext fun i => (congrArg (V1 m (outs m) c (Proc.devRef .tc main_v1_1)) (emb1_4 i)).trans (congrFun (V1_v1_1 m c) i)
theorem inp1_5 (c : Dev nD) (d) : (dat1 m c).fetched 5 t1_0 d = (X1 m c).wo :=
  funext fun i => (congrArg (V1 m (outs m) c (Proc.devRef .tc main_arg7)) (emb1_5 i)).trans (congrFun (V1_of m (outs m) c main_arg7 (by decide)) i)

/-- What the first body leaves in the staging buffers. -/
def left0 (c : Dev nD) : sProp 𝕄 :=
  iprop(owns (c : Thread nD τ) (Memref.whole cc0_stg0_0) fullShare ((X0 m c).x) ∗ owns (c : Thread nD τ) (Memref.whole cc0_stg1_0) fullShare ((X0 m c).wd) ∗ owns (c : Thread nD τ) (Memref.whole cc0_stg2_0) fullShare ((X0 m c).wk) ∗ owns (c : Thread nD τ) (Memref.whole cc0_stg3_0) fullShare ((X0 m c).wv) ∗ owns (c : Thread nD τ) (Memref.whole cc0_stg4_0) fullShare ((X0 m c).wkr) ∗ owns (c : Thread nD τ) (Memref.whole cc0_stg5_0) fullShare ((X0 m c).wq) ∗ owns (c : Thread nD τ) (Memref.whole cc0_stg6_0) fullShare ((X0 m c).wqr) ∗ owns (c : Thread nD τ) (Memref.whole cc0_stg7_0) fullShare ((kOf (X0 m) c)) ∗ owns (c : Thread nD τ) (Memref.whole cc0_stg8_0) fullShare ((vOf (X0 m) c)) ∗ owns (c : Thread nD τ) (Memref.whole cc0_stg9_0) fullShare ((kr (X0 m c))) ∗ owns (c : Thread nD τ) (Memref.whole cc0_stg10_0) fullShare ((qOf c (X0 m c))) ∗ owns (c : Thread nD τ) (Memref.whole cc0_stg11_0) fullShare ((qrOf c (X0 m c))))
/-- The first kernel's body runs on what its pipeline hands it. -/
theorem body0 (c : Dev nD) : BodyObligation (dat0 m c) defs₀ 𝒱₀ () Set.univ := fun t => by
  obtain rfl := fin_N0 t
  rw [bigSep_W0, bigSep_W0]
  show _ ⊢ wp frame (wpE (defs₀ (F := F)) 𝒱₀ (c : Thread nD τ) none) Set.univ _ (fun _ => iprop((dat0 m c).Φ t0_0.succ ∗ (dat0 m c).owesAt () t0_0.succ ∗ left0 m c))
  rw [show (dat0 m c).Φ t0_0.castSucc = iprop(Pipeline.scopedRest spec0 c ∗ (∃ r, prngReg c r) ∗ open0 m c) from rfl,
    show (dat0 m c).Φ t0_0.succ = iprop(Pipeline.scopedRest spec0 c ∗ (∃ r, prngReg c r) ∗ Pipeline.ownSems0 osem0 c ∗ semVal (barCell 0 c) 0) from rfl,
    scopedRest0_eq, ownSems0_eq]
  unfold open0 gate calls wakes
  iintro ⟨⟨⟨S0, S1, S2, Hsc⟩, Hp, ⟨%κ, #Hr⟩, ⟨HcB, HaB⟩, ⟨C0, C1, C2⟩, ⟨P00, P01, P02⟩, ⟨P10, P11, P12⟩, ⟨P20, P21, P22⟩⟩, HO, W0, W1, W2, W3, W4, W5, W6, W7, W8, W9, W10, W11⟩
  ihave HO := (owes_out (dat0 m c) t0_0.castSucc (dues0 c) rfl) $$ HO
  ihave W0 := (stage_in cc0_stg0_0 c (fun d => (dat0 m c).before 0 t0_0 d) (X0 m c).x fun d => (before_in0 m c t0_0 0 (fetch0_0 t0_0) d).trans (inp0_0 m c d)) $$ W0
  ihave W1 := (stage_in cc0_stg1_0 c (fun d => (dat0 m c).before 1 t0_0 d) (X0 m c).wd fun d => (before_in0 m c t0_0 1 (fetch0_1 t0_0) d).trans (inp0_1 m c d)) $$ W1
  ihave W2 := (stage_in cc0_stg2_0 c (fun d => (dat0 m c).before 2 t0_0 d) (X0 m c).wk fun d => (before_in0 m c t0_0 2 (fetch0_2 t0_0) d).trans (inp0_2 m c d)) $$ W2
  ihave W3 := (stage_in cc0_stg3_0 c (fun d => (dat0 m c).before 3 t0_0 d) (X0 m c).wv fun d => (before_in0 m c t0_0 3 (fetch0_3 t0_0) d).trans (inp0_3 m c d)) $$ W3
  ihave W4 := (stage_in cc0_stg4_0 c (fun d => (dat0 m c).before 4 t0_0 d) (X0 m c).wkr fun d => (before_in0 m c t0_0 4 (fetch0_4 t0_0) d).trans (inp0_4 m c d)) $$ W4
  ihave W5 := (stage_in cc0_stg5_0 c (fun d => (dat0 m c).before 5 t0_0 d) (X0 m c).wq fun d => (before_in0 m c t0_0 5 (fetch0_5 t0_0) d).trans (inp0_5 m c d)) $$ W5
  ihave W6 := (stage_in cc0_stg6_0 c (fun d => (dat0 m c).before 6 t0_0 d) (X0 m c).wqr fun d => (before_in0 m c t0_0 6 (fetch0_6 t0_0) d).trans (inp0_6 m c d)) $$ W6
  ihave W7 := (stage_any cc0_stg7_0 c (fun d => (dat0 m c).before 7 t0_0 d)) $$ W7
  ihave W8 := (stage_any cc0_stg8_0 c (fun d => (dat0 m c).before 8 t0_0 d)) $$ W8
  ihave W9 := (stage_any cc0_stg9_0 c (fun d => (dat0 m c).before 9 t0_0 d)) $$ W9
  ihave W10 := (stage_any cc0_stg10_0 c (fun d => (dat0 m c).before 10 t0_0 d)) $$ W10
  ihave W11 := (stage_any cc0_stg11_0 c (fun d => (dat0 m c).before 11 t0_0 d)) $$ W11
  iapply (wp_fupd (Fr := frame) (wpE := wpE (defs₀ (F := F)) 𝒱₀ (c : Thread nD τ) none) (E := Set.univ))
  iapply (run0 (gath m) κ (X0 m) rfl rfl rfl c _)
  isplitr; · iexact Hr
  isplitl [HO HcB HaB C0 C1 C2 P00 P01 P02 P10 P11 P12 P20 P21 P22 W0 W1 W2 W3 W4 W5 W6 W7 W8 W9 W10 W11 S0 S1 S2]
  · isplitl [HO HcB HaB C0 C1 C2 P00 P01 P02 P10 P11 P12 P20 P21 P22]
    · unfold start0
      isplitl [HO]; · iexact HO
      isplitl [HcB HaB]
      · isplitl [HcB] <;> iassumption
      isplitl [C0 C1 C2]
      · isplitl [C0]; · iexact C0
        isplitl [C1] <;> iassumption
      isplitl [P00]; · iexact P00
      isplitl [P01]; · iexact P01
      isplitl [P02]; · iexact P02
      isplitl [P10]; · iexact P10
      isplitl [P11]; · iexact P11
      isplitl [P12]; · iexact P12
      isplitl [P20]; · iexact P20
      isplitl [P21]; · iexact P21
      iexact P22
    isplitl [W0 W1 W2 W3 W4 W5 W6]
    · unfold ins0
      isplitl [W0]; · iexact W0
      isplitl [W1]; · iexact W1
      isplitl [W2]; · iexact W2
      isplitl [W3]; · iexact W3
      isplitl [W4]; · iexact W4
      isplitl [W5]; · iexact W5
      iexact W6
    isplitl [W7 W8 W9 W10 W11]
    · unfold outs0
      isplitl [W7]; · iexact W7
      isplitl [W8]; · iexact W8
      isplitl [W9]; · iexact W9
      isplitl [W10]; · iexact W10
      iexact W11
    unfold scr0
    isplitl [S0]; · iexact S0
    isplitl [S1]; · iexact S1
    iexact S2
  unfold end0 ins0 res0 scr0
  iintro ⟨⟨HO, HaB, D00, D01, D02, D10, D11, D12, D20, D21, D22⟩, ⟨W0, W1, W2, W3, W4, W5, W6⟩, ⟨W7, W8, W9, W10, W11⟩, ⟨S0, S1, S2⟩⟩
  imod (zeros_of (gath m) κ 0 c) $$ [D00 D01 D02] with Q0
  · isplitr; · iexact Hr
    unfold dones
    isplitl [D00]; · iexact D00
    isplitl [D01] <;> iassumption
  imod (zeros_of (gath m) κ 1 c) $$ [D10 D11 D12] with Q1
  · isplitr; · iexact Hr
    unfold dones
    isplitl [D10]; · iexact D10
    isplitl [D11] <;> iassumption
  imod (zeros_of (gath m) κ 2 c) $$ [D20 D21 D22] with Q2
  · isplitr; · iexact Hr
    unfold dones
    isplitl [D20]; · iexact D20
    isplitl [D21] <;> iassumption
  imod (shutBar (gath m) κ 0 c) $$ [HaB] with HvB
  · isplitr; · iexact Hr
    iexact HaB
  imodintro
  isplitl [S0 S1 S2 Hsc Hp Q0 Q1 Q2 HvB]
  · isplitl [S0 S1 S2 Hsc]
    · isplitl [S0]; · iexact S0
      isplitl [S1]; · iexact S1
      isplitl [S2]; · iexact S2
      iexact Hsc
    isplitl [Hp]; · iexact Hp
    isplitl [Q0 Q1 Q2]
    · isplitl [Q0]; · iexact Q0
      isplitl [Q1]; · iexact Q1
      iexact Q2
    iexact HvB
  isplitl [HO]; · iapply (owes_in (dat0 m c) t0_0.succ (dues1 c) rfl rfl) $$ HO
  unfold left0
  isplitl [W0]; · iapply (stage_out cc0_stg0_0 c (X0 m c).x) $$ W0
  isplitl [W1]; · iapply (stage_out cc0_stg1_0 c (X0 m c).wd) $$ W1
  isplitl [W2]; · iapply (stage_out cc0_stg2_0 c (X0 m c).wk) $$ W2
  isplitl [W3]; · iapply (stage_out cc0_stg3_0 c (X0 m c).wv) $$ W3
  isplitl [W4]; · iapply (stage_out cc0_stg4_0 c (X0 m c).wkr) $$ W4
  isplitl [W5]; · iapply (stage_out cc0_stg5_0 c (X0 m c).wq) $$ W5
  isplitl [W6]; · iapply (stage_out cc0_stg6_0 c (X0 m c).wqr) $$ W6
  isplitl [W7]; · iapply (stage_out cc0_stg7_0 c (kOf (X0 m) c)) $$ W7
  isplitl [W8]; · iapply (stage_out cc0_stg8_0 c (vOf (X0 m) c)) $$ W8
  isplitl [W9]; · iapply (stage_out cc0_stg9_0 c (kr (X0 m c))) $$ W9
  isplitl [W10]; · iapply (stage_out cc0_stg10_0 c (qOf c (X0 m c))) $$ W10
  iapply (stage_out cc0_stg11_0 c (qrOf c (X0 m c))) $$ W11

/-- What the second body leaves in the staging buffers. -/
def left1 (c : Dev nD) : sProp 𝕄 :=
  iprop(owns (c : Thread nD τ) (Memref.whole cc1_stg0_0) fullShare ((X1 m c).q) ∗ owns (c : Thread nD τ) (Memref.whole cc1_stg1_0) fullShare ((X1 m c).qr) ∗ owns (c : Thread nD τ) (Memref.whole cc1_stg2_0) fullShare ((X1 m c).kr) ∗ owns (c : Thread nD τ) (Memref.whole cc1_stg3_0) fullShare ((X1 m c).k) ∗ owns (c : Thread nD τ) (Memref.whole cc1_stg4_0) fullShare ((X1 m c).v) ∗ owns (c : Thread nD τ) (Memref.whole cc1_stg5_0) fullShare ((X1 m c).wo) ∗ owns (c : Thread nD τ) (Memref.whole cc1_stg6_0) fullShare ((yOf (X1 m) c)))
/-- The second kernel's body runs on what its pipeline hands it. -/
theorem body1 (c : Dev nD) : BodyObligation (dat1 m c) defs₀ 𝒱₀ () Set.univ := fun t => by
  obtain rfl := fin_N1 t
  rw [bigSep_W1, bigSep_W1]
  show _ ⊢ wp frame (wpE (defs₀ (F := F)) 𝒱₀ (c : Thread nD τ) none) Set.univ _ (fun _ => iprop((dat1 m c).Φ t1_0.succ ∗ (dat1 m c).owesAt () t1_0.succ ∗ left1 m c))
  rw [show (dat1 m c).Φ t1_0.castSucc = iprop(Pipeline.scopedRest spec1 c ∗ (∃ r, prngReg c r) ∗ open1 m c) from rfl,
    show (dat1 m c).Φ t1_0.succ = iprop(Pipeline.scopedRest spec1 c ∗ (∃ r, prngReg c r) ∗ Pipeline.ownSems0 osem1 c ∗ semVal (barCell 1 c) 0) from rfl,
    scopedRest1_eq, ownSems1_eq]
  unfold open1 gate calls wakes
  iintro ⟨⟨⟨Z0, Z1, Z2, Z3, Z4, Z5, Z6, Z7, Z8, Z9, Z10, Z11, Z12, Z13, Z14, S0⟩, Hp, ⟨%κ, #Hr⟩, ⟨HcB, HaB⟩, ⟨C0, C1, C2⟩, ⟨P30, P31, P32⟩, ⟨P40, P41, P42⟩⟩, HO, W0, W1, W2, W3, W4, W5, W6⟩
  ihave HO := (owes_out (dat1 m c) t1_0.castSucc (dues1 c) rfl) $$ HO
  ihave W0 := (stage_in cc1_stg0_0 c (fun d => (dat1 m c).before 0 t1_0 d) (X1 m c).q fun d => (before_in1 m c t1_0 0 (fetch1_0 t1_0) d).trans (inp1_0 m c d)) $$ W0
  ihave W1 := (stage_in cc1_stg1_0 c (fun d => (dat1 m c).before 1 t1_0 d) (X1 m c).qr fun d => (before_in1 m c t1_0 1 (fetch1_1 t1_0) d).trans (inp1_1 m c d)) $$ W1
  ihave W2 := (stage_in cc1_stg2_0 c (fun d => (dat1 m c).before 2 t1_0 d) (X1 m c).kr fun d => (before_in1 m c t1_0 2 (fetch1_2 t1_0) d).trans (inp1_2 m c d)) $$ W2
  ihave W3 := (stage_in cc1_stg3_0 c (fun d => (dat1 m c).before 3 t1_0 d) (X1 m c).k fun d => (before_in1 m c t1_0 3 (fetch1_3 t1_0) d).trans (inp1_3 m c d)) $$ W3
  ihave W4 := (stage_in cc1_stg4_0 c (fun d => (dat1 m c).before 4 t1_0 d) (X1 m c).v fun d => (before_in1 m c t1_0 4 (fetch1_4 t1_0) d).trans (inp1_4 m c d)) $$ W4
  ihave W5 := (stage_in cc1_stg5_0 c (fun d => (dat1 m c).before 5 t1_0 d) (X1 m c).wo fun d => (before_in1 m c t1_0 5 (fetch1_5 t1_0) d).trans (inp1_5 m c d)) $$ W5
  ihave W6 := (stage_any cc1_stg6_0 c (fun d => (dat1 m c).before 6 t1_0 d)) $$ W6
  iapply (wp_fupd (Fr := frame) (wpE := wpE (defs₀ (F := F)) 𝒱₀ (c : Thread nD τ) none) (E := Set.univ))
  iapply (run1 (gath m) κ (X1 m) rfl rfl c _)
  isplitr; · iexact Hr
  isplitl [HO HcB HaB C0 C1 C2 P30 P31 P32 P40 P41 P42 W0 W1 W2 W3 W4 W5 W6 S0]
  · isplitl [HO HcB HaB C0 C1 C2 P30 P31 P32 P40 P41 P42]
    · unfold start1
      isplitl [HO]; · iexact HO
      isplitl [HcB HaB]
      · isplitl [HcB] <;> iassumption
      isplitl [C0 C1 C2]
      · isplitl [C0]; · iexact C0
        isplitl [C1] <;> iassumption
      isplitl [P30]; · iexact P30
      isplitl [P31]; · iexact P31
      isplitl [P32]; · iexact P32
      isplitl [P40]; · iexact P40
      isplitl [P41]; · iexact P41
      iexact P42
    isplitl [W0 W1 W2 W3 W4 W5]
    · unfold ins1
      isplitl [W0]; · iexact W0
      isplitl [W1]; · iexact W1
      isplitl [W2]; · iexact W2
      isplitl [W3]; · iexact W3
      isplitl [W4]; · iexact W4
      iexact W5
    isplitl [W6]
    · unfold outs1
      iexact W6
    unfold scr1
    iexact S0
  unfold end1 ins1 res1 scr1
  iintro ⟨⟨HO, HaB, D30, D31, D32, D40, D41, D42⟩, ⟨W0, W1, W2, W3, W4, W5⟩, W6, S0⟩
  imod (zeros_of (gath m) κ 3 c) $$ [D30 D31 D32] with Q3
  · isplitr; · iexact Hr
    unfold dones
    isplitl [D30]; · iexact D30
    isplitl [D31] <;> iassumption
  imod (zeros_of (gath m) κ 4 c) $$ [D40 D41 D42] with Q4
  · isplitr; · iexact Hr
    unfold dones
    isplitl [D40]; · iexact D40
    isplitl [D41] <;> iassumption
  imod (shutBar (gath m) κ 1 c) $$ [HaB] with HvB
  · isplitr; · iexact Hr
    iexact HaB
  imodintro
  isplitl [Z0 Z1 Z2 Z3 Z4 Z5 Z6 Z7 Z8 Z9 Z10 Z11 Z12 Z13 Z14 S0 Hp Q3 Q4 HvB]
  · isplitl [Z0 Z1 Z2 Z3 Z4 Z5 Z6 Z7 Z8 Z9 Z10 Z11 Z12 Z13 Z14 S0]
    · isplitl [Z0]; · iexact Z0
      isplitl [Z1]; · iexact Z1
      isplitl [Z2]; · iexact Z2
      isplitl [Z3]; · iexact Z3
      isplitl [Z4]; · iexact Z4
      isplitl [Z5]; · iexact Z5
      isplitl [Z6]; · iexact Z6
      isplitl [Z7]; · iexact Z7
      isplitl [Z8]; · iexact Z8
      isplitl [Z9]; · iexact Z9
      isplitl [Z10]; · iexact Z10
      isplitl [Z11]; · iexact Z11
      isplitl [Z12]; · iexact Z12
      isplitl [Z13]; · iexact Z13
      isplitl [Z14]; · iexact Z14
      iexact S0
    isplitl [Hp]; · iexact Hp
    isplitl [Q3 Q4]
    · isplitl [Q3]; · iexact Q3
      iexact Q4
    iexact HvB
  isplitl [HO]; · iapply (owes_in (dat1 m c) t1_0.succ [] rfl rfl) $$ HO
  unfold left1
  isplitl [W0]; · iapply (stage_out cc1_stg0_0 c (X1 m c).q) $$ W0
  isplitl [W1]; · iapply (stage_out cc1_stg1_0 c (X1 m c).qr) $$ W1
  isplitl [W2]; · iapply (stage_out cc1_stg2_0 c (X1 m c).kr) $$ W2
  isplitl [W3]; · iapply (stage_out cc1_stg3_0 c (X1 m c).k) $$ W3
  isplitl [W4]; · iapply (stage_out cc1_stg4_0 c (X1 m c).v) $$ W4
  isplitl [W5]; · iapply (stage_out cc1_stg5_0 c (X1 m c).wo) $$ W5
  iapply (stage_out cc1_stg6_0 c (yOf (X1 m) c)) $$ W6

end Cert.Proof

end
-- ==== Proof.Regs.lean ====
/- The two kernels as regions of the program: what each is entered with and what it leaves. -/
module

public import proofs.«01_k».proof.Proof.Bodies

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ UU ℕ

variable (m : (l : Loc nD τ sig) → Buf (Elt F) l)

/-! ## Arrays before and after -/

theorem end0_7 (c : Dev nD) : (dat0 m c).arrAt 7 cfg0.N = kOf (X0 m) c := by
  refine (congrArg ((dat0 m c).arrAt 7) N_0).trans (((dat0 m c).arrAt_succ 7 t0_0).trans ((if_pos (flush0_7 t0_0)).trans (funext fun i => ?_)))
  exact (congrArg _ (emb0_7 i).symm).trans
    (View.write_emb_of_mem (v := ((cfg0.win 7).blk t0_0).view) ((dat0 m c).arrAt 7 t0_0.val) ((dat0 m c).flushed 7 t0_0) (Finset.mem_univ _))
theorem end0_8 (c : Dev nD) : (dat0 m c).arrAt 8 cfg0.N = vOf (X0 m) c := by
  refine (congrArg ((dat0 m c).arrAt 8) N_0).trans (((dat0 m c).arrAt_succ 8 t0_0).trans ((if_pos (flush0_8 t0_0)).trans (funext fun i => ?_)))
  exact (congrArg _ (emb0_8 i).symm).trans
    (View.write_emb_of_mem (v := ((cfg0.win 8).blk t0_0).view) ((dat0 m c).arrAt 8 t0_0.val) ((dat0 m c).flushed 8 t0_0) (Finset.mem_univ _))
theorem end0_9 (c : Dev nD) : (dat0 m c).arrAt 9 cfg0.N = kr (X0 m c) := by
  refine (congrArg ((dat0 m c).arrAt 9) N_0).trans (((dat0 m c).arrAt_succ 9 t0_0).trans ((if_pos (flush0_9 t0_0)).trans (funext fun i => ?_)))
  exact (congrArg _ (emb0_9 i).symm).trans
    (View.write_emb_of_mem (v := ((cfg0.win 9).blk t0_0).view) ((dat0 m c).arrAt 9 t0_0.val) ((dat0 m c).flushed 9 t0_0) (Finset.mem_univ _))
theorem end0_10 (c : Dev nD) : (dat0 m c).arrAt 10 cfg0.N = qOf c (X0 m c) := by
  refine (congrArg ((dat0 m c).arrAt 10) N_0).trans (((dat0 m c).arrAt_succ 10 t0_0).trans ((if_pos (flush0_10 t0_0)).trans (funext fun i => ?_)))
  exact (congrArg _ (emb0_10 i).symm).trans
    (View.write_emb_of_mem (v := ((cfg0.win 10).blk t0_0).view) ((dat0 m c).arrAt 10 t0_0.val) ((dat0 m c).flushed 10 t0_0) (Finset.mem_univ _))
theorem end0_11 (c : Dev nD) : (dat0 m c).arrAt 11 cfg0.N = qrOf c (X0 m c) := by
  refine (congrArg ((dat0 m c).arrAt 11) N_0).trans (((dat0 m c).arrAt_succ 11 t0_0).trans ((if_pos (flush0_11 t0_0)).trans (funext fun i => ?_)))
  exact (congrArg _ (emb0_11 i).symm).trans
    (View.write_emb_of_mem (v := ((cfg0.win 11).blk t0_0).view) ((dat0 m c).arrAt 11 t0_0.val) ((dat0 m c).flushed 11 t0_0) (Finset.mem_univ _))
theorem end1_6 (c : Dev nD) : (dat1 m c).arrAt 6 cfg1.N = yOf (X1 m) c := by
  refine (congrArg ((dat1 m c).arrAt 6) N_1).trans (((dat1 m c).arrAt_succ 6 t1_0).trans ((if_pos (flush1_6 t1_0)).trans (funext fun i => ?_)))
  exact (congrArg _ (emb1_6 i).symm).trans
    (View.write_emb_of_mem (v := ((cfg1.win 6).blk t1_0).view) ((dat1 m c).arrAt 6 t1_0.val) ((dat1 m c).flushed 6 t1_0) (Finset.mem_univ _))

/-- What the first region leaves in its windows' arrays; -/
theorem after0 (c : Dev nD) : ∀ w : Fin 12, (dat0 m c).arrAt w cfg0.N = V1 m (outs m) c (Proc.devRef .tc (Pipeline.arrRef spec0 w)) := fun
  | 0 => ((dat0 m c).arrAt_in 0 rfl _).trans (V1_of m (outs m) c main_arg0 (by decide)).symm
  | 1 => ((dat0 m c).arrAt_in 1 rfl _).trans (V1_of m (outs m) c main_arg1 (by decide)).symm
  | 2 => ((dat0 m c).arrAt_in 2 rfl _).trans (V1_of m (outs m) c main_arg2 (by decide)).symm
  | 3 => ((dat0 m c).arrAt_in 3 rfl _).trans (V1_of m (outs m) c main_arg3 (by decide)).symm
  | 4 => ((dat0 m c).arrAt_in 4 rfl _).trans (V1_of m (outs m) c main_arg6 (by decide)).symm
  | 5 => ((dat0 m c).arrAt_in 5 rfl _).trans (V1_of m (outs m) c main_arg4 (by decide)).symm
  | 6 => ((dat0 m c).arrAt_in 6 rfl _).trans (V1_of m (outs m) c main_arg5 (by decide)).symm
  | 7 => (end0_7 m c).trans (V1_v1_0 m c).symm
  | 8 => (end0_8 m c).trans (V1_v1_1 m c).symm
  | 9 => (end0_9 m c).trans (V1_v1_2 m c).symm
  | 10 => (end0_10 m c).trans (V1_v1_3 m c).symm
  | 11 => (end0_11 m c).trans (V1_v1_4 m c).symm
  | ⟨_ + 12, h⟩ => absurd h (Nat.not_lt.2 (Nat.le_add_left _ _))
/-- the second. -/
theorem after1 (c : Dev nD) : ∀ w : Fin 7, (dat1 m c).arrAt w cfg1.N = V2 m (outs m) c (Proc.devRef .tc (Pipeline.arrRef spec1 w)) := fun
  | 0 => ((dat1 m c).arrAt_in 0 rfl _).trans (V2_of m (outs m) c main_v1_3 (by decide)).symm
  | 1 => ((dat1 m c).arrAt_in 1 rfl _).trans (V2_of m (outs m) c main_v1_4 (by decide)).symm
  | 2 => ((dat1 m c).arrAt_in 2 rfl _).trans (V2_of m (outs m) c main_v1_2 (by decide)).symm
  | 3 => ((dat1 m c).arrAt_in 3 rfl _).trans (V2_of m (outs m) c main_v1_0 (by decide)).symm
  | 4 => ((dat1 m c).arrAt_in 4 rfl _).trans (V2_of m (outs m) c main_v1_1 (by decide)).symm
  | 5 => ((dat1 m c).arrAt_in 5 rfl _).trans (V2_of m (outs m) c main_arg7 (by decide)).symm
  | 6 => (end1_6 m c).trans (V2_v2 m c).symm
  | ⟨_ + 7, h⟩ => absurd h (Nat.not_lt.2 (Nat.le_add_left _ _))

/-! ## Waiting for the staging copies -/

theorem owe_append (l k : List (GSem nD τ sig × ℕ)) : owe (l ++ k) = owe k + owe l := by
  induction l with
  | nil => exact (add_zero _).symm
  | cons x l ih => show owe (l ++ k) + tallyAt x.1 () x.2 = owe k + (owe l + tallyAt x.1 () x.2); rw [ih, add_assoc]

/-- What is due in the first region on top of what is due in the second. -/
def own0 (c : Dev nD) : List (GSem nD τ sig × ℕ) := (dues0 c).take 12
theorem dues0_split (c : Dev nD) : owe (dues0 c) = owe (dues1 c) + owe (own0 c) := owe_append (own0 c) (dues1 c)

/-- All dues lie above level 0. -/
theorem due_cut {l : List (GSem nD τ sig × ℕ)} (hl : Above 0 l) (g : GSem nD τ sig) (i : Unit) (h : 0 < owe l g i) : i ∈ L g ∧ 0 < lv g i := by
  obtain ⟨x, hx, rfl⟩ := mem_of_owe h
  obtain ⟨h1, h2⟩ := hl x hx
  exact ⟨by unfold L; rw [if_pos h1]; exact Finset.mem_singleton_self _, h2⟩

theorem stag0 : ∀ (w : Fin 12) (s : Fin (spec0 w).nbuf), semPart (.dma ((spec0 w).sem s)) = none := by decide
theorem stag1 : ∀ (w : Fin 7) (s : Fin (spec1 w).nbuf), semPart (.dma ((spec1 w).sem s)) = none := by decide

theorem lv_none (c : Dev nD) (sm : SemLoc sig) (h : semPart sm = none) : lv ((c : Thread nD τ), sm) () ≤ 0 := by
  have e : part (((c : Thread nD τ), sm) : GSem nD τ sig) = none := by
    unfold part; rw [if_pos rfl]; exact h
  unfold lv; rw [e]; exact Nat.le_refl 0

theorem cut0 : Pipeline.LevelCutOwed (pcfgs (F := F)) adm (pdats m) () L lv 0 (fun _ => 0) where
  hι c w s := by rw [L_tc]; exact Finset.mem_singleton_self _
  hιb c w s := lv_none c _ (stag0 w s)
  hD c t g i h := by
    have e : (pdats m 0 c).owed t = if t.val = 0 then owe (dues0 c) else owe (dues1 c) := rfl
    rw [e] at h
    split at h
    · exact due_cut (above_dues0 c) g i h
    · exact due_cut ((above_dues1 c).mono (Nat.zero_le _)) g i h
theorem cut1 : Pipeline.LevelCutOwed (pcfgs (F := F)) adm (pdats m) () L lv 1 (fun _ => 0) where
  hι c w s := by rw [L_tc]; exact Finset.mem_singleton_self _
  hιb c w s := lv_none c _ (stag1 w s)
  hD c t g i h := by
    have e : (pdats m 1 c).owed t = if t.val = 0 then owe (dues1 c) else owe [] := rfl
    rw [e] at h
    split at h
    · exact due_cut ((above_dues1 c).mono (Nat.zero_le _)) g i h
    · exact absurd h (Nat.lt_irrefl 0)

/-! ## The records -/

theorem hopen0 (c : Dev nD) : iprop(need0 m c ∗ Pipeline.ownSems0 osem0 c ∗ levAts L lv) ⊢ (|={Set.univ}=> open0 m c : sProp 𝕄) := by
  rw [ownSems0_eq]
  unfold need0 open0
  iintro ⟨⟨⟨%κ, #Hr⟩, Hg, Hc, A0, A1, A2⟩, ⟨Z0, Z1, Z2⟩, -⟩
  imod (wakes_of (gath m) κ 0 c) $$ [A0 Z0] with W0
  · isplitr; · iexact Hr
    isplitl [A0] <;> iassumption
  imod (wakes_of (gath m) κ 1 c) $$ [A1 Z1] with W1
  · isplitr; · iexact Hr
    isplitl [A1] <;> iassumption
  imod (wakes_of (gath m) κ 2 c) $$ [A2 Z2] with W2
  · isplitr; · iexact Hr
    isplitl [A2] <;> iassumption
  imodintro
  isplitr; · iexists κ; iexact Hr
  isplitl [Hg]; · iexact Hg
  isplitl [Hc]; · iexact Hc
  isplitl [W0]; · iexact W0
  isplitl [W1] <;> iassumption
theorem hopen1 (c : Dev nD) : iprop(need1 m c ∗ Pipeline.ownSems0 osem1 c ∗ levAts L lv) ⊢ (|={Set.univ}=> open1 m c : sProp 𝕄) := by
  rw [ownSems1_eq]
  unfold need1 open1
  iintro ⟨⟨⟨%κ, #Hr⟩, Hg, Hc, A3, A4⟩, ⟨Z3, Z4⟩, -⟩
  imod (wakes_of (gath m) κ 3 c) $$ [A3 Z3] with W3
  · isplitr; · iexact Hr
    isplitl [A3] <;> iassumption
  imod (wakes_of (gath m) κ 4 c) $$ [A4 Z4] with W4
  · isplitr; · iexact Hr
    isplitl [A4] <;> iassumption
  imodintro
  isplitr; · iexists κ; iexact Hr
  isplitl [Hg]; · iexact Hg
  isplitl [Hc]; · iexact Hc
  isplitl [W3] <;> iassumption

theorem held_none (c : Dev nD) (W : Valuation τ sig (Elt F)) : (StableHlo.held (c.tc : Thread nD τ) ∅ W : sProp 𝕄) = BI.emp := by
  unfold StableHlo.held; exact BI.bigSep_empty

theorem hin0 (c : Dev nD) : iprop(Pipeline.scopedRest (Pipeline.pin (pcfgs (F := F)) adm 0).spec c ∗ (∃ r, prngReg c r)
    ∗ StableHlo.held (c.tc : Thread nD τ) ∅ (V0 m c) ∗ open0 m c) ⊢ (pdats m 0 c).Φ 0 := by
  rw [show (pdats m 0 c).Φ 0 = iprop(Pipeline.scopedRest spec0 c ∗ (∃ r, prngReg c r) ∗ open0 m c) from rfl]
  iintro ⟨Hs, Hp, -, Ho⟩
  isplitl [Hs]; · iexact Hs
  isplitl [Hp]; · iexact Hp
  iexact Ho
theorem hin1 (c : Dev nD) : iprop(Pipeline.scopedRest (Pipeline.pin (pcfgs (F := F)) adm 1).spec c ∗ (∃ r, prngReg c r)
    ∗ StableHlo.held (c.tc : Thread nD τ) ∅ (V1 m (outs m) c) ∗ open1 m c) ⊢ (pdats m 1 c).Φ 0 := by
  rw [show (pdats m 1 c).Φ 0 = iprop(Pipeline.scopedRest spec1 c ∗ (∃ r, prngReg c r) ∗ open1 m c) from rfl]
  iintro ⟨Hs, Hp, -, Ho⟩
  isplitl [Hs]; · iexact Hs
  isplitl [Hp]; · iexact Hp
  iexact Ho
theorem hout0 (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (V1 m (outs m) c) ∗ Pipeline.ownSems0 osem0 c ∗ semVal (barCell 0 c) 0) := by
  rw [show (pdats m 0 c).Φ (Fin.last _) = iprop(Pipeline.scopedRest spec0 c ∗ (∃ r, prngReg c r) ∗ Pipeline.ownSems0 osem0 c ∗ semVal (barCell 0 c) 0) from rfl, held_none]
  iintro ⟨Hs, Hp, Ho, Hb⟩
  isplitl [Hs]; · iexact Hs
  isplitl [Hp]; · iexact Hp
  isplitr; · iempintro
  isplitl [Ho] <;> iassumption
theorem hout1 (c : Dev nD) : (pdats m 1 c).Φ (Fin.last (Pipeline.pin (pcfgs (F := F)) adm 1).N)
    ⊢ iprop(Pipeline.scopedRest (Pipeline.pin (pcfgs (F := F)) adm 1).spec c ∗ (∃ r, prngReg c r)
      ∗ StableHlo.held (c.tc : Thread nD τ) ∅ (V2 m (outs m) c) ∗ Pipeline.ownSems0 osem1 c ∗ semVal (barCell 1 c) 0) := by
  rw [show (pdats m 1 c).Φ (Fin.last _) = iprop(Pipeline.scopedRest spec1 c ∗ (∃ r, prngReg c r) ∗ Pipeline.ownSems0 osem1 c ∗ semVal (barCell 1 c) 0) from rfl, held_none]
  iintro ⟨Hs, Hp, Ho, Hb⟩
  isplitl [Hs]; · iexact Hs
  isplitl [Hp]; · iexact Hp
  isplitr; · iempintro
  isplitl [Ho] <;> iassumption

/-- The unscoped buffers that are no window's array: of the first region, -/
def Sr0 : Finset (DevRef τ sig) := Pipeline.ucRefs τ sig \ Pipeline.arrRefs spec0
/-- of the second. -/
def Sr1 : Finset (DevRef τ sig) := Pipeline.ucRefs τ sig \ Pipeline.arrRefs spec1
theorem arr_sub0 : Pipeline.arrRefs (τ := τ) spec0 ⊆ Pipeline.ucRefs τ sig := by decide
theorem arr_sub1 : Pipeline.arrRefs (τ := τ) spec1 ⊆ Pipeline.ucRefs τ sig := by decide
theorem rest_mem0 : ∀ b ∈ Sr0, b = Proc.devRef .tc main_arg7 ∨ b = Proc.devRef .tc main_v2 := by decide
theorem rest_mem1 : ∀ b ∈ Sr1, b = Proc.devRef .tc main_arg0 ∨ b = Proc.devRef .tc main_arg1 ∨ b = Proc.devRef .tc main_arg2
    ∨ b = Proc.devRef .tc main_arg3 ∨ b = Proc.devRef .tc main_arg4 ∨ b = Proc.devRef .tc main_arg5 ∨ b = Proc.devRef .tc main_arg6 := by decide
theorem rest0 (c : Dev nD) : ∀ b ∈ Sr0 \ ∅, V1 m (outs m) c b = V0 m c b := fun b hb => by
  rw [Finset.sdiff_empty] at hb
  rcases rest_mem0 b hb with rfl | rfl
  · exact V1_of m (outs m) c main_arg7 (by decide)
  · exact V1_of m (outs m) c main_v2 (by decide)
theorem rest1 (c : Dev nD) : ∀ b ∈ Sr1 \ ∅, V2 m (outs m) c b = V1 m (outs m) c b := fun b hb => by
  rw [Finset.sdiff_empty] at hb
  rcases rest_mem1 b hb with rfl | rfl | rfl | rfl | rfl | rfl | rfl
  · exact V2_of m (outs m) c main_arg0 (by decide)
  · exact V2_of m (outs m) c main_arg1 (by decide)
  · exact V2_of m (outs m) c main_arg2 (by decide)
  · exact V2_of m (outs m) c main_arg3 (by decide)
  · exact V2_of m (outs m) c main_arg4 (by decide)
  · exact V2_of m (outs m) c main_arg5 (by decide)
  · exact V2_of m (outs m) c main_arg6 (by decide)

theorem share0 (c : Dev nD) (w) : (pdats m 0 c).share w = fullShare := by unfold Dat.share; split <;> rfl
theorem share1 (c : Dev nD) (w) : (pdats m 1 c).share w = fullShare := by unfold Dat.share; split <;> rfl

set_option backward.isDefEq.respectTransparency.types false in
/-- The first kernel as a region. -/
def reg0 : Pipeline.RegionSeg (pcfgs (F := F)) adm (pdats m) () defs₀ 𝒱₀ L lv 0 :=
  Pipeline.RegionSeg.ofTalk (pcfgs (F := F)) adm (pdats m) () defs₀ 𝒱₀ L lv 0 osem0 (by decide : Pipeline.OwnSemFacts spec0 osem0)
    ∅ Sr0 (Finset.empty_subset _) launch0.toP rfl (fun c => (body0 m c).loose)
    (fun c => owe (dues1 c)) (fun c => owe (own0 c)) (fun c => dues0_split c) (fun _ => rfl) (fun _ => rfl) (share0 m)
    (V0 m) (V1 m (outs m)) (rest0 m)
    (need0 m) (fun c => semVal (barCell 0 c) 0) (open0 m) (fun c => semVal (barCell 0 c) 0) (hopen0 m) (hin0 m) (hout0 m)
    (fun c => by iintro H; imodintro; iexact H)
    (fun _ => 0) (cut0 m) (need1 m) (fun _ _ => rfl) (fun c w => after0 m c w)

set_option backward.isDefEq.respectTransparency.types false in
/-- The second. -/
def reg1 : Pipeline.RegionSeg (pcfgs (F := F)) adm (pdats m) () defs₀ 𝒱₀ L lv 1 :=
  Pipeline.RegionSeg.ofTalk (pcfgs (F := F)) adm (pdats m) () defs₀ 𝒱₀ L lv 1 osem1 (by decide : Pipeline.OwnSemFacts spec1 osem1)
    ∅ Sr1 (Finset.empty_subset _) launch1.toP rfl (fun c => (body1 m c).loose)
    (fun _ => 0) (fun c => owe (dues1 c)) (fun c => (zero_add _).symm) (fun _ => rfl) (fun _ => rfl) (share1 m)
    (V1 m (outs m)) (V2 m (outs m)) (rest1 m)
    (need1 m) (fun c => semVal (barCell 1 c) 0) (open1 m) (fun c => semVal (barCell 1 c) 0) (hopen1 m) (hin1 m) (hout1 m)
    (fun c => by iintro H; imodintro; iexact H)
    (fun _ => 0) (cut1 m) (fun c => semVal (barCell 0 c) 0) (fun _ _ => rfl) (fun c w => after1 m c w)

/-- What rides beside the unscoped buffers: at launch, between the kernels, at the end. -/
def E : Fin 3 → Dev nD → sProp 𝕄
  | 0 => fun c => iprop((∃ r, prngReg c r) ∗ need0 m c ∗ need1 m c ∗ ow c (dues0 c))
  | 1 => fun c => iprop((∃ r, prngReg c r) ∗ semVal (barCell 0 c) 0 ∗ need1 m c ∗ ow c (dues1 c))
  | 2 => fun c => iprop((semVal (barCell 0 c) 0 ∗ semVal (barCell 1 c) 0) ∗ ow c [])

theorem pre0 (c : Dev nD) : iprop(StableHlo.held (c : Thread nD τ) (Pipeline.ucRefs τ sig) (V0 m c) ∗ E m 0 c) ⊢ (reg0 m).pre c := by
  show iprop(_ ∗ ((∃ r, prngReg c r) ∗ need0 m c ∗ need1 m c ∗ ow c (dues0 c))) ⊢ iprop(StableHlo.held (c.tc : Thread nD τ) (Pipeline.arrRefs (τ := τ) spec0) (V0 m c) ∗ (∃ r, prngReg c r)
    ∗ (StableHlo.held (c.tc : Thread nD τ) Sr0 (V0 m c) ∗ need1 m c) ∗ need0 m c ∗ ∃ Wd, owes (c : Thread nD τ) (owe (dues1 c) + owe (own0 c)) Wd)
  rw [StableHlo.held_sub_split (c.tc : Thread nD τ) arr_sub0 (V0 m c), ← dues0_split]
  unfold ow
  iintro ⟨⟨Ha, Hs⟩, Hp, H0, H1, HO⟩
  isplitl [Ha]; · iexact Ha
  isplitl [Hp]; · iexact Hp
  isplitl [Hs H1]
  · isplitl [Hs]; · iexact Hs
    iexact H1
  isplitl [H0]; · iexact H0
  iexact HO
theorem post0 (c : Dev nD) : (reg0 m).post c ⊢ iprop(StableHlo.held (c : Thread nD τ) (Pipeline.ucRefs τ sig) (V1 m (outs m) c) ∗ E m 1 c) := by
  show iprop(StableHlo.held (c.tc : Thread nD τ) (Pipeline.arrRefs (τ := τ) spec0) (V1 m (outs m) c) ∗ (∃ r, prngReg c r)
    ∗ (StableHlo.held (c.tc : Thread nD τ) Sr0 (V1 m (outs m) c) ∗ need1 m c) ∗ semVal (barCell 0 c) 0 ∗ ∃ Wd, owes (c : Thread nD τ) (owe (dues1 c)) Wd)
    ⊢ iprop(_ ∗ ((∃ r, prngReg c r) ∗ semVal (barCell 0 c) 0 ∗ need1 m c ∗ ow c (dues1 c)))
  rw [StableHlo.held_sub_split (c.tc : Thread nD τ) arr_sub0 (V1 m (outs m) c)]
  unfold ow
  iintro ⟨Ha, Hp, ⟨Hs, H1⟩, Hb, HO⟩
  isplitl [Ha Hs]
  · isplitl [Ha]; · iexact Ha
    iexact Hs
  isplitl [Hp]; · iexact Hp
  isplitl [Hb]; · iexact Hb
  isplitl [H1]; · iexact H1
  iexact HO
theorem pre1 (c : Dev nD) : iprop(StableHlo.held (c : Thread nD τ) (Pipeline.ucRefs τ sig) (V1 m (outs m) c) ∗ E m 1 c) ⊢ (reg1 m).pre c := by
  show iprop(_ ∗ ((∃ r, prngReg c r) ∗ semVal (barCell 0 c) 0 ∗ need1 m c ∗ ow c (dues1 c))) ⊢ iprop(StableHlo.held (c.tc : Thread nD τ) (Pipeline.arrRefs (τ := τ) spec1) (V1 m (outs m) c) ∗ (∃ r, prngReg c r)
    ∗ (StableHlo.held (c.tc : Thread nD τ) Sr1 (V1 m (outs m) c) ∗ semVal (barCell 0 c) 0) ∗ need1 m c ∗ ∃ Wd, owes (c : Thread nD τ) (0 + owe (dues1 c)) Wd)
  rw [StableHlo.held_sub_split (c.tc : Thread nD τ) arr_sub1 (V1 m (outs m) c), zero_add]
  unfold ow
  iintro ⟨⟨Ha, Hs⟩, Hp, Hb, H1, HO⟩
  isplitl [Ha]; · iexact Ha
  isplitl [Hp]; · iexact Hp
  isplitl [Hs Hb]
  · isplitl [Hs]; · iexact Hs
    iexact Hb
  isplitl [H1]; · iexact H1
  iexact HO
theorem post1 (c : Dev nD) : (reg1 m).post c ⊢ iprop(StableHlo.held (c : Thread nD τ) (Pipeline.ucRefs τ sig) (V2 m (outs m) c) ∗ E m 2 c) := by
  show iprop(StableHlo.held (c.tc : Thread nD τ) (Pipeline.arrRefs (τ := τ) spec1) (V2 m (outs m) c) ∗ (∃ r, prngReg c r)
    ∗ (StableHlo.held (c.tc : Thread nD τ) Sr1 (V2 m (outs m) c) ∗ semVal (barCell 0 c) 0) ∗ semVal (barCell 1 c) 0 ∗ ∃ Wd, owes (c : Thread nD τ) (0 : CellTallies nD τ sig Unit) Wd)
    ⊢ iprop(_ ∗ ((semVal (barCell 0 c) 0 ∗ semVal (barCell 1 c) 0) ∗ ow c []))
  rw [StableHlo.held_sub_split (c.tc : Thread nD τ) arr_sub1 (V2 m (outs m) c)]
  unfold ow
  iintro ⟨Ha, -, ⟨Hs, Hb⟩, Hb1, HO⟩
  isplitl [Ha Hs]
  · isplitl [Ha]; · iexact Ha
    iexact Hs
  isplitl [Hb Hb1]; · isplitl [Hb] <;> iassumption
  iexact HO

end Cert.Proof

end
-- ==== Proof.Main.lean ====
/- The launch of the four devices, and the run of the whole program. -/
module

public import proofs.«01_k».proof.Proof.Regs
public import Idealize.ShloMosaic.Lib.Quiescent

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ UU ℕ

variable (m : (l : Loc nD τ sig) → Buf (Elt F) l)

/-! ## Who gets which token -/

/-- Duty tokens of the announcements, listed by the device that pays; -/
def callTok (x : Fin 2 × Fin 3 × Dev nD) : GSem nD τ sig × ℕ × Fin 3 := (barCell x.1 (nx x.2.1 x.2.2), 0, Fin.rev x.2.1)
/-- of the copies: the own send duty, the peer's receive duty. -/
def copyTok (x : Bool × Fin 5 × Fin 3 × Dev nD) : GSem nD τ sig × ℕ × Fin 3 :=
  (dmaCell (x.1, x.2.1, x.2.2.1, if x.1 then nx x.2.2.1 x.2.2.2 else x.2.2.2), 0, 0)

theorem nx_inj (i : Fin 3) {c d : Dev nD} (h : nx i c = nx i d) : c = d := by rw [← pv_nx i c, h, pv_nx]

def callEmb : Fin 2 × Fin 3 × Dev nD ↪ GSem nD τ sig × ℕ × Fin 3 :=
  ⟨callTok, fun ⟨b, i, c⟩ ⟨b', i', c'⟩ h => by
    have hi : i = i' := Fin.rev_injective (congrArg (fun t : GSem nD τ sig × ℕ × Fin 3 => t.2.2) h)
    subst hi
    have hg : barEmb (b, nx i c) = barEmb (b', nx i c') := congrArg (fun t : GSem nD τ sig × ℕ × Fin 3 => t.1) h
    have hp := barEmb.injective hg
    rw [show b = b' from congrArg Prod.fst hp, nx_inj i (congrArg Prod.snd hp)]⟩
def copyEmb : Bool × Fin 5 × Fin 3 × Dev nD ↪ GSem nD τ sig × ℕ × Fin 3 :=
  ⟨copyTok, fun ⟨r, a, i, c⟩ ⟨r', a', i', c'⟩ h => by
    have hg := dmaEmb.injective (show dmaEmb _ = dmaEmb _ from congrArg (fun t : GSem nD τ sig × ℕ × Fin 3 => t.1) h)
    obtain rfl : r = r' := congrArg Prod.fst hg
    obtain rfl : a = a' := congrArg (fun y : Bool × Fin 5 × Fin 3 × Dev nD => y.2.1) hg
    obtain rfl : i = i' := congrArg (fun y : Bool × Fin 5 × Fin 3 × Dev nD => y.2.2.1) hg
    have hc := congrArg (fun y : Bool × Fin 5 × Fin 3 × Dev nD => y.2.2.2) hg
    cases r
    · have hc : c = c' := hc
      rw [hc]
    · have hc : nx i c = nx i c' := hc
      obtain rfl := nx_inj i hc
      rfl⟩

abbrev callToks : Finset (GSem nD τ sig × ℕ × Fin 3) := Finset.univ.map callEmb
abbrev copyToks : Finset (GSem nD τ sig × ℕ × Fin 3) := Finset.univ.map copyEmb

theorem bar_ne_dma (b : Fin 2) (c : Dev nD) (y : Bool × Fin 5 × Fin 3 × Dev nD) : barCell b c ≠ dmaCell y := fun h => by
  have e := (part_bar b c).symm.trans ((congrArg part h).trans (dmaCell_part y))
  rcases y with ⟨_ | _, a, i, d⟩ <;> exact absurd e (by decide +revert)

theorem toks_disjoint : Disjoint callToks copyToks := by
  rw [Finset.disjoint_left]
  rintro t h1 h2
  obtain ⟨x, -, rfl⟩ := Finset.mem_map.mp h1
  obtain ⟨y, -, h⟩ := Finset.mem_map.mp h2
  exact bar_ne_dma _ _ _ (congrArg (fun t : GSem nD τ sig × ℕ × Fin 3 => t.1) h).symm
theorem cells_disjoint : Disjoint (barCells : Finset (GSem nD τ sig)) dmaCells := by
  rw [Finset.disjoint_left]
  rintro g h1 h2
  obtain ⟨x, -, rfl⟩ := Finset.mem_map.mp h1
  obtain ⟨y, -, h⟩ := Finset.mem_map.mp h2
  exact bar_ne_dma _ _ _ h.symm

/-- The same index, the device first. -/
def byDev : (Dev nD × Fin 5 × Fin 3) × Bool ≃ Bool × Fin 5 × Fin 3 × Dev nD :=
  ⟨fun x => (x.2, x.1.2.1, x.1.2.2, x.1.1), fun y => ((y.2.2.2, y.2.1, y.2.2.1), y.1), fun _ => rfl, fun _ => rfl⟩

/-- One copy's cells and tokens. -/
def half (c : Dev nD) (k : Fin 5 × Fin 3) : sProp 𝕄 :=
  iprop((openTok ER (sendCell k.1 k.2 c) ∗ openTok ER (recvCell k.1 k.2 c))
    ∗ (dutyTok ER (sendCell k.1 k.2 c) 0 0 ∗ dutyTok ER (recvCell k.1 k.2 (nx k.2 c)) 0 0))
/-- All of a device's part of the ghost state. -/
def lot (c : Dev nD) : sProp 𝕄 :=
  iprop((atPos ER (barCell 0 c) 0 ∅ 0 ∗ atPos ER (barCell 1 c) 0 ∅ 0) ∗ (calls 0 c ∗ calls 1 c) ∗ bigSep Finset.univ (half c))

omit [FloatOps F] [Named F] in
theorem two_bool (Φ : Bool → sProp 𝕄) : bigSep Finset.univ Φ = iprop(Φ false ∗ Φ true) :=
  bigSep_univ_eq_bigSepL [false, true] (by decide) (by decide) Φ

omit [FloatOps F] [Named F] in
theorem at_deal : (bigSep barCells fun g => (atPos ER g 0 ∅ 0 : sProp 𝕄))
    = iprop((bigSep Finset.univ fun c : Dev nD => (atPos ER (barCell 0 c) 0 ∅ 0 : sProp 𝕄)) ∗ bigSep Finset.univ fun c : Dev nD => (atPos ER (barCell 1 c) 0 ∅ 0 : sProp 𝕄)) := by
  rw [bigSep_map, bigSep_univ_prod, BI.bigSep_fin_two]; rfl
omit [FloatOps F] [Named F] in
theorem val_deal : (bigSep barCells fun g => (semVal g 0 : sProp 𝕄))
    = iprop((bigSep Finset.univ fun c : Dev nD => (semVal (barCell 0 c) 0 : sProp 𝕄)) ∗ bigSep Finset.univ fun c : Dev nD => (semVal (barCell 1 c) 0 : sProp 𝕄)) := by
  rw [bigSep_map, bigSep_univ_prod, BI.bigSep_fin_two]; rfl
omit [FloatOps F] [Named F] in
theorem calls_deal (b : Fin 2) : (bigSep Finset.univ fun y : Fin 3 × Dev nD => (dutyTok ER (callTok (b, y)).1 (callTok (b, y)).2.1 (callTok (b, y)).2.2 : sProp 𝕄))
    = bigSep Finset.univ fun c : Dev nD => (calls b c : sProp 𝕄) := by
  unfold calls
  rw [bigSep_univ_prod, big3, bigSep_sep', bigSep_sep']; rfl
omit [FloatOps F] [Named F] in
theorem call_deal : (bigSep callToks fun x => (dutyTok ER x.1 x.2.1 x.2.2 : sProp 𝕄))
    = iprop((bigSep Finset.univ fun c : Dev nD => (calls 0 c : sProp 𝕄)) ∗ bigSep Finset.univ fun c : Dev nD => (calls 1 c : sProp 𝕄)) := by
  rw [← calls_deal, ← calls_deal, bigSep_map, bigSep_univ_prod, BI.bigSep_fin_two]; rfl
omit [FloatOps F] [Named F] in
theorem half_deal : iprop((bigSep dmaCells fun g => (openTok ER g : sProp 𝕄)) ∗ bigSep copyToks fun x => (dutyTok ER x.1 x.2.1 x.2.2 : sProp 𝕄))
    = bigSep Finset.univ fun c : Dev nD => bigSep Finset.univ (half (F := F) c) := by
  have h1 : (bigSep dmaCells fun g => (openTok ER g : sProp 𝕄))
      = bigSep Finset.univ fun x : Dev nD × Fin 5 × Fin 3 => iprop(openTok ER (sendCell x.2.1 x.2.2 x.1) ∗ openTok ER (recvCell x.2.1 x.2.2 x.1)) := by
    rw [bigSep_map, bigSep_univ_equiv byDev, bigSep_univ_prod]
    exact bigSep_congr fun x _ => two_bool _
  have h2 : (bigSep copyToks fun x => (dutyTok ER x.1 x.2.1 x.2.2 : sProp 𝕄))
      = bigSep Finset.univ fun x : Dev nD × Fin 5 × Fin 3 =>
        iprop(dutyTok ER (sendCell x.2.1 x.2.2 x.1) 0 0 ∗ dutyTok ER (recvCell x.2.1 x.2.2 (nx x.2.2 x.1)) 0 0) := by
    rw [bigSep_map, bigSep_univ_equiv byDev, bigSep_univ_prod]
    exact bigSep_congr fun x _ => two_bool _
  rw [h1, h2, ← bigSep_sep', bigSep_univ_prod]; rfl

/-! ## Credits -/

/-- What every device is to pay, by receiving semaphore, distance and amount. -/
def keys : List (SemLoc sig × Fin 3 × ℕ) :=
  [(.reg (barSem 0), 0, 1), (.reg (barSem 0), 1, 1), (.reg (barSem 0), 2, 1), (.dma (recvSem 1 0), 0, chN 1), (.dma (recvSem 2 0), 0, chN 2), (.dma (recvSem 1 1), 1, chN 1), (.dma (recvSem 2 1), 1, chN 2), (.dma (recvSem 1 2), 2, chN 1), (.dma (recvSem 2 2), 2, chN 2), (.dma (recvSem 0 0), 0, chN 0), (.dma (recvSem 0 1), 1, chN 0), (.dma (recvSem 0 2), 2, chN 0), (.reg (barSem 1), 0, 1), (.reg (barSem 1), 1, 1), (.reg (barSem 1), 2, 1), (.dma (recvSem 3 0), 0, chN 3), (.dma (recvSem 3 1), 1, chN 3), (.dma (recvSem 3 2), 2, chN 3), (.dma (recvSem 4 0), 0, chN 4), (.dma (recvSem 4 1), 1, chN 4), (.dma (recvSem 4 2), 2, chN 4)]
/-- A list of credits on device `c`'s cells. -/
def inc (c : Dev nD) : List (SemLoc sig × Fin 3 × ℕ) → sProp 𝕄
  | [] => iprop(emp)
  | k :: l => iprop(inc c l ∗ cred (tallyAt ((c : Thread nD τ), k.1) () k.2.2))

/-- Device `d`'s dues by the list. -/
def toll (l : List (SemLoc sig × Fin 3 × ℕ)) (d : Dev nD) : List (GSem nD τ sig × ℕ) := l.map fun k => (((nx k.2.1 d : Thread nD τ), k.1), k.2.2)

omit [FloatOps F] [Named F] in
theorem inc_of (c : Dev nD) (l : List (SemLoc sig × Fin 3 × ℕ)) : (Pipeline.launchCred (fun d => owe (toll l d)) c : sProp 𝕄) ⊢ inc c l := by
  induction l with
  | nil => exact Entails.of_eq (Pipeline.launchCred_zero c)
  | cons k l ih =>
    have e : (fun d => owe (toll (k :: l) d)) = fun d => owe (toll l d) + (tallyAt ((nx k.2.1 d : Thread nD τ), k.1) () k.2.2 : CellTallies nD τ sig Unit) := rfl
    have h := Pipeline.launchCred_tallyAt (τ := τ) (Val := Elt F) (Name := ℕ) (U := UU) (Lvl := ℕ) k.1 (nx k.2.1) (pv k.2.1) (nx_pv k.2.1) (pv_nx k.2.1) () k.2.2 c
    rw [e, Pipeline.launchCred_add]
    exact BI.sep_mono ih h
theorem toll_keys (d : Dev nD) : toll keys d = dues0 d := rfl
omit [FloatOps F] [Named F] in
theorem inc_keys (c : Dev nD) : (Pipeline.launchCred (fun d => owe (dues0 d)) c : sProp 𝕄) ⊢ inc c keys := by
  rw [show (fun d => owe (dues0 d)) = fun d => owe (toll keys d) from funext fun d => by rw [toll_keys]]
  exact inc_of c keys

omit [FloatOps F] [Named F] in
theorem three (b : Fin 2) (c : Dev nD) : iprop(cred (tallyAt (barCell b c) () 1) ∗ cred (tallyAt (barCell b c) () 1) ∗ cred (tallyAt (barCell b c) () 1))
    ⊢ (cred (tallyAt (barCell b c) () 3) : sProp 𝕄) := by
  rw [show tallyAt (barCell b c) () 3 = (tallyAt (barCell b c) () 1 + (tallyAt (barCell b c) () 1 + tallyAt (barCell b c) () 1) : CellTallies nD τ sig Unit) from by
    rw [tallyAt_add, tallyAt_add]]
  exact (sep_mono .rfl (cred_add _ _).2).trans (cred_add _ _).2

/-- The credits in the order of the kernels' channels. -/
def credits (c : Dev nD) : sProp 𝕄 :=
  iprop((cred (tallyAt (barCell 0 c) () 3) ∗ cred (tallyAt (barCell 1 c) () 3))
    ∗ cred (tallyAt (recvCell 0 0 c) () (chN 0))
    ∗ cred (tallyAt (recvCell 0 1 c) () (chN 0))
    ∗ cred (tallyAt (recvCell 0 2 c) () (chN 0))
    ∗ cred (tallyAt (recvCell 1 0 c) () (chN 1))
    ∗ cred (tallyAt (recvCell 1 1 c) () (chN 1))
    ∗ cred (tallyAt (recvCell 1 2 c) () (chN 1))
    ∗ cred (tallyAt (recvCell 2 0 c) () (chN 2))
    ∗ cred (tallyAt (recvCell 2 1 c) () (chN 2))
    ∗ cred (tallyAt (recvCell 2 2 c) () (chN 2))
    ∗ cred (tallyAt (recvCell 3 0 c) () (chN 3))
    ∗ cred (tallyAt (recvCell 3 1 c) () (chN 3))
    ∗ cred (tallyAt (recvCell 3 2 c) () (chN 3))
    ∗ cred (tallyAt (recvCell 4 0 c) () (chN 4))
    ∗ cred (tallyAt (recvCell 4 1 c) () (chN 4))
    ∗ cred (tallyAt (recvCell 4 2 c) () (chN 4)))

omit [FloatOps F] [Named F] in
theorem credits_of (c : Dev nD) : (Pipeline.launchCred (fun d => owe (dues0 d)) c : sProp 𝕄) ⊢ credits c := by
  refine (inc_keys c).trans ?_
  unfold credits
  dsimp only [inc, keys]
  iintro ⟨⟨⟨⟨⟨⟨⟨⟨⟨⟨⟨⟨⟨⟨⟨⟨⟨⟨⟨⟨⟨-, r42⟩, r41⟩, r40⟩, r32⟩, r31⟩, r30⟩, b1_2⟩, b1_1⟩, b1_0⟩, r02⟩, r01⟩, r00⟩, r22⟩, r12⟩, r21⟩, r11⟩, r20⟩, r10⟩, b0_2⟩, b0_1⟩, b0_0⟩
  isplitl [b0_0 b0_1 b0_2 b1_0 b1_1 b1_2]
  · isplitl [b0_0 b0_1 b0_2]
    · iapply (three 0 c)
      isplitl [b0_0]; · iexact b0_0
      isplitl [b0_1] <;> iassumption
    · iapply (three 1 c)
      isplitl [b1_0]; · iexact b1_0
      isplitl [b1_1] <;> iassumption
  isplitl [r00]; · iexact r00
  isplitl [r01]; · iexact r01
  isplitl [r02]; · iexact r02
  isplitl [r10]; · iexact r10
  isplitl [r11]; · iexact r11
  isplitl [r12]; · iexact r12
  isplitl [r20]; · iexact r20
  isplitl [r21]; · iexact r21
  isplitl [r22]; · iexact r22
  isplitl [r30]; · iexact r30
  isplitl [r31]; · iexact r31
  isplitl [r32]; · iexact r32
  isplitl [r40]; · iexact r40
  isplitl [r41]; · iexact r41
  iexact r42

omit [FloatOps F] [Named F] in
theorem halves (c : Dev nD) : bigSep Finset.univ (half (F := F) c) = iprop(half c (0, 0) ∗ half c (0, 1) ∗ half c (0, 2) ∗ half c (1, 0) ∗ half c (1, 1) ∗ half c (1, 2) ∗ half c (2, 0) ∗ half c (2, 1) ∗ half c (2, 2) ∗ half c (3, 0) ∗ half c (3, 1) ∗ half c (3, 2) ∗ half c (4, 0) ∗ half c (4, 1) ∗ half c (4, 2)) :=
  bigSep_univ_eq_bigSepL [((0, 0) : Fin 5 × Fin 3), (0, 1), (0, 2), (1, 0), (1, 1), (1, 2), (2, 0), (2, 1), (2, 2), (3, 0), (3, 1), (3, 2), (4, 0), (4, 1), (4, 2)] (by decide) (by decide) _

omit [FloatOps F] [Named F] in
theorem asleep_of (a : Fin 5) (i : Fin 3) (c : Dev nD) : iprop(half c (a, i) ∗ cred (tallyAt (recvCell a i c) () (chN a))) ⊢ (asleep a i c : sProp 𝕄) := by
  unfold half asleep
  iintro ⟨⟨⟨H1, H2⟩, H3, H4⟩, H5⟩
  isplitl [H1]; · iexact H1
  isplitl [H2]; · iexact H2
  isplitl [H3]; · iexact H3
  isplitl [H4] <;> iassumption

omit [FloatOps F] [Named F] in
theorem sleeps_of (c : Dev nD) : iprop(bigSep Finset.univ (half c)
    ∗ cred (tallyAt (recvCell 0 0 c) () (chN 0))
    ∗ cred (tallyAt (recvCell 0 1 c) () (chN 0))
    ∗ cred (tallyAt (recvCell 0 2 c) () (chN 0))
    ∗ cred (tallyAt (recvCell 1 0 c) () (chN 1))
    ∗ cred (tallyAt (recvCell 1 1 c) () (chN 1))
    ∗ cred (tallyAt (recvCell 1 2 c) () (chN 1))
    ∗ cred (tallyAt (recvCell 2 0 c) () (chN 2))
    ∗ cred (tallyAt (recvCell 2 1 c) () (chN 2))
    ∗ cred (tallyAt (recvCell 2 2 c) () (chN 2))
    ∗ cred (tallyAt (recvCell 3 0 c) () (chN 3))
    ∗ cred (tallyAt (recvCell 3 1 c) () (chN 3))
    ∗ cred (tallyAt (recvCell 3 2 c) () (chN 3))
    ∗ cred (tallyAt (recvCell 4 0 c) () (chN 4))
    ∗ cred (tallyAt (recvCell 4 1 c) () (chN 4))
    ∗ cred (tallyAt (recvCell 4 2 c) () (chN 4)))
    ⊢ (iprop(sleeps 0 c ∗ sleeps 1 c ∗ sleeps 2 c ∗ sleeps 3 c ∗ sleeps 4 c) : sProp 𝕄) := by
  rw [halves]
  unfold sleeps
  iintro ⟨⟨h00, h01, h02, h10, h11, h12, h20, h21, h22, h30, h31, h32, h40, h41, h42⟩, r00, r01, r02, r10, r11, r12, r20, r21, r22, r30, r31, r32, r40, r41, r42⟩
  isplitl [h00 r00 h01 r01 h02 r02]
  · isplitl [h00 r00]
    · iapply (asleep_of 0 0 c)
      isplitl [h00] <;> iassumption
    isplitl [h01 r01]
    · iapply (asleep_of 0 1 c)
      isplitl [h01] <;> iassumption
    iapply (asleep_of 0 2 c)
    isplitl [h02] <;> iassumption
  isplitl [h10 r10 h11 r11 h12 r12]
  · isplitl [h10 r10]
    · iapply (asleep_of 1 0 c)
      isplitl [h10] <;> iassumption
    isplitl [h11 r11]
    · iapply (asleep_of 1 1 c)
      isplitl [h11] <;> iassumption
    iapply (asleep_of 1 2 c)
    isplitl [h12] <;> iassumption
  isplitl [h20 r20 h21 r21 h22 r22]
  · isplitl [h20 r20]
    · iapply (asleep_of 2 0 c)
      isplitl [h20] <;> iassumption
    isplitl [h21 r21]
    · iapply (asleep_of 2 1 c)
      isplitl [h21] <;> iassumption
    iapply (asleep_of 2 2 c)
    isplitl [h22] <;> iassumption
  isplitl [h30 r30 h31 r31 h32 r32]
  · isplitl [h30 r30]
    · iapply (asleep_of 3 0 c)
      isplitl [h30] <;> iassumption
    isplitl [h31 r31]
    · iapply (asleep_of 3 1 c)
      isplitl [h31] <;> iassumption
    iapply (asleep_of 3 2 c)
    isplitl [h32] <;> iassumption
  isplitl [h40 r40]
  · iapply (asleep_of 4 0 c)
    isplitl [h40] <;> iassumption
  isplitl [h41 r41]
  · iapply (asleep_of 4 1 c)
    isplitl [h41] <;> iassumption
  iapply (asleep_of 4 2 c)
  isplitl [h42] <;> iassumption

/-! ## The launch -/

/-- The launch element: the pipeline library's at the staging cells, the exchange's at its own. -/
def u₀ : UU :=
  (initOf (Pipeline.cells (Pipeline.pin (pcfgs (F := F)) adm) cellOf_inj) (Pipeline.launchToks (Pipeline.pin (pcfgs (F := F)) adm) cellOf_inj),
    launchOf barCells dmaCells (callToks ∪ copyToks))

/-- Device 0 carries the exchange's launch element until it is dealt out. -/
def carry (c : Dev nD) : sProp 𝕄 := if c = 0 then BI.own (ER (launchOf barCells dmaCells (callToks ∪ copyToks))) else iprop(emp)
omit [FloatOps F] [Named F] in
theorem carry_all : bigSep Finset.univ (carry (F := F)) = BI.own (ER (launchOf barCells dmaCells (callToks ∪ copyToks))) := by
  rw [bigSep_univ_eq_bigSepL [(0 : Dev nD), 1, 2, 3] (by decide) (by decide)]
  show iprop(BI.own (ER (launchOf barCells dmaCells (callToks ∪ copyToks))) ∗ BI.emp ∗ BI.emp ∗ BI.emp) = _
  have e (X : sProp 𝕄) : iprop(X ∗ BI.emp) = X := BI.equiv_iff.mp sep_emp
  rw [e, e, e]

omit [FloatOps F] [Named F] in
theorem unscopedSems0_eq (c : Dev nD) : (unscopedSems0 c : sProp 𝕄) = iprop(semVal (barCell 0 c) 0 ∗ semVal (barCell 1 c) 0) := by
  unfold unscopedSems0
  exact bigSep_eq_bigSepL_of_eq [SemLoc.reg (barSem 0), SemLoc.reg (barSem 1)] (by decide) (by decide) _
theorem unscoped_sem : ∀ sm : SemLoc sig, sm.isScoped .tc = false → sm = .reg (barSem 0) ∨ sm = .reg (barSem 1) := by decide

/-- What a device holds of the launch beside the ghost state. -/
def store (ρ : Dev nD → PrngReg) (c : Dev nD) : sProp 𝕄 :=
  iprop(StableHlo.held (c : Thread nD τ) (Pipeline.ucRefs τ sig) (V0 m c) ∗ owes (c : Thread nD τ) (owe (dues0 c)) ∅ ∗ credits c ∗ prngReg c (ρ c))
/-- A device's state when the program starts. -/
abbrev T₀ (c : Dev nD) : sProp 𝕄 := iprop(StableHlo.held (c : Thread nD τ) (Pipeline.ucRefs τ sig) (V0 m c) ∗ E m 0 c)
/-- and when it ends. -/
abbrev Tₙ (c : Dev nD) : sProp 𝕄 :=
  iprop(StableHlo.held (c : Thread nD τ) (Pipeline.ucRefs τ sig) (V2 m (outs m) c) ∗ semVal (barCell 0 c) 0 ∗ semVal (barCell 1 c) 0)

theorem start_of (ρ : Dev nD → PrngReg) (κ : GSem nD τ sig → ℕ) (c : Dev nD) : iprop(recs (gath m) κ ∗ (lot c ∗ store m ρ c)) ⊢ T₀ m c := by
  show _ ⊢ iprop(_ ∗ ((∃ r, prngReg c r) ∗ need0 m c ∗ need1 m c ∗ ow c (dues0 c)))
  unfold lot store credits need0 need1 gate ow
  iintro ⟨#Hr, ⟨⟨A0, A1⟩, ⟨C0, C1⟩, Hh⟩, Hm, HO, ⟨⟨K0, K1⟩, K⟩, Hp⟩
  ihave Hs := (sleeps_of c) $$ [Hh K]
  · isplitl [Hh] <;> iassumption
  icases Hs with ⟨S0, S1, S2, S3, S4⟩
  isplitl [Hm]; · iexact Hm
  isplitl [Hp]; · iexists (ρ c); iexact Hp
  isplitl [A0 C0 K0 S0 S1 S2]
  · isplitr; · iexists κ; iexact Hr
    isplitl [A0 K0]; · isplitl [K0] <;> iassumption
    isplitl [C0]; · iexact C0
    isplitl [S0]; · iexact S0
    isplitl [S1] <;> iassumption
  isplitl [A1 C1 K1 S3 S4]
  · isplitr; · iexists κ; iexact Hr
    isplitl [A1 K1]; · isplitl [K1] <;> iassumption
    isplitl [C1]; · iexact C1
    isplitl [S3] <;> iassumption
  iexists ∅; iexact HO

/-- The launch, dealt out. -/
theorem init (ρ : Dev nD → PrngReg) :
    iprop((bigSep Finset.univ fun c : Dev nD => iprop(unscopedBufs c (fun b => m ((c : Thread nD τ).loc b)) ∗ unscopedSems0 c
          ∗ owes (c : Thread nD τ) (owe (dues0 c)) ∅ ∗ Pipeline.launchCred (fun d => owe (dues0 d)) c ∗ prngReg c (ρ c) ∗ carry c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (owe (dues0 c)) ∅ ∗ Pipeline.launchCred (fun d => owe (dues0 d)) c ∗ prngReg c (ρ c) ∗ carry c)
      ⊢ (iprop(store m ρ c ∗ (semVal (barCell 0 c) 0 ∗ semVal (barCell 1 c) 0) ∗ carry c) : sProp 𝕄) := by
    rw [show unscopedBufs c (fun b => m ((c : Thread nD τ).loc b)) = StableHlo.held (c : Thread nD τ) (Pipeline.ucRefs τ sig) (V0 m c) from
      Pipeline.unscopedBufs_held (Ix := Unit) (Name := ℕ) (U := UU) (Lvl := ℕ) c (V0 m c), unscopedSems0_eq]
    unfold store
    iintro ⟨Hm, Hv, HO, Hc, Hp, HG⟩
    ihave Hk := (credits_of c) $$ Hc
    isplitl [Hm HO Hk Hp]
    · isplitl [Hm]; · iexact Hm
      isplitl [HO]; · iexact HO
      isplitl [Hk] <;> iassumption
    isplitl [Hv] <;> iassumption
  iintro ⟨H, #Hl⟩
  ihave H1 := (show (bigSep Finset.univ fun c : Dev nD => iprop(unscopedBufs c (fun b => m ((c : Thread nD τ).loc b)) ∗ unscopedSems0 c
          ∗ owes (c : Thread nD τ) (owe (dues0 c)) ∅ ∗ Pipeline.launchCred (fun d => owe (dues0 d)) c ∗ prngReg c (ρ c) ∗ carry c))
      ⊢ (bigSep Finset.univ fun c : Dev nD => iprop(store m ρ c ∗ (semVal (barCell 0 c) 0 ∗ semVal (barCell 1 c) 0) ∗ carry c) : sProp 𝕄) from
    bigSep_mono fun c _ => hcore c) $$ H
  ihave H2 := (Entails.of_eq (bigSep_sep' _ _ _)) $$ H1; icases H2 with ⟨HB, H3⟩
  ihave H4 := (Entails.of_eq (bigSep_sep' _ _ _)) $$ H3; icases H4 with ⟨Hv, HG⟩
  ihave Hv' := (Entails.of_eq (bigSep_sep' _ _ _)) $$ Hv
  ihave Hv'' := (Entails.of_eq (val_deal (F := F)).symm) $$ Hv'
  ihave Hu := (Entails.of_eq (carry_all (F := F))) $$ HG
  imod (Rounds.fund_launch ER (talkRd (gath m)) cells_disjoint (fun g _ h => h) (callToks ∪ copyToks)) $$ [Hv'' Hu] with ⟨%κ, -, #Hinv, #Hr, Hat, Hopen, Htok⟩
  · isplitl [Hv''] <;> iassumption
  imodintro
  iapply (bigSep_with_persistent (R := recs (gath m) κ) (Φ := fun c => iprop(lot c ∗ store m ρ c)) fun c _ => start_of m ρ κ c)
  isplitr
  · unfold recs
    isplitr; · iexact Hinv
    isplitr; · iexact Hr
    iexact Hl
  iapply (Entails.of_eq (bigSep_sep' _ _ _).symm)
  isplitr [HB]
  · ihave Hat' := (Entails.of_eq (at_deal (F := F))) $$ Hat
    ihave Ht := (show (bigSep (callToks ∪ copyToks) fun x => (dutyTok ER x.1 x.2.1 x.2.2 : sProp 𝕄)) ⊢ iprop((bigSep callToks fun x => (dutyTok ER x.1 x.2.1 x.2.2 : sProp 𝕄)) ∗ bigSep copyToks fun x => (dutyTok ER x.1 x.2.1 x.2.2 : sProp 𝕄)) from
      Entails.of_eq (BI.bigSep_union toks_disjoint)) $$ Htok
    icases Ht with ⟨Hc, Hk⟩
    ihave Hc' := (Entails.of_eq (call_deal (F := F))) $$ Hc
    unfold lot
    iapply (Entails.of_eq (bigSep_sep' _ _ _).symm); isplitl [Hat']; · iapply (Entails.of_eq (bigSep_sep' _ _ _).symm); iexact Hat'
    iapply (Entails.of_eq (bigSep_sep' _ _ _).symm); isplitl [Hc']; · iapply (Entails.of_eq (bigSep_sep' _ _ _).symm); iexact Hc'
    iapply (Entails.of_eq (half_deal (F := F)))
    isplitl [Hopen] <;> iassumption
  · iexact HB

/-! ## The run -/

/-- What a device's memory holds at the end. -/
def ends (c : Dev nD) (s : MemSt nD τ sig (Elt F)) : Prop :=
  (∀ r : Ref sig .tc, Proc.devRef .tc r ∈ Pipeline.ucRefs τ sig → s.mem ((c.tc : Thread nD τ).loc r) = V2 m (outs m) c (Proc.devRef .tc r))
    ∧ s.sem (barCell 0 c) = 0 ∧ s.sem (barCell 1 c) = 0

set_option backward.isDefEq.respectTransparency.types false in
/-- The run: whatever the memory and with all counters zero, every fair execution of the program on the four devices
    terminates, and at its end every device's arguments are unchanged, its result is `yOf` of what its second kernel was
    given, and every semaphore counter of the machine is zero. -/
theorem run_main (ρ : Dev nD → PrngReg) : θ_run defs (onTc (τ := τ) (main (F := F))) ⟨m, fun _ => 0, ρ⟩ (fun r =>
    (∀ c : Dev nD, (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.mem ((c.tc : Thread nD τ).loc main_v2) = yOf (X1 m) c) ∧ r.2.sem = fun _ => 0) :=
  Pipeline.θ_run_regions_kit_dev_sems (pcfgs (F := F)) adm (pdats m) () cellOf_inj EP defs₀ 𝒱₀ L lv m ρ main
    (segs 𝒱₀ L lv (E m) () (pdats m) (reg0 m) (reg1 m))
    (fun c Q => by
      rewrite [main_chain c, Pipeline.Seg.run_eq_chain, show (segs 𝒱₀ L lv (E m) () (pdats m) (reg0 m) (reg1 m) c).map Pipeline.Seg.prog = [
          Prog.lift (.customCall (Pipeline.entry 0) ()), Prog.lift (.customCall (Pipeline.entry 1) ()) ] from rfl]
      dsimp (config := { failIfUnchanged := false }) only
      exact .rfl)
    (fun c => by simp only [segs, Pipeline.Seg.pipes_host, Pipeline.Seg.pipes_region, Pipeline.Seg.pipes_nil]; decide)
    (O₀ := fun d => owe (dues0 d)) (hL := L_of_ne) (G := carry) (u₀ := u₀)
    (hu₀ := by
      unfold u₀
      iintro Hu
      ihave H := (ownU_pair _ _) $$ Hu
      icases H with ⟨HP, HX⟩
      imodintro
      isplitl [HP]; · iexact HP
      rw [carry_all]; iexact HX)
    (T₀ := T₀ m) (Tₙ := Tₙ m)
    (hch := fun c => ⟨pre0 m c, (post0 m c).trans (pre1 m c), (post1 m c).trans (by
      show iprop(_ ∗ ((semVal (barCell 0 c) 0 ∗ semVal (barCell 1 c) 0) ∗ ∃ W, owes (c : Thread nD τ) (0 : CellTallies nD τ sig Unit) W)) ⊢ iprop((_ ∗ semVal (barCell 0 c) 0 ∗ semVal (barCell 1 c) 0) ∗ ∃ W, owes (c : Thread nD τ) (0 : CellTallies nD τ sig Unit) W)
      iintro ⟨Hm, Hb, HO⟩
      isplitl [Hm Hb]
      · isplitl [Hm]; · iexact Hm
        iexact Hb
      iexact HO)⟩)
    (hinit := init m ρ)
    (QY := ends m)
    (hfin := fun c s' => by
      unfold ends Tₙ StableHlo.held
      iintro ⟨⟨Hm, Hb0, Hb1⟩, HSI⟩
      icombine HSI Hb0 gives %h0
      icombine HSI Hb1 gives %h1
      ihave Hr := (pointsTo_read_all (Pipeline.ucRefs τ sig) (fun b => ((c : Thread nD τ).1, b)) (V2 m (outs m) c) s') $$ [Hm HSI]
      · isplitl [Hm] <;> iassumption
      icases Hr with ⟨%h, HSI⟩
      imodintro
      isplitr
      · ipureintro
        exact ⟨fun r hr => h (Proc.devRef .tc r) hr, by simpa using h0, by simpa using h1⟩
      iexact HSI)
    (hQ := fun s h hs => ⟨fun c =>
        ⟨⟨((h c).1 main_arg0 (by decide)).trans (V2_main_arg0 m (outs m) c), ((h c).1 main_arg1 (by decide)).trans (V2_main_arg1 m (outs m) c),
          ((h c).1 main_arg2 (by decide)).trans (V2_main_arg2 m (outs m) c), ((h c).1 main_arg3 (by decide)).trans (V2_main_arg3 m (outs m) c),
          ((h c).1 main_arg4 (by decide)).trans (V2_main_arg4 m (outs m) c), ((h c).1 main_arg5 (by decide)).trans (V2_main_arg5 m (outs m) c),
          ((h c).1 main_arg6 (by decide)).trans (V2_main_arg6 m (outs m) c), ((h c).1 main_arg7 (by decide)).trans (V2_main_arg7 m (outs m) c)⟩,
          ((h c).1 main_v2 (by decide)).trans (V2_v2 m c)⟩,
      sem_eq_zero hs fun c sm hsm => by
        rcases unscoped_sem sm hsm with rfl | rfl
        · exact (h c).2.1
        · exact (h c).2.2⟩)

end Cert.Proof

end
-- ==== Proof.Same.lean ====
/- The printed kernel and the kernel read over the reals are one program but for the name of one literal: their body tables agree over any float values once the name is read as the literal. -/
module

public import proofs.«01_k».proof.Proof.Gen.Kernel
public import proofs.«01_k».proof.Proof.Gen.KernelIdeal

@[expose] public section

noncomputable section

namespace Cert.Proof

open Idealize.ShloMosaic Idealize.SL.Sem

variable {F : FTy → Type} [FloatOps F]

/-- Over any float values, the name of the scale read as the literal that carries it. -/
abbrev literal : Named F := ⟨fun _ _ φ b => FloatOps.ofBits φ b⟩

/-- Label by label the two programs run the same body, the name being read as its literal. -/
theorem bodies_same : Cert.Kernel.defs₀ (F := F) = @Cert.KernelIdeal.defs₀ F _ literal _ := by
  refine congrArg Defs.onTc (funext fun l => funext fun a => ?_)
  match l, a with
  | 0, a => exact rfl
  | 1, a => exact rfl

/-- The two programs' tables are equal. -/
theorem defs_same : Cert.Kernel.defs (F := F) = @Cert.KernelIdeal.defs F _ literal _ :=
  congrArg (Pipeline.defs (Cert.KernelIdeal.pcfgs (F := F))) bodies_same

end Cert.Proof

end
-- ==== Proof.Spec.lean ====
/-
  What is to be computed, as sums over the extended reals: projections, one head's attention on one row, and the output projection.
-/
module

public import Idealize.ShloMosaic.PureOps.Ideal
public import Mathlib.Data.Finset.Fold

@[expose] public section

noncomputable section

namespace Cert.Proof

open Idealize.ShloMosaic

/-- The product of two matrices. -/
def mm {a b c : ℕ} (l : Fin a → Fin b → EReal) (r : Fin b → Fin c → EReal) (i : Fin a) (j : Fin c) : EReal := ∑ k, l i k * r k j

/-- Where head `h` keeps its coordinate `d` among the 2048 columns; -/
def hd (h : Fin 16) (d : Fin 128) : Fin 2048 := ⟨h.val * 128 + d.val, by omega⟩
/-- its rotary coordinate `e` among the 512. -/
def hr (h : Fin 16) (e : Fin 32) : Fin 512 := ⟨h.val * 32 + e.val, by omega⟩

/-- The scale of the scores: one over the root of the 128 + 32 coordinates they are products of. -/
def scale : EReal := (((Real.sqrt 160)⁻¹ : ℝ) : EReal)
/-- The scores of one query row against every key; -/
def score (q : Fin 128 → EReal) (qr : Fin 32 → EReal) (K : Fin 1024 → Fin 128 → EReal) (KR : Fin 1024 → Fin 32 → EReal) (k : Fin 1024) : EReal :=
  (∑ d, q d * K k d + ∑ e, qr e * KR k e) * scale
/-- the greatest; -/
def top (s : Fin 1024 → EReal) : EReal := Finset.univ.fold max (Ideal.ofBits .f32 0xFF800000#32) s
/-- how far each is from it, exponentiated; -/
def lift (s : Fin 1024 → EReal) (k : Fin 1024) : EReal := Ideal.exp (s k - top s)
/-- the values weighted by these, each over the sum of them. -/
def attend (s : Fin 1024 → EReal) (V : Fin 1024 → Fin 128 → EReal) (d : Fin 128) : EReal :=
  ∑ k, Ideal.div (lift s k) (∑ k', lift s k') * V k d

/-- The eight arguments as matrices. -/
structure Par where
  x : Fin 1024 → Fin 2048 → EReal
  wd : Fin 2048 → Fin 512 → EReal
  wk : Fin 512 → Fin 2048 → EReal
  wv : Fin 512 → Fin 2048 → EReal
  wq : Fin 2048 → Fin 2048 → EReal
  wqr : Fin 2048 → Fin 512 → EReal
  wkr : Fin 2048 → Fin 32 → EReal
  wo : Fin 2048 → Fin 2048 → EReal

/-- Row `s` of head `h`, before the output projection; -/
def headRow (Q K V : Fin 1024 → Fin 2048 → EReal) (QR : Fin 1024 → Fin 512 → EReal) (KR : Fin 1024 → Fin 32 → EReal)
    (s : Fin 1024) (h : Fin 16) : Fin 128 → EReal :=
  attend (score (fun d => Q s (hd h d)) (fun e => QR s (hr h e)) (fun k d => K k (hd h d)) KR) (fun k d => V k (hd h d))
/-- all heads side by side. -/
def headsRow (Q K V : Fin 1024 → Fin 2048 → EReal) (QR : Fin 1024 → Fin 512 → EReal) (KR : Fin 1024 → Fin 32 → EReal)
    (s : Fin 1024) (j : Fin 2048) : EReal :=
  headRow Q K V QR KR s ⟨j.val / 128, by omega⟩ ⟨j.val % 128, Nat.mod_lt _ (by decide)⟩

/-- The whole computation. -/
def target (P : Par) : Fin 1024 → Fin 2048 → EReal :=
  mm (headsRow (mm P.x P.wq) (mm (mm P.x P.wd) P.wk) (mm (mm P.x P.wd) P.wv) (mm P.x P.wqr) (mm P.x P.wkr)) P.wo

end Cert.Proof

end
-- ==== Proof.RefVal.lean ====
/- The reference's result over the extended reals, read at an index. -/
module

public import proofs.«01_k».proof.Proof.Spec
public import proofs.«01_k».proof.Proof.Gen.ReferenceIdeal.Run
public import Idealize.ShloMosaic.Lib.Pointwise

@[expose] public section

set_option maxRecDepth 16384

noncomputable section

namespace Cert.Proof.Ref

open Cert.ReferenceIdeal Cert.ReferenceIdeal.Gen
open Idealize.ShloMosaic

/-- An array of the reference, over the extended reals. -/
abbrev Arr (s : Shape) : Type := s.Idx → Elt Ideal .f32

/-- The latent; -/
def lat (x : Arr S1x1024x2048) (w : Arr S2048x512) : Arr S1x1024x512 :=
  Host.dotGeneral (F := Ideal) (φ₁ := .f32) (φ₂ := .f32) dot_S1x1024x2048_S2048x512_S1x1024x512_2_0_01_1_n_n none x w
/-- the keys or the values, head by head; -/
def up (l : Arr S1x1024x512) (w : Arr S512x2048) : Arr S1x1024x16x128 :=
  shapeCast S1x1024x16x128 (Host.dotGeneral (F := Ideal) (φ₁ := .f32) (φ₂ := .f32) dot_S1x1024x512_S512x2048_S1x1024x2048_2_0_01_1_n_n none l w) shapeCasts_S1x1024x2048_S1x1024x16x128
/-- the queries, head by head; -/
def qry (x : Arr S1x1024x2048) (w : Arr S2048x2048) : Arr S1x1024x16x128 :=
  shapeCast S1x1024x16x128 (Host.dotGeneral (F := Ideal) (φ₁ := .f32) (φ₂ := .f32) dot_S1x1024x2048_S2048x2048_S1x1024x2048_2_0_01_1_n_n none x w) shapeCasts_S1x1024x2048_S1x1024x16x128
/-- the rotary queries; -/
def qryR (x : Arr S1x1024x2048) (w : Arr S2048x512) : Arr S1x1024x16x32 :=
  shapeCast S1x1024x16x32 (lat x w) shapeCasts_S1x1024x512_S1x1024x16x32
/-- the rotary keys, one for all heads; -/
def keyR (x : Arr S1x1024x2048) (w : Arr S2048x32) : Arr S1x1024x16x32 :=
  broadcastInDim S1x1024x16x32 ![0, 1, 2, 3] bcast_S1x1024x1x32_S1x1024x16x32_0_1_2_3
    (shapeCast S1x1024x1x32 (Host.dotGeneral (F := Ideal) (φ₁ := .f32) (φ₂ := .f32) dot_S1x1024x2048_S2048x32_S1x1024x32_2_0_01_1_n_n none x w) shapeCasts_S1x1024x32_S1x1024x1x32)
/-- the scaled scores; -/
def sco (q k : Arr S1x1024x16x128) (qr kr : Arr S1x1024x16x32) : Arr S1x16x1024x1024 :=
  mulf (F := Ideal) (φ := .f32) (addf (F := Ideal) (φ := .f32)
      (Host.dotGeneral (F := Ideal) (φ₁ := .f32) (φ₂ := .f32) dot_S1x1024x16x128_S1x1024x16x128_S1x16x1024x1024_3_3_1_1_02_02 none q k)
      (Host.dotGeneral (F := Ideal) (φ₁ := .f32) (φ₂ := .f32) dot_S1x1024x16x32_S1x1024x16x32_S1x16x1024x1024_3_3_1_1_02_02 none qr kr))
    (broadcastInDim S1x16x1024x1024 ![] bcast_S_S1x16x1024x1024 (Host.rsqrt (F := Ideal) (φ := .f32) (constant (F := Ideal) S_ .f32 0x43200000#32)))
/-- spread over the keys again; -/
def wide (a : Arr S1x16x1024) : Arr S1x16x1024x1024 :=
  broadcastInDim S1x16x1024x1024 ![0, 1, 2, 3] bcast_S1x16x1024x1_S1x16x1024x1024_0_1_2_3 (broadcastInDim S1x16x1024x1 ![0, 1, 2] bcast_S1x16x1024_S1x16x1024x1_0_1_2 a)
/-- exponentials of the distance from the greatest; -/
def ups (s : Arr S1x16x1024x1024) : Arr S1x16x1024x1024 :=
  Host.exp (F := Ideal) (φ := .f32) (subf (F := Ideal) (φ := .f32) s (wide
    (Host.reduce (FloatOps.maximumf (F := Ideal) (φ := .f32)) s (constant (F := Ideal) S_ .f32 0xFF800000#32) reducesTo_S1x16x1024x1024_S1x16x1024_d3 h_S_)))
/-- the weights; -/
def wts (e : Arr S1x16x1024x1024) : Arr S1x16x1024x1024 :=
  Host.divf (F := Ideal) (φ := .f32) e (wide (Host.reduceAdd (F := Ideal) (φ := .f32) e (constant (F := Ideal) S_ .f32 0x00000000#32) reducesTo_S1x16x1024x1024_S1x16x1024_d3 h_S_))
/-- the heads side by side; -/
def mix (v : Arr S1x1024x16x128) (p : Arr S1x16x1024x1024) : Arr S1x1024x2048 :=
  shapeCast S1x1024x2048 (transpose S1x1024x16x128 [0, 3, 1, 2]
    (Host.dotGeneral (F := Ideal) (φ₁ := .f32) (φ₂ := .f32) dot_S1x1024x16x128_S1x16x1024x1024_S1x16x128x1024_1_3_3_2_02_01 none v p)
    transposes_S1x16x128x1024_S1x1024x16x128_0_3_1_2) shapeCasts_S1x1024x16x128_S1x1024x2048
/-- the output projection. -/
def fin (o : Arr S1x1024x2048) (w : Arr S2048x2048) : Arr S1x1024x2048 :=
  Host.dotGeneral (F := Ideal) (φ₁ := .f32) (φ₂ := .f32) dot_S1x1024x2048_S2048x2048_S1x1024x2048_2_0_01_1_n_n none o w

/-- The whole. -/
def all (x : Arr S1x1024x2048) (wd : Arr S2048x512) (wk wv : Arr S512x2048) (wq : Arr S2048x2048) (wqr : Arr S2048x512) (wkr : Arr S2048x32) (wo : Arr S2048x2048) :
    Arr S1x1024x2048 :=
  fin (mix (up (lat x wd) wv) (wts (ups (sco (qry x wq) (up (lat x wd) wk) (qryR x wqr) (keyR x wkr))))) wo

theorem lat_at (x : Arr S1x1024x2048) (w : Arr S2048x512) (s : Fin 1024) (n : Fin 512) :
    lat x w (ix3 0 s n) = ∑ d : Fin 2048, x (ix3 0 s d) * w (ix2 d n) := by
  pointwise [lat]
theorem up_at (l : Arr S1x1024x512) (w : Arr S512x2048) (s : Fin 1024) (h : Fin 16) (d : Fin 128) :
    up l w (ix4 0 s h d) = ∑ r : Fin 512, l (ix3 0 s r) * w (ix2 r (hd h d)) := by
  pointwise [up, hd]
theorem qry_at (x : Arr S1x1024x2048) (w : Arr S2048x2048) (s : Fin 1024) (h : Fin 16) (d : Fin 128) :
    qry x w (ix4 0 s h d) = ∑ r : Fin 2048, x (ix3 0 s r) * w (ix2 r (hd h d)) := by
  pointwise [qry, hd]
theorem qryR_at (x : Arr S1x1024x2048) (w : Arr S2048x512) (s : Fin 1024) (h : Fin 16) (d : Fin 32) :
    qryR x w (ix4 0 s h d) = ∑ r : Fin 2048, x (ix3 0 s r) * w (ix2 r (hr h d)) := by
  pointwise [qryR, lat, hr]
theorem keyR_at (x : Arr S1x1024x2048) (w : Arr S2048x32) (s : Fin 1024) (h : Fin 16) (d : Fin 32) :
    keyR x w (ix4 0 s h d) = ∑ r : Fin 2048, x (ix3 0 s r) * w (ix2 r d) := by
  pointwise [keyR]
/-- The reference's root, inverted, of 160 is the scale. -/
theorem scale_eq : Ideal.rsqrt (Ideal.ofBits .f32 0x43200000#32) = scale := by
  have h : Ideal.ofBits .f32 0x43200000#32 = ((160 : ℝ) : EReal) := by
    simp [Ideal.ofBits, Ideal.ieee, -EReal.coe_mul]; norm_num
  rw [h, Ideal.rsqrt_coe, if_neg (by norm_num), if_neg (by norm_num)]
  rfl
theorem sco_at (q k : Arr S1x1024x16x128) (qr kr : Arr S1x1024x16x32) (h : Fin 16) (s t : Fin 1024) :
    sco q k qr kr (ix4 0 h s t) = (∑ d : Fin 128, q (ix4 0 s h d) * k (ix4 0 t h d) + ∑ e : Fin 32, qr (ix4 0 s h e) * kr (ix4 0 t h e)) * scale := by
  rw [← scale_eq]
  pointwise [sco]
theorem ups_at (a : Arr S1x16x1024x1024) (h : Fin 16) (s t : Fin 1024) :
    ups a (ix4 0 h s t) = lift (fun t => a (ix4 0 h s t)) t := by
  pointwise [ups, wide, lift, top]
theorem wts_at (a : Arr S1x16x1024x1024) (h : Fin 16) (s t : Fin 1024) :
    wts a (ix4 0 h s t) = Ideal.div (a (ix4 0 h s t)) (∑ t', a (ix4 0 h s t')) := by
  pointwise [wts, wide]
theorem mix_at (v : Arr S1x1024x16x128) (p : Arr S1x16x1024x1024) (s : Fin 1024) (j : Fin 2048) :
    mix v p (ix3 0 s j) = ∑ t : Fin 1024, p (ix4 0 ⟨j.val / 128, by omega⟩ s t) * v (ix4 0 t ⟨j.val / 128, by omega⟩ ⟨j.val % 128, Nat.mod_lt _ (by decide)⟩) := by
  pointwise [mix]
  exact Finset.sum_congr rfl fun t _ => mul_comm _ _
theorem fin_at (o : Arr S1x1024x2048) (w : Arr S2048x2048) (s : Fin 1024) (n : Fin 2048) :
    fin o w (ix3 0 s n) = ∑ j : Fin 2048, o (ix3 0 s j) * w (ix2 j n) := by
  pointwise [fin]

/-- The arguments as matrices. -/
def par (x : Arr S1x1024x2048) (wd : Arr S2048x512) (wk wv : Arr S512x2048) (wq : Arr S2048x2048) (wqr : Arr S2048x512) (wkr : Arr S2048x32) (wo : Arr S2048x2048) : Par where
  x s d := x (ix3 0 s d)
  wd d n := wd (ix2 d n)
  wk d n := wk (ix2 d n)
  wv d n := wv (ix2 d n)
  wq d n := wq (ix2 d n)
  wqr d n := wqr (ix2 d n)
  wkr d n := wkr (ix2 d n)
  wo d n := wo (ix2 d n)

/-- The whole, at an index. -/
theorem all_at (x : Arr S1x1024x2048) (wd : Arr S2048x512) (wk wv : Arr S512x2048) (wq : Arr S2048x2048) (wqr : Arr S2048x512) (wkr : Arr S2048x32) (wo : Arr S2048x2048)
    (s : Fin 1024) (n : Fin 2048) : all x wd wk wv wq wqr wkr wo (ix3 0 s n) = target (par x wd wk wv wq wqr wkr wo) s n := by
  simp only [all, fin_at, mix_at, wts_at, ups_at, sco_at, up_at, lat_at, qry_at, qryR_at, keyR_at]
  rfl

/-- The reference's result is that. -/
theorem res_eq (m : (ℓ : Loc nD τ sig) → Buf (Elt Ideal) ℓ) (c : Dev nD) :
    Cert.ReferenceIdeal.Value.res_main_v30 m c
      = all (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) (m ((c.tc : Thread nD τ).loc main_arg7)) := rfl

end Cert.Proof.Ref

end
-- ==== Proof.KerVal.lean ====
/- The two kernels' values over the extended reals, read at an index. -/
module

public import proofs.«01_k».proof.Proof.Spec
public import proofs.«01_k».proof.Proof.Vals1
public import Idealize.ShloMosaic.Lib.Pointwise
public import Idealize.ShloMosaic.Lib.Pointwise.IndexBridge

@[expose] public section

set_option maxRecDepth 16384

noncomputable section

namespace Cert.Proof

open Cert.KernelIdeal Cert.KernelIdeal.Gen
open Idealize.ShloMosaic

/-! ## One product -/

/-- A head's attention on a block of rows: each row against all the keys. -/
theorem pay5_at (kr : Vec Ideal S1024x32 .bf16) (q : Vec Ideal S128x128 .bf16) (k v : Vec Ideal S1024x128 .bf16) (qr : Vec Ideal S128x32 .bf16) (r d : Fin 128) :
    k1_pay5 (F := Ideal) kr q k v qr (ix2 r d)
      = attend (score (fun d => q (ix2 r d)) (fun e => qr (ix2 r e)) (fun t d => k (ix2 t d)) (fun t e => kr (ix2 t e))) (fun t d => v (ix2 t d)) d := by
  have e : ∀ b : BitVec 32, Named.named (F := Ideal) (φ := .f32) Cert.KernelIdeal.κ "scale" b = scale := fun _ => rfl
  pointwise [k1_pay5, attend, score, lift, top, e]

theorem latent_at (X : In0 Ideal) (b : Fin 4) (r : Fin 256) (n : Fin 128) :
    laBlk X b (ix2 r n) = ∑ d : Fin 2048, xBlk X b (ix3 0 r d) * X.wd (ix2 d n) := by
  match b with
  | 0 => pointwise [laBlk, k0_pay7, k0_pay6, k0_pay5, k0_pay3]
  | 1 => pointwise [laBlk, k0_pay10, k0_pay9, k0_pay3]
  | 2 => pointwise [laBlk, k0_pay13, k0_pay12, k0_pay3]
  | 3 => pointwise [laBlk, k0_pay16, k0_pay15, k0_pay3]
theorem rotary_at (X : In0 Ideal) (b : Fin 4) (r : Fin 256) (n : Fin 32) :
    krBlk X b (ix2 r n) = ∑ d : Fin 2048, xBlk X b (ix3 0 r d) * X.wkr (ix2 d n) := by
  match b with
  | 0 => pointwise [krBlk, k0_pay8, k0_pay4, k0_pay5]
  | 1 => pointwise [krBlk, k0_pay11, k0_pay9, k0_pay4]
  | 2 => pointwise [krBlk, k0_pay14, k0_pay12, k0_pay4]
  | 3 => pointwise [krBlk, k0_pay17, k0_pay15, k0_pay4]

theorem qOf_at (c : Dev nD) (X : In0 Ideal) (r : Fin 256) (n : Fin 2048) :
    qOf c X (ix2 r n) = ∑ d : Fin 2048, xOwn c X (ix3 0 r d) * X.wq (ix2 d n) := by
  pointwise [qOf, k0_pay19, k0_pay18]
theorem qrOf_at (c : Dev nD) (X : In0 Ideal) (r : Fin 256) (n : Fin 512) :
    qrOf c X (ix2 r n) = ∑ d : Fin 2048, xOwn c X (ix3 0 r d) * X.wqr (ix2 d n) := by
  pointwise [qrOf, k0_pay20, k0_pay18]
/-- One device's share of the keys. -/
def slab (l : Vec Ideal S1024x128 .bf16) (w : Vec Ideal S128x2048 .f32) (s : Fin 1024) (n : Fin 2048) : EReal := ∑ r : Fin 128, l (ix2 s r) * w (ix2 r n)

theorem kOf_at (X : Dev nD → In0 Ideal) (c : Dev nD) (s : Fin 1024) (n : Fin 2048) :
    kOf X c (ix2 s n) = slab (la (X c)) (X c).wk s n + slab (la (X (pv 0 c))) (X (pv 0 c)).wk s n
      + slab (la (X (pv 2 c))) (X (pv 2 c)).wk s n + slab (la (X (pv 1 c))) (X (pv 1 c)).wk s n := by
  pointwise [kOf, slab, k0_pay27, k0_pay25, k0_pay23, k0_pay21, k0_pay1]
theorem vOf_at (X : Dev nD → In0 Ideal) (c : Dev nD) (s : Fin 1024) (n : Fin 2048) :
    vOf X c (ix2 s n) = slab (la (X c)) (X c).wv s n + slab (la (X (pv 0 c))) (X (pv 0 c)).wv s n
      + slab (la (X (pv 2 c))) (X (pv 2 c)).wv s n + slab (la (X (pv 1 c))) (X (pv 1 c)).wv s n := by
  pointwise [vOf, slab, k0_pay28, k0_pay26, k0_pay24, k0_pay22, k0_pay2]

/-! ## Rectangles of staging buffers -/

/-- A rectangle of a whole buffer loaded, at an index. -/
theorem load_in {F : FTy → Type} (b : Ref sig .tc) (off size : Fin b.ty.shape.rank → ℕ) (inb : ∀ a, off a + size a ≤ b.ty.shape.size a)
    (f : b.ty.Contents (Elt F)) (x : b.ty.shape.Idx)
    (y : (Rect.unit off size inb).shape.Idx) (h : ∀ a, (x a).val = off a + (y a).val) :
    (Memref.whole b).view.readAt (Elt F) (Rect.unit off size inb).toLoadRect f y = f x :=
  read_in b off size inb f x y h

theorem xBlk_at (X : In0 Ideal) (b : Fin 4) (r : Fin 256) (d : Fin 2048) :
    xBlk X b (ix3 0 r d) = X.x (ix3 0 (⟨256 * b.val + r.val, by omega⟩ : Fin 1024) d) := by
  match b with
  | 0 => exact load_in cc0_stg0_0 _ _ _ _ _ _ (fun a => by match a with | ⟨0, _⟩ => rfl | ⟨1, _⟩ => rfl | ⟨2, _⟩ => exact (Nat.zero_add _).symm)
  | 1 => exact load_in cc0_stg0_0 _ _ _ _ _ _ (fun a => by match a with | ⟨0, _⟩ => rfl | ⟨1, _⟩ => rfl | ⟨2, _⟩ => exact (Nat.zero_add _).symm)
  | 2 => exact load_in cc0_stg0_0 _ _ _ _ _ _ (fun a => by match a with | ⟨0, _⟩ => rfl | ⟨1, _⟩ => rfl | ⟨2, _⟩ => exact (Nat.zero_add _).symm)
  | 3 => exact load_in cc0_stg0_0 _ _ _ _ _ _ (fun a => by match a with | ⟨0, _⟩ => rfl | ⟨1, _⟩ => rfl | ⟨2, _⟩ => exact (Nat.zero_add _).symm)
theorem xOwn_at (c : Dev nD) (X : In0 Ideal) (r : Fin 256) (d : Fin 2048) :
    xOwn c X (ix3 0 r d) = X.x (ix3 0 (⟨256 * c.val + r.val, by have : c.val < 4 := c.isLt; omega⟩ : Fin 1024) d) :=
  load_in cc0_stg0_0 _ _ _ _ _ _ (fun a => by
    match a with
    | ⟨0, _⟩ => exact (congrArg (· + 0) (congrFun (o0_8 c) 0)).symm
    | ⟨1, _⟩ => exact (congrArg (· + r.val) (congrFun (o0_8 c) 1)).symm
    | ⟨2, _⟩ => exact ((congrArg (· + d.val) (congrFun (o0_8 c) 2)).trans (Nat.zero_add _)).symm)

theorem qB_at (X : In1 Ideal) (h : Fin 2) (j : Fin 16) (r d : Fin 128) :
    qB X h j (ix2 r d) = X.q (ix2 (⟨128 * h.val + r.val, by omega⟩ : Fin 256) (⟨128 * j.val + d.val, by omega⟩ : Fin 2048)) :=
  load_in cc1_stg0_0 _ _ _ _ _ _ (fun a => by match a with | ⟨0, _⟩ => rfl | ⟨1, _⟩ => rfl)
theorem qrB_at (X : In1 Ideal) (h : Fin 2) (j : Fin 16) (r : Fin 128) (d : Fin 32) :
    qrB X h j (ix2 r d) = X.qr (ix2 (⟨128 * h.val + r.val, by omega⟩ : Fin 256) (⟨32 * j.val + d.val, by omega⟩ : Fin 512)) :=
  load_in cc1_stg1_0 _ _ _ _ _ _ (fun a => by match a with | ⟨0, _⟩ => rfl | ⟨1, _⟩ => rfl)
theorem kB_at (X : In1 Ideal) (j : Fin 16) (t : Fin 1024) (d : Fin 128) :
    kB X j (ix2 t d) = X.k (ix2 t (⟨128 * j.val + d.val, by omega⟩ : Fin 2048)) :=
  load_in cc1_stg3_0 _ _ _ _ _ _ (fun a => by match a with | ⟨0, _⟩ => exact (Nat.zero_add _).symm | ⟨1, _⟩ => rfl)
theorem vB_at (X : In1 Ideal) (j : Fin 16) (t : Fin 1024) (d : Fin 128) :
    vB X j (ix2 t d) = X.v (ix2 t (⟨128 * j.val + d.val, by omega⟩ : Fin 2048)) :=
  load_in cc1_stg4_0 _ _ _ _ _ _ (fun a => by match a with | ⟨0, _⟩ => exact (Nat.zero_add _).symm | ⟨1, _⟩ => rfl)
theorem gotP_at (f : (chRef 3).ty.Contents (Elt Ideal)) (s : Dev nD) (r : Fin 256) (n : Fin 2048) :
    gotP f s (ix2 r n) = f (ix2 (⟨256 * s.val + r.val, by have : s.val < 4 := s.isLt; omega⟩ : Fin 1024) n) :=
  read_in cc1_scratch0 _ _ _ _ _ _ (fun a => by match a with | ⟨0, _⟩ => rfl | ⟨1, _⟩ => exact (Nat.zero_add _).symm)

/-! ## Blocks put together -/

theorem la_at (X : In0 Ideal) (s : Fin 1024) (n : Fin 128) :
    la X (ix2 s n) = mm (fun s d => X.x (ix3 0 s d)) (fun d n => X.wd (ix2 d n)) s n := by
  have e : la X (ix2 s n) = laBlk X ⟨s.val / 256, by omega⟩ (ix2 ⟨s.val % 256, Nat.mod_lt _ (by decide)⟩ n) := by
    rw [ix2_eq_valueIdx (n0 := 256)]; rfl
  rw [e, latent_at]
  refine Finset.sum_congr rfl fun d _ => ?_
  rw [xBlk_at]
  have e2 : (⟨256 * (s.val / 256) + s.val % 256, by omega⟩ : Fin 1024) = s := Fin.ext (Nat.div_add_mod _ _)
  rw [e2]
theorem kr_at (X : In0 Ideal) (s : Fin 1024) (n : Fin 32) :
    kr X (ix2 s n) = mm (fun s d => X.x (ix3 0 s d)) (fun d n => X.wkr (ix2 d n)) s n := by
  have e : kr X (ix2 s n) = krBlk X ⟨s.val / 256, by omega⟩ (ix2 ⟨s.val % 256, Nat.mod_lt _ (by decide)⟩ n) := by
    rw [ix2_eq_valueIdx (n0 := 256)]; rfl
  refine e.trans ((rotary_at _ _ _ _).trans (Finset.sum_congr rfl fun d _ => ?_))
  rw [xBlk_at]
  have e2 : (⟨256 * (s.val / 256) + s.val % 256, by omega⟩ : Fin 1024) = s := Fin.ext (Nat.div_add_mod _ _)
  rw [e2]

theorem head_at (X : In1 Ideal) (h : Fin 2) (j : Fin 16) (r d : Fin 128) :
    head X h j (ix2 r d)
      = attend (score (fun d => qB X h j (ix2 r d)) (fun e => qrB X h j (ix2 r e)) (fun t d => kB X j (ix2 t d)) (fun t e => X.kr (ix2 t e))) (fun t d => vB X j (ix2 t d)) d := by
  have e : ∀ (t : Fin 1024) (e : Fin 32), k1_pay1 X.kr (ix2 t e) = X.kr (ix2 t e) := fun t e => by pointwise [k1_pay1]
  unfold head
  rw [pay5_at]
  simp only [e]

/-- The heads side by side: coordinate `d` of head `j`. -/
theorem beside (hds : Fin 16 → FVec Ideal S128x128 .bf16) (r : Fin 128) (n : Fin 2048) :
    concatenate S128x2048 1 [⟨S128x128, hds 0⟩, ⟨S128x128, hds 1⟩, ⟨S128x128, hds 2⟩, ⟨S128x128, hds 3⟩, ⟨S128x128, hds 4⟩, ⟨S128x128, hds 5⟩, ⟨S128x128, hds 6⟩, ⟨S128x128, hds 7⟩, ⟨S128x128, hds 8⟩, ⟨S128x128, hds 9⟩, ⟨S128x128, hds 10⟩, ⟨S128x128, hds 11⟩, ⟨S128x128, hds 12⟩, ⟨S128x128, hds 13⟩, ⟨S128x128, hds 14⟩, ⟨S128x128, hds 15⟩] concatenates_S128x128_S128x128_S128x128_S128x128_S128x128_S128x128_S128x128_S128x128_S128x128_S128x128_S128x128_S128x128_S128x128_S128x128_S128x128_S128x128_S128x2048_d1 (ix2 r n)
      = hds ⟨n.val / 128, by omega⟩ (ix2 r ⟨n.val % 128, Nat.mod_lt _ (by decide)⟩) :=
  concatenate_ofFn_apply 1 hds concatenates_S128x128_S128x128_S128x128_S128x128_S128x128_S128x128_S128x128_S128x128_S128x128_S128x128_S128x128_S128x128_S128x128_S128x128_S128x128_S128x128_S128x2048_d1 rfl 128 rfl (ix2 r n) ⟨n.val / 128, by omega⟩ rfl (ix2 r ⟨n.val % 128, Nat.mod_lt _ (by decide)⟩) rfl
    (fun b hb => by match b with | ⟨0, _⟩ => rfl | ⟨1, _⟩ => exact absurd rfl hb)

/-- A row of the heads against the output projection. -/
theorem out_product (l : FVec Ideal S128x2048 .bf16) (w : FVec Ideal S2048x2048 .f32) (r : Fin 128) (n : Fin 2048) :
    matmul dot_S128x2048_S2048x2048_S128x2048_1_0_0_1_n_n none (extf .f32 l bitsLt_bf16_f32)
      (shapeCast S2048x2048 w shapeCasts_S2048x2048_S2048x2048) (constant S128x2048 .f32 0x00000000#32) (ix2 r n)
      = mm (fun r j => l (ix2 r j)) (fun j n => w (ix2 j n)) r n := by
  pointwise [mm]

theorem outB_at (X : In1 Ideal) (h : Fin 2) (r : Fin 128) (n : Fin 2048) :
    outB X h (ix2 r n) = mm (fun r (j : Fin 2048) => head X h ⟨j.val / 128, by omega⟩ (ix2 r ⟨j.val % 128, Nat.mod_lt _ (by decide)⟩)) (fun j n => X.wo (ix2 j n)) r n := by
  unfold outB proj
  refine (out_product _ _ r n).trans ?_
  simp only [beside]

/-! ## The result's rows, wherever they were computed -/

theorem pay38_at (o : FVec Ideal S128x2048 .f32) (r : Fin 128) (n : Fin 2048) : k1_pay38 o (ix3 0 r n) = o (ix2 r n) := by
  pointwise [k1_pay38]
theorem pay39_at (o : FVec Ideal S128x2048 .f32) (r : Fin 128) (n : Fin 2048) : k1_pay39 o (ix2 r n) = o (ix2 r n) := by
  pointwise [k1_pay39]
theorem pay77_at (o : Vec Ideal S256x2048 .bf16) (r : Fin 256) (n : Fin 2048) : k1_pay77 o (ix3 0 r n) = o (ix2 r n) := by
  pointwise [k1_pay77]

/-- Row `s` of the result is row `s % 128` of half `s / 128 % 2` of device `s / 256`, on every device. -/
theorem yOf_at (X : Dev nD → In1 Ideal) (c : Dev nD) (s : Fin 1024) (n : Fin 2048) :
    yOf X c (ix3 0 s n)
      = outB (X (⟨s.val / 256, by show _ < 4; omega⟩ : Dev nD)) ⟨s.val / 128 % 2, Nat.mod_lt _ (by decide)⟩ (ix2 ⟨s.val % 128, Nat.mod_lt _ (by decide)⟩ n) := by
  by_cases hc : s.val / 256 = c.val
  · have e : yOf X c (ix3 0 s n)
        = k1_pay38 (outB (X c) ⟨s.val / 128 % 2, Nat.mod_lt _ (by decide)⟩) (ix3 0 ⟨s.val % 128, Nat.mod_lt _ (by decide)⟩ n) := by
      rw [ix3_eq_valueIdx (n1 := 128)]; exact if_pos hc
    have ec : (⟨s.val / 256, by show _ < 4; omega⟩ : Dev nD) = c := Fin.ext hc
    rw [ec]
    exact e.trans (pay38_at _ _ _)
  · have e : yOf X c (ix3 0 s n)
        = k1_pay77 (gotP (gO X) ⟨s.val / 256, by show _ < 4; omega⟩) (ix3 0 ⟨s.val % 256, Nat.mod_lt _ (by decide)⟩ n) := by
      rw [ix3_eq_valueIdx (n1 := 256)]; exact if_neg hc
    refine e.trans ((pay77_at _ _ _).trans ((gotP_at _ _ _ _).trans ?_))
    have e2 : (⟨256 * (s.val / 256) + s.val % 256, by omega⟩ : Fin 1024) = s := Fin.ext (Nat.div_add_mod _ _)
    have e3 : gO X (ix2 s n) = k1_pay39 (outB (X (⟨s.val / 256, by show _ < 4; omega⟩ : Dev nD)) ⟨s.val / 128 % 2, Nat.mod_lt _ (by decide)⟩) (ix2 ⟨s.val % 128, Nat.mod_lt _ (by decide)⟩ n) := by
      rw [ix2_eq_valueIdx (n0 := 128)]; rfl
    refine (congrArg (fun z : Fin 1024 => gO X (ix2 z n)) e2).trans (e3.trans (pay39_at _ _ _))

end Cert.Proof

end
-- ==== Proof.Glue.lean ====
/- The second kernel's result over the extended reals is the reference's function of the whole arguments. -/
module

public import proofs.«01_k».proof.Proof.KerVal
public import proofs.«01_k».proof.Proof.Setup

@[expose] public section

set_option maxRecDepth 16384

noncomputable section

namespace Cert.Proof

open Cert.KernelIdeal Cert.KernelIdeal.Gen
open Idealize.ShloMosaic

/-- Where device `c` keeps its latent coordinate `r` among the 512. -/
def lt (c : Dev nD) (r : Fin 128) : Fin 512 := ⟨128 * c.val + r.val, by have : c.val < 4 := c.isLt; omega⟩

/-- What the devices are given, against the whole arguments `P`: device `c` holds its latent coordinates of the three projections that are split, and all of the rest. -/
structure Given (X : Dev nD → In0 Ideal) (P : Par) : Prop where
  x : ∀ c s d, (X c).x (ix3 0 s d) = P.x s d
  wd : ∀ c d r, (X c).wd (ix2 d r) = P.wd d (lt c r)
  wk : ∀ c r n, (X c).wk (ix2 r n) = P.wk (lt c r) n
  wv : ∀ c r n, (X c).wv (ix2 r n) = P.wv (lt c r) n
  wq : ∀ c d n, (X c).wq (ix2 d n) = P.wq d n
  wqr : ∀ c d n, (X c).wqr (ix2 d n) = P.wqr d n
  wkr : ∀ c d n, (X c).wkr (ix2 d n) = P.wkr d n

/-- A sum over the four devices, started at any one of them. -/
theorem sum_round (f : Dev nD → EReal) (c : Dev nD) : f c + f (pv 0 c) + f (pv 2 c) + f (pv 1 c) = ∑ e, f e := by
  have h : (Finset.univ : Finset (Dev nD)) = {c, pv 0 c, pv 2 c, pv 1 c} := by revert c; decide
  have h1 : c ∉ ({pv 0 c, pv 2 c, pv 1 c} : Finset (Dev nD)) := by revert c; decide
  have h2 : pv 0 c ∉ ({pv 2 c, pv 1 c} : Finset (Dev nD)) := by revert c; decide
  have h3 : pv 2 c ∉ ({pv 1 c} : Finset (Dev nD)) := by revert c; decide
  rw [h, Finset.sum_insert h1, Finset.sum_insert h2, Finset.sum_insert h3, Finset.sum_singleton, add_assoc, add_assoc]

/-- A sum over the latent coordinates, device by device. -/
theorem sum_devices (g : Fin 512 → EReal) : ∑ e : Dev nD, ∑ r : Fin 128, g (lt e r) = ∑ k, g k := by
  rw [← Fintype.sum_prod_type (f := fun p : Dev nD × Fin 128 => g (lt p.1 p.2))]
  refine Fintype.sum_equiv (finProdFinEquiv (m := 4) (n := 128)) _ _ fun p => congrArg g (Fin.ext ?_)
  show 128 * p.1.val + p.2.val = p.2.val + 128 * p.1.val
  omega

/-- Two products agree at a place whose row and column do. -/
theorem mm_congr {a a' b c c' : ℕ} {l : Fin a → Fin b → EReal} {l' : Fin a' → Fin b → EReal} {r : Fin b → Fin c → EReal} {r' : Fin b → Fin c' → EReal}
    {i : Fin a} {i' : Fin a'} {j : Fin c} {j' : Fin c'} (hl : ∀ k, l i k = l' i' k) (hr : ∀ k, r k j = r' k j') : mm l r i j = mm l' r' i' j' :=
  Finset.sum_congr rfl fun k _ => congrArg₂ (· * ·) (hl k) (hr k)

variable {X : Dev nD → In0 Ideal} {P : Par} (hX : Given X P)
include hX

theorem la_eq (c : Dev nD) (s : Fin 1024) (r : Fin 128) : la (X c) (ix2 s r) = mm P.x P.wd s (lt c r) :=
  (la_at _ _ _).trans (mm_congr (hX.x c s) fun d => hX.wd c d r)
theorem kr_eq (c : Dev nD) (s : Fin 1024) (n : Fin 32) : kr (X c) (ix2 s n) = mm P.x P.wkr s n :=
  (kr_at _ _ _).trans (mm_congr (hX.x c s) fun d => hX.wkr c d n)

/-- Every device's keys are the whole arguments' keys; -/
theorem k_eq (c : Dev nD) (s : Fin 1024) (n : Fin 2048) : kOf X c (ix2 s n) = mm (mm P.x P.wd) P.wk s n := by
  have h : ∀ e, slab (la (X e)) (X e).wk s n = ∑ r : Fin 128, (mm P.x P.wd s (lt e r) * P.wk (lt e r) n) := fun e =>
    Finset.sum_congr rfl fun r _ => congrArg₂ (· * ·) (la_eq hX e s r) (hX.wk e r n)
  refine (kOf_at X c s n).trans ((sum_round (fun e => slab (la (X e)) (X e).wk s n) c).trans ?_)
  exact (Finset.sum_congr rfl fun e _ => h e).trans (sum_devices fun k => mm P.x P.wd s k * P.wk k n)
/-- its values likewise. -/
theorem v_eq (c : Dev nD) (s : Fin 1024) (n : Fin 2048) : vOf X c (ix2 s n) = mm (mm P.x P.wd) P.wv s n := by
  have h : ∀ e, slab (la (X e)) (X e).wv s n = ∑ r : Fin 128, (mm P.x P.wd s (lt e r) * P.wv (lt e r) n) := fun e =>
    Finset.sum_congr rfl fun r _ => congrArg₂ (· * ·) (la_eq hX e s r) (hX.wv e r n)
  refine (vOf_at X c s n).trans ((sum_round (fun e => slab (la (X e)) (X e).wv s n) c).trans ?_)
  exact (Finset.sum_congr rfl fun e _ => h e).trans (sum_devices fun k => mm P.x P.wd s k * P.wv k n)

/-- Where device `c` keeps its row `r` among the 1024. -/
abbrev own (c : Dev nD) (r : Fin 256) : Fin 1024 := ⟨256 * c.val + r.val, by have : c.val < 4 := c.isLt; omega⟩

theorem q_eq (c : Dev nD) (r : Fin 256) (n : Fin 2048) : qOf c (X c) (ix2 r n) = mm P.x P.wq (own c r) n :=
  (qOf_at _ _ _ _).trans (mm_congr (l := fun r d => xOwn c (X c) (ix3 0 r d)) (r := fun d n => (X c).wq (ix2 d n)) (fun d => (xOwn_at _ _ _ _).trans (hX.x c _ d)) fun d => hX.wq c d n)
theorem qr_eq (c : Dev nD) (r : Fin 256) (n : Fin 512) : qrOf c (X c) (ix2 r n) = mm P.x P.wqr (own c r) n :=
  (qrOf_at _ _ _ _).trans (mm_congr (l := fun r d => xOwn c (X c) (ix3 0 r d)) (r := fun d n => (X c).wqr (ix2 d n)) (fun d => (xOwn_at _ _ _ _).trans (hX.x c _ d)) fun d => hX.wqr c d n)

omit hX in
theorem hd_eq (j : Fin 16) (d : Fin 128) : (⟨128 * j.val + d.val, by omega⟩ : Fin 2048) = hd j d := Fin.ext (by show 128 * j.val + d.val = j.val * 128 + d.val; omega)
omit hX in
theorem hr_eq (j : Fin 16) (d : Fin 32) : (⟨32 * j.val + d.val, by omega⟩ : Fin 512) = hr j d := Fin.ext (by show 32 * j.val + d.val = j.val * 32 + d.val; omega)

/-- A head on a half of the device's rows, from what the first kernel left. -/
theorem head_eq (c : Dev nD) (Y : In1 Ideal) (hq : Y.q = qOf c (X c)) (hqr : Y.qr = qrOf c (X c)) (hkr : Y.kr = kr (X c)) (hk : Y.k = kOf X c) (hv : Y.v = vOf X c)
    (h : Fin 2) (j : Fin 16) (r d : Fin 128) :
    head Y h j (ix2 r d)
      = headRow (mm P.x P.wq) (mm (mm P.x P.wd) P.wk) (mm (mm P.x P.wd) P.wv) (mm P.x P.wqr) (mm P.x P.wkr) (own c ⟨128 * h.val + r.val, by omega⟩) j d := by
  have e1 : ∀ d, qB Y h j (ix2 r d) = mm P.x P.wq (own c ⟨128 * h.val + r.val, by omega⟩) (hd j d) := fun d => by
    rw [qB_at, hq, hd_eq]; exact q_eq hX c _ _
  have e2 : ∀ d, qrB Y h j (ix2 r d) = mm P.x P.wqr (own c ⟨128 * h.val + r.val, by omega⟩) (hr j d) := fun d => by
    rw [qrB_at, hqr, hr_eq]; exact qr_eq hX c _ _
  have e3 : ∀ t d, kB Y j (ix2 t d) = mm (mm P.x P.wd) P.wk t (hd j d) := fun t d => by
    rw [kB_at, hk, hd_eq]; exact k_eq hX c _ _
  have e4 : ∀ t d, vB Y j (ix2 t d) = mm (mm P.x P.wd) P.wv t (hd j d) := fun t d => by
    rw [vB_at, hv, hd_eq]; exact v_eq hX c _ _
  have e5 : ∀ t e, Y.kr (ix2 t e) = mm P.x P.wkr t e := fun t e => by
    rw [hkr]; exact kr_eq hX c _ _
  refine (head_at Y h j r d).trans ?_
  unfold headRow
  congr 1
  · funext t
    unfold score
    simp only [e1, e2, e3, e5]
  · funext t d
    exact e4 t d

omit hX in
/-- The result, on every device and at every place, is the whole computation's. -/
theorem y_eq (m : (l : Loc nD τ sig) → Buf (Elt Ideal) l) (h0 : Given (X0 m) P) (hwo : ∀ c j n, (X1 m c).wo (ix2 j n) = P.wo j n)
    (c : Dev nD) (s : Fin 1024) (n : Fin 2048) : yOf (X1 m) c (ix3 0 s n) = target P s n := by
  refine (yOf_at _ _ _ _).trans ((outB_at _ _ _ _).trans (mm_congr (fun j => ?_) fun j => hwo _ j n))
  refine (head_eq h0 _ _ rfl rfl rfl rfl rfl _ _ _ _).trans ?_
  have e : own (⟨s.val / 256, by show _ < 4; omega⟩ : Dev nD) ⟨128 * (s.val / 128 % 2) + s.val % 128, by omega⟩ = s :=
    Fin.ext (by show 256 * (s.val / 256) + (128 * (s.val / 128 % 2) + s.val % 128) = s.val; omega)
  exact congrArg (fun z => headRow _ _ _ _ _ z _ _) e

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Main
public import proofs.«01_k».proof.Proof.Same
public import proofs.«01_k».proof.Proof.RefVal
public import proofs.«01_k».proof.Proof.Glue
public import Idealize.ShloMosaic.Adequacy
public import Idealize.ShloMosaic.Init

@[expose] public section

noncomputable section

namespace Cert.Proof

open Idealize.ShloMosaic Idealize.SL.Sem

/-- The kernel as printed, over the machine's own floats: it terminates, leaves its arguments alone and every counter at zero. -/
theorem frame_kernel : Cert.quiescent_Kernel := by
  intro m ρ _
  rw [defs_same]
  exact (θ_run (@Cert.KernelIdeal.defs Bits _ literal _) _ _).mono (fun _ h => ⟨fun c => (h.1 c).1, h.2⟩) (@run_main Bits _ literal m ρ)

/-- The same over the extended reals. -/
theorem frame_ideal : Cert.quiescent_KernelIdeal := fun m ρ _ =>
  (θ_run Cert.KernelIdeal.defs _ _).mono (fun _ h => ⟨fun c => (h.1 c).1, h.2⟩) (run_main (F := Ideal) m ρ)

/-- The reference, which declares no semaphore. -/
theorem frame_reference : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run (F := Ideal) m ρ)

/-- Over the extended reals the named literal is one over the root of 160. -/
theorem named_scale : Cert.preserves_Kernel_KernelIdeal :=
  IdealRules.named_const.statement Cert.KernelIdeal.κ "scale" .f32 0x3DA1E89B#32 (((Real.sqrt 160)⁻¹ : ℝ) : EReal) rfl

/-- The whole arguments, as the reference's device holds them. -/
def whole (m' : (l : Loc Cert.ReferenceIdeal.nD Cert.ReferenceIdeal.τ Cert.ReferenceIdeal.sig) → Buf (Elt Ideal) l) (r : Ref Cert.ReferenceIdeal.sig .tc) :
    Buf (Elt Ideal) (((0 : Dev Cert.ReferenceIdeal.nD).tc : Thread Cert.ReferenceIdeal.nD Cert.ReferenceIdeal.τ).loc r) :=
  m' (((0 : Dev Cert.ReferenceIdeal.nD).tc : Thread Cert.ReferenceIdeal.nD Cert.ReferenceIdeal.τ).loc r)
/-- They, as matrices. -/
def wholePar (m' : (l : Loc Cert.ReferenceIdeal.nD Cert.ReferenceIdeal.τ Cert.ReferenceIdeal.sig) → Buf (Elt Ideal) l) : Par :=
  Ref.par (whole m' Cert.ReferenceIdeal.main_arg0) (whole m' Cert.ReferenceIdeal.main_arg1) (whole m' Cert.ReferenceIdeal.main_arg2) (whole m' Cert.ReferenceIdeal.main_arg3)
    (whole m' Cert.ReferenceIdeal.main_arg4) (whole m' Cert.ReferenceIdeal.main_arg5) (whole m' Cert.ReferenceIdeal.main_arg6) (whole m' Cert.ReferenceIdeal.main_arg7)

/-- Over the extended reals every device ends with the reference's result, when the devices hold their blocks of the reference's arguments. -/
theorem same_result : Cert.algebraic_KernelIdeal_ReferenceIdeal := by
  intro m g m' g' _ hm
  have hX : Given (X0 m) (wholePar m') :=
    { x := fun c s d => congrFun (hm c).1 _
      wd := fun c d r => (congrFun (hm c).2.1 (ix2 d r)).trans (congrArg (whole m' Cert.ReferenceIdeal.main_arg1) (funext fun a => Fin.ext (by
        match a with
        | ⟨0, _⟩ => rfl
        | ⟨1, _⟩ => show c.val * 128 + r.val = 128 * c.val + r.val; omega)))
      wk := fun c r n => (congrFun (hm c).2.2.1 (ix2 r n)).trans (congrArg (whole m' Cert.ReferenceIdeal.main_arg2) (funext fun a => Fin.ext (by
        match a with
        | ⟨0, _⟩ => show c.val * 128 + r.val = 128 * c.val + r.val; omega
        | ⟨1, _⟩ => rfl)))
      wv := fun c r n => (congrFun (hm c).2.2.2.1 (ix2 r n)).trans (congrArg (whole m' Cert.ReferenceIdeal.main_arg3) (funext fun a => Fin.ext (by
        match a with
        | ⟨0, _⟩ => show c.val * 128 + r.val = 128 * c.val + r.val; omega
        | ⟨1, _⟩ => rfl)))
      wq := fun c d n => congrFun (hm c).2.2.2.2.1 _
      wqr := fun c d n => congrFun (hm c).2.2.2.2.2.1 _
      wkr := fun c d n => congrFun (hm c).2.2.2.2.2.2.1 _ }
  have hy : ∀ c, yOf (X1 m) c = Cert.ReferenceIdeal.Value.res_main_v30 m' 0 := fun c => by
    funext i
    have ei : i = ix3 (n0 := 1) (n1 := 1024) (n2 := 2048) 0 (i 1) (i 2) := funext fun a => by
      match a with
      | ⟨0, _⟩ => exact Subsingleton.elim (α := Fin 1) _ _
      | ⟨1, _⟩ => rfl
      | ⟨2, _⟩ => rfl
    rw [ei]
    refine (y_eq m hX (fun c j n => congrFun (hm c).2.2.2.2.2.2.2 _) c (i 1) (i 2)).trans ?_
    exact ((congrFun (Ref.res_eq m' 0) _).trans (Ref.all_at _ _ _ _ _ _ _ _ (i 1) (i 2))).symm
  refine ⟨Cert.ReferenceIdeal.Value.res_main_v30 m' 0, ?_, ?_⟩
  · exact (θ_run Cert.KernelIdeal.defs _ _).mono (fun _ h c => ⟨(h.1 c).2.trans (hy c), (h.1 c).1⟩) (run_main (F := Ideal) m g)
  · exact (θ_run Cert.ReferenceIdeal.defs _ _).mono (fun _ h => h 0) (Cert.ReferenceIdeal.Value.run (F := Ideal) m' g')

theorem claim : Cert.Claim := ⟨Cert.Kernel.Gen.facts, Cert.KernelIdeal.Gen.facts, Cert.ReferenceIdeal.Gen.facts,
  frame_kernel, frame_ideal, frame_reference, named_scale, same_result⟩

end Cert.Proof

end
